-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v72)) (v3 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_v77) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_v63) = v1 c
          ∧ r.2.mem ((c.tc : Thread Cert.Reference5Ideal.nD Cert.Reference5Ideal.τ).loc Cert.Reference5Ideal.main_v64) = v2 c
          ∧ r.2.mem ((c.tc : Thread Cert.Reference5Ideal.nD Cert.Reference5Ideal.τ).loc Cert.Reference5Ideal.main_v65) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v62) = v0 c
          ∧ r.2.mem ((c.tc : Thread Cert.Reference11Ideal.nD Cert.Reference11Ideal.τ).loc Cert.Reference11Ideal.main_v63) = v1 c
          ∧ r.2.mem ((c.tc : Thread Cert.Reference11Ideal.nD Cert.Reference11Ideal.τ).loc Cert.Reference11Ideal.main_v64) = v2 c
          ∧ r.2.mem ((c.tc : Thread Cert.Reference11Ideal.nD Cert.Reference11Ideal.τ).loc Cert.Reference11Ideal.main_v65) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v27) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite5 : Cert.Pre_finite5.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S16x8320x64 : Shape := ⟨3, ![16, 8320, 64]⟩
abbrev S16x8320 : Shape := ⟨2, ![16, 8320]⟩
abbrev S_ : Shape := ⟨0, ![]⟩

class Facts : Prop where
  bcast_S_S16x8320x64 : S_.BroadcastsInDim S16x8320x64 (![] : Fin 0 → Fin S16x8320x64.rank)
  bcast_S_S16x8320 : S_.BroadcastsInDim S16x8320 (![] : Fin 0 → Fin S16x8320.rank)

variable [Facts]

def fn {F : FTy → Type} [FloatOps F] (main_arg0 : FVec F S16x8320x64 .f32) (main_arg1 : FVec F S16x8320x64 .f32) (main_arg2 : FVec F S16x8320x64 .f32) (main_arg3 : FVec F S16x8320 .f32) (main_arg4 : FVec F S16x8320x64 .f32) : IVec S16x8320x64 1 × IVec S16x8320x64 1 × IVec S16x8320x64 1 × IVec S16x8320 1 × IVec S16x8320x64 1 :=
  let main_v0 : FVec F S16x8320x64 .f32 := Host.absf main_arg0
  let main_cst : FVec F S_ .f32 := constant S_ .f32 0x7F800000#32
  let main_v1 : FVec F S16x8320x64 .f32 := broadcastInDim S16x8320x64 ![] bcast_S_S16x8320x64 main_cst
  let main_v2 : IVec S16x8320x64 1 := cmpf .olt main_v0 main_v1
  let main_v3 : FVec F S16x8320x64 .f32 := Host.absf main_arg1
  let main_cst_0 : FVec F S_ .f32 := constant S_ .f32 0x7F800000#32
  let main_v4 : FVec F S16x8320x64 .f32 := broadcastInDim S16x8320x64 ![] bcast_S_S16x8320x64 main_cst_0
  let main_v5 : IVec S16x8320x64 1 := cmpf .olt main_v3 main_v4
  let main_v6 : FVec F S16x8320x64 .f32 := Host.absf main_arg2
  let main_cst_1 : FVec F S_ .f32 := constant S_ .f32 0x7F800000#32
  let main_v7 : FVec F S16x8320x64 .f32 := broadcastInDim S16x8320x64 ![] bcast_S_S16x8320x64 main_cst_1
  let main_v8 : IVec S16x8320x64 1 := cmpf .olt main_v6 main_v7
  let main_v9 : FVec F S16x8320 .f32 := Host.absf main_arg3
  let main_cst_2 : FVec F S_ .f32 := constant S_ .f32 0x7F800000#32
  let main_v10 : FVec F S16x8320 .f32 := broadcastInDim S16x8320 ![] bcast_S_S16x8320 main_cst_2
  let main_v11 : IVec S16x8320 1 := cmpf .olt main_v9 main_v10
  let main_v12 : FVec F S16x8320x64 .f32 := Host.absf main_arg4
  let main_cst_3 : FVec F S_ .f32 := constant S_ .f32 0x7F800000#32
  let main_v13 : FVec F S16x8320x64 .f32 := broadcastInDim S16x8320x64 ![] bcast_S_S16x8320x64 main_cst_3
  let main_v14 : IVec S16x8320x64 1 := cmpf .olt main_v12 main_v13
  (main_v2, main_v5, main_v8, main_v11, main_v14)
-- ==== Pre_finite11.lean ====
abbrev S8320x1024 : Shape := ⟨2, ![8320, 1024]⟩
abbrev S1024 : Shape := ⟨1, ![1024]⟩
abbrev S1024x3200 : Shape := ⟨2, ![1024, 3200]⟩
abbrev S8320x3200 : Shape := ⟨2, ![8320, 3200]⟩
abbrev S_ : Shape := ⟨0, ![]⟩

class Facts : Prop where
  bcast_S_S8320x1024 : S_.BroadcastsInDim S8320x1024 (![] : Fin 0 → Fin S8320x1024.rank)
  bcast_S_S1024 : S_.BroadcastsInDim S1024 (![] : Fin 0 → Fin S1024.rank)
  bcast_S_S1024x3200 : S_.BroadcastsInDim S1024x3200 (![] : Fin 0 → Fin S1024x3200.rank)
  bcast_S_S8320x3200 : S_.BroadcastsInDim S8320x3200 (![] : Fin 0 → Fin S8320x3200.rank)

variable [Facts]

def fn {F : FTy → Type} [FloatOps F] (main_arg0 : FVec F S8320x1024 .f32) (main_arg1 : FVec F S1024 .f32) (main_arg2 : FVec F S1024 .f32) (main_arg3 : FVec F S1024x3200 .f32) (main_arg4 : FVec F S8320x1024 .f32) (main_arg5 : FVec F S8320x3200 .f32) : IVec S8320x1024 1 × IVec S1024 1 × IVec S1024x3200 1 × IVec S8320x1024 1 × IVec S8320x3200 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3200 .f32 := Host.absf main_arg3
  let main_cst_1 : FVec F S_ .f32 := constant S_ .f32 0x7F800000#32
  let main_v7 : FVec F S1024x3200 .f32 := broadcastInDim S1024x3200 ![] bcast_S_S1024x3200 main_cst_1
  let main_v8 : IVec S1024x3200 1 := cmpf .olt main_v6 main_v7
  let main_v9 : FVec F S8320x1024 .f32 := Host.absf main_arg4
  let main_cst_2 : FVec F S_ .f32 := constant S_ .f32 0x7F800000#32
  let main_v10 : FVec F S8320x1024 .f32 := broadcastInDim S8320x1024 ![] bcast_S_S8320x1024 main_cst_2
  let main_v11 : IVec S8320x1024 1 := cmpf .olt main_v9 main_v10
  let main_v12 : FVec F S8320x3200 .f32 := Host.absf main_arg5
  let main_cst_3 : FVec F S_ .f32 := constant S_ .f32 0x7F800000#32
  let main_v13 : FVec F S8320x3200 .f32 := broadcastInDim S8320x3200 ![] bcast_S_S8320x3200 main_cst_3
  let main_v14 : IVec S8320x3200 1 := cmpf .olt main_v12 main_v13
  (main_v2, main_v5, main_v8, main_v11, main_v14)
-- ==== Pre_finite5.lean ====
abbrev S8320x1024 : Shape := ⟨2, ![8320, 1024]⟩
abbrev S1024 : Shape := ⟨1, ![1024]⟩
abbrev S1024x5632 : Shape := ⟨2, ![1024, 5632]⟩
abbrev S8320x5632 : Shape := ⟨2, ![8320, 5632]⟩
abbrev S_ : Shape := ⟨0, ![]⟩

class Facts : Prop where
  bcast_S_S8320x1024 : S_.BroadcastsInDim S8320x1024 (![] : Fin 0 → Fin S8320x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S8320x5632 : S_.BroadcastsInDim S8320x5632 (![] : Fin 0 → Fin S8320x5632.rank)

variable [Facts]

def fn {F : FTy → Type} [FloatOps F] (main_arg0 : FVec F S8320x1024 .f32) (main_arg1 : FVec F S1024 .f32) (main_arg2 : FVec F S1024 .f32) (main_arg3 : FVec F S1024x5632 .f32) (main_arg4 : FVec F S8320x1024 .f32) (main_arg5 : FVec F S8320x5632 .f32) : IVec S8320x1024 1 × IVec S1024 1 × IVec S1024x5632 1 × IVec S8320x1024 1 × IVec S8320x5632 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg3
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S8320x1024 .f32 := Host.absf main_arg4
  let main_cst_2 : FVec F S_ .f32 := constant S_ .f32 0x7F800000#32
  let main_v10 : FVec F S8320x1024 .f32 := broadcastInDim S8320x1024 ![] bcast_S_S8320x1024 main_cst_2
  let main_v11 : IVec S8320x1024 1 := cmpf .olt main_v9 main_v10
  let main_v12 : FVec F S8320x5632 .f32 := Host.absf main_arg5
  let main_cst_3 : FVec F S_ .f32 := constant S_ .f32 0x7F800000#32
  let main_v13 : FVec F S8320x5632 .f32 := broadcastInDim S8320x5632 ![] bcast_S_S8320x5632 main_cst_3
  let main_v14 : IVec S8320x5632 1 := cmpf .olt main_v12 main_v13
  (main_v2, main_v5, main_v8, main_v11, main_v14)
-- ==== Kernel.lean ====
abbrev S16x8320x64 : Shape := ⟨3, ![16, 8320, 64]⟩
abbrev S16x8320 : Shape := ⟨2, ![16, 8320]⟩
abbrev S16x8320x8320 : Shape := ⟨3, ![16, 8320, 8320]⟩
abbrev S_ : Shape := ⟨0, ![]⟩
abbrev S16x8320x1 : Shape := ⟨3, ![16, 8320, 1]⟩
abbrev S16x1x8320 : Shape := ⟨3, ![16, 1, 8320]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S16x64x8320 : Shape := ⟨3, ![16, 64, 8320]⟩
abbrev S16x8320x3 : Shape := ⟨3, ![16, 8320, 3]⟩
abbrev S16x8320x61 : Shape := ⟨3, ![16, 8320, 61]⟩
abbrev S16x8320x58 : Shape := ⟨3, ![16, 8320, 58]⟩
abbrev S16x8320x128 : Shape := ⟨3, ![16, 8320, 128]⟩
abbrev S16x13x640x64 : Shape := ⟨4, ![16, 13, 640, 64]⟩
abbrev S16x13x64x640 : Shape := ⟨4, ![16, 13, 64, 640]⟩
abbrev S16x13x1x640 : Shape := ⟨4, ![16, 13, 1, 640]⟩
abbrev S16x13x15x640 : Shape := ⟨4, ![16, 13, 15, 640]⟩
abbrev S16x13x80x640 : Shape := ⟨4, ![16, 13, 80, 640]⟩
abbrev S1x64x640 : Shape := ⟨3, ![1, 64, 640]⟩
abbrev S1x1x640 : Shape := ⟨3, ![1, 1, 640]⟩
abbrev S1x8320x128 : Shape := ⟨3, ![1, 8320, 128]⟩
abbrev S1x13x80x640 : Shape := ⟨4, ![1, 13, 80, 640]⟩
abbrev S1x13x64x640 : Shape := ⟨4, ![1, 13, 64, 640]⟩
abbrev S64x640 : Shape := ⟨2, ![64, 640]⟩
abbrev S640 : Shape := ⟨1, ![640]⟩
abbrev S1x640 : Shape := ⟨2, ![1, 640]⟩
abbrev S3x640 : Shape := ⟨2, ![3, 640]⟩
abbrev S10x640 : Shape := ⟨2, ![10, 640]⟩
abbrev S16x640 : Shape := ⟨2, ![16, 640]⟩
abbrev S48x640 : Shape := ⟨2, ![48, 640]⟩
abbrev S128x640 : Shape := ⟨2, ![128, 640]⟩
abbrev S13x640 : Shape := ⟨2, ![13, 640]⟩
abbrev S15x640 : Shape := ⟨2, ![15, 640]⟩
abbrev S80x640 : Shape := ⟨2, ![80, 640]⟩
abbrev S1x640x128 : Shape := ⟨3, ![1, 640, 128]⟩
abbrev S640x128 : Shape := ⟨2, ![640, 128]⟩
abbrev S640x640 : Shape := ⟨2, ![640, 640]⟩
abbrev S1x1x64x640 : Shape := ⟨4, ![1, 1, 64, 640]⟩
abbrev S1x1x80x640 : Shape := ⟨4, ![1, 1, 80, 640]⟩
abbrev S16x13x640 : Shape := ⟨3, ![16, 13, 640]⟩

abbrev nBuf : Space → Nat
  | .hbm => 97
  | .vmem => 24
  | .smem => 0
  | _ => 0

abbrev bufTy : (tb : Table) → Fin (tcTables nBuf tb) → BufTy
  | .hbm, ⟨0, _⟩ => ⟨S16x8320x64, .f32⟩
  | .hbm, ⟨1, _⟩ => ⟨S16x8320x64, .f32⟩
  | .hbm, ⟨2, _⟩ => ⟨S16x8320x64, .f32⟩
  | .hbm, ⟨3, _⟩ => ⟨S16x8320, .f32⟩
  | .hbm, ⟨4, _⟩ => ⟨S16x8320x64, .f32⟩
  | .hbm, ⟨5, _⟩ => ⟨S16x8320x8320, .f32⟩
  | .hbm, ⟨6, _⟩ => ⟨S_, .f32⟩
  | .hbm, ⟨7, _⟩ => ⟨S16x8320x8320, .f32⟩
  | .hbm, ⟨8, _⟩ => ⟨S16x8320x8320, .f32⟩
  | .hbm, ⟨9, _⟩ => ⟨S16x8320x1, .f32⟩
  | .hbm, ⟨10, _⟩ => ⟨S16x8320x8320, .f32⟩
  | .hbm, ⟨11, _⟩ => ⟨S16x8320x8320, .f32⟩
  | .hbm, ⟨12, _⟩ => ⟨S16x1x8320, .f32⟩
  | .hbm, ⟨13, _⟩ => ⟨S16x8320x8320, .f32⟩
  | .hbm, ⟨14, _⟩ => ⟨S16x8320x8320, .f32⟩
  | .hbm, ⟨15, _⟩ => ⟨S8320, .i32⟩
  | .hbm, ⟨16, _⟩ => ⟨S1x8320, .i32⟩
  | .hbm, ⟨17, _⟩ => ⟨S8320x1, .i32⟩
  | .hbm, ⟨18, _⟩ => ⟨S8320x8320, .i32⟩
  | .hbm, ⟨19, _⟩ => ⟨S8320x8320, .i32⟩
  | .hbm, ⟨20, _⟩ => ⟨S8320x8320, .i1⟩
  | .hbm, ⟨21, _⟩ => ⟨S_, .f32⟩
  | .hbm, ⟨22, _⟩ => ⟨S_, .f32⟩
  | .hbm, ⟨23, _⟩ => ⟨S16x8320x8320, .i1⟩
  | .hbm, ⟨24, _⟩ => ⟨S16x8320x8320, .f32⟩
  | .hbm, ⟨25, _⟩ => ⟨S16x8320x8320, .f32⟩
  | .hbm, ⟨26, _⟩ => ⟨S_, .f32⟩
  | .hbm, ⟨27, _⟩ => ⟨S16x8320, .f32⟩
  | .hbm, ⟨28, _⟩ => ⟨S16x8320x1, .f32⟩
  | .hbm, ⟨29, _⟩ => ⟨S16x8320x8320, .f32⟩
  | .hbm, ⟨30, _⟩ => ⟨S16x8320x8320, .f32⟩
  | .hbm, ⟨31, _⟩ => ⟨S16x8320x8320, .f32⟩
  | .hbm, ⟨32, _⟩ => ⟨S_, .f32⟩
  | .hbm, ⟨33, _⟩ => ⟨S16x8320, .f32⟩
  | .hbm, ⟨34, _⟩ => ⟨S16x8320x1, .f32⟩
  | .hbm, ⟨35, _⟩ => ⟨S16x8320x8320, .f32⟩
  | .hbm, ⟨36, _⟩ => ⟨S16x8320x8320, .f32⟩
  | .hbm, ⟨37, _⟩ => ⟨S16x8320x64, .f32⟩
  | .hbm, ⟨38, _⟩ => ⟨S16x8320x1, .f32⟩
  | .hbm, ⟨39, _⟩ => ⟨S16x8320x1, .f32⟩
  | .hbm, ⟨40, _⟩ => ⟨S16x8320, .f32⟩
  | .hbm, ⟨41, _⟩ => ⟨S16x1x8320, .f32⟩
  | .hbm, ⟨42, _⟩ => ⟨S16x64x8320, .f32⟩
  | .hbm, ⟨43, _⟩ => ⟨S16x64x8320, .bf16⟩
  | .hbm, ⟨44, _⟩ => ⟨S16x64x8320, .f32⟩
  | .hbm, ⟨45, _⟩ => ⟨S16x64x8320, .bf16⟩
  | .hbm, ⟨46, _⟩ => ⟨S16x64x8320, .f32⟩
  | .hbm, ⟨47, _⟩ => ⟨S16x64x8320, .bf16⟩
  | .hbm, ⟨48, _⟩ => ⟨S_, .f32⟩
  | .hbm, ⟨49, _⟩ => ⟨S16x8320x3, .f32⟩
  | .hbm, ⟨50, _⟩ => ⟨S_, .f32⟩
  | .hbm, ⟨51, _⟩ => ⟨S16x8320x61, .f32⟩
  | .hbm, ⟨52, _⟩ => ⟨S16x8320, .f32⟩
  | .hbm, ⟨53, _⟩ => ⟨S16x8320, .bf16⟩
  | .hbm, ⟨54, _⟩ => ⟨S16x8320, .f32⟩
  | .hbm, ⟨55, _⟩ => ⟨S16x8320, .f32⟩
  | .hbm, ⟨56, _⟩ => ⟨S16x8320, .bf16⟩
  | .hbm, ⟨57, _⟩ => ⟨S16x8320, .f32⟩
  | .hbm, ⟨58, _⟩ => ⟨S16x8320, .f32⟩
  | .hbm, ⟨59, _⟩ => ⟨S16x8320, .bf16⟩
  | .hbm, ⟨60, _⟩ => ⟨S16x8320, .f32⟩
  | .hbm, ⟨61, _⟩ => ⟨S16x8320, .f32⟩
  | .hbm, ⟨62, _⟩ => ⟨S16x8320, .f32⟩
  | .hbm, ⟨63, _⟩ => ⟨S16x8320x1, .f32⟩
  | .hbm, ⟨64, _⟩ => ⟨S16x8320x1, .f32⟩
  | .hbm, ⟨65, _⟩ => ⟨S16x8320x1, .f32⟩
  | .hbm, ⟨66, _⟩ => ⟨S16x8320x3, .f32⟩
  | .hbm, ⟨67, _⟩ => ⟨S16x8320x58, .f32⟩
  | .hbm, ⟨68, _⟩ => ⟨S16x8320x128, .f32⟩
  | .hbm, ⟨69, _⟩ => ⟨S16x8320x128, .bf16⟩
  | .hbm, ⟨70, _⟩ => ⟨S16x8320x128, .f32⟩
  | .hbm, ⟨71, _⟩ => ⟨S16x8320x128, .bf16⟩
  | .hbm, ⟨72, _⟩ => ⟨S16x13x640x64, .f32⟩
  | .hbm, ⟨73, _⟩ => ⟨S16x13x64x640, .f32⟩
  | .hbm, ⟨74, _⟩ => ⟨S_, .f32⟩
  | .hbm, ⟨75, _⟩ => ⟨S16x13x1x640, .f32⟩
  | .hbm, ⟨76, _⟩ => ⟨S_, .f32⟩
  | .hbm, ⟨77, _⟩ => ⟨S16x13x15x640, .f32⟩
  | .hbm, ⟨78, _⟩ => ⟨S16x13x80x640, .f32⟩
  | .hbm, ⟨79, _⟩ => ⟨S16x13x80x640, .bf16⟩
  | .hbm, ⟨80, _⟩ => ⟨S16x1x8320, .f32⟩
  | .hbm, ⟨81, _⟩ => ⟨S16x64x8320, .bf16⟩
  | .hbm, ⟨82, _⟩ => ⟨S16x1x8320, .f32⟩
  | .hbm, ⟨83, _⟩ => ⟨S16x13x80x640, .f32⟩
  | .hbm, ⟨84, _⟩ => ⟨S16x13x64x640, .f32⟩
  | .hbm, ⟨85, _⟩ => ⟨S16x8320x64, .bf16⟩
  | .hbm, ⟨86, _⟩ => ⟨S16x8320x64, .f32⟩
  | .hbm, ⟨87, _⟩ => ⟨S16x13x64x640, .f32⟩
  | .hbm, ⟨88, _⟩ => ⟨S16x13x640x64, .f32⟩
  | .hbm, ⟨89, _⟩ => ⟨S16x8320x64, .f32⟩
  | .hbm, ⟨90, _⟩ => ⟨S16x13x640x64, .f32⟩
  | .hbm, ⟨91, _⟩ => ⟨S16x8320x64, .f32⟩
  | .hbm, ⟨92, _⟩ => ⟨S16x8320, .f32⟩
  | .hbm, ⟨93, _⟩ => ⟨S16x13x1x640, .f32⟩
  | .hbm, ⟨94, _⟩ => ⟨S16x13x640, .f32⟩
  | .hbm, ⟨95, _⟩ => ⟨S16x8320, .f32⟩
  | .hbm, ⟨96, _⟩ => ⟨S16x8320, .f32⟩
  | .local _ .vmem, ⟨0, _⟩ => ⟨S1x64x640, .bf16⟩
  | .local _ .vmem, ⟨1, _⟩ => ⟨S1x64x640, .bf16⟩
  | .local _ .vmem, ⟨2, _⟩ => ⟨S1x64x640, .bf16⟩
  | .local _ .vmem, ⟨3, _⟩ => ⟨S1x64x640, .bf16⟩
  | .local _ .vmem, ⟨4, _⟩ => ⟨S1x64x640, .bf16⟩
  | .local _ .vmem, ⟨5, _⟩ => ⟨S1x64x640, .bf16⟩
  | .local _ .vmem, ⟨6, _⟩ => ⟨S1x1x640, .f32⟩
  | .local _ .vmem, ⟨7, _⟩ => ⟨S1x1x640, .f32⟩
  | .local _ .vmem, ⟨8, _⟩ => ⟨S1x1x640, .f32⟩
  | .local _ .vmem, ⟨9, _⟩ => ⟨S1x1x640, .f32⟩
  | .local _ .vmem, ⟨10, _⟩ => ⟨S1x8320x128, .bf16⟩
  | .local _ .vmem, ⟨11, _⟩ => ⟨S1x8320x128, .bf16⟩
  | .local _ .vmem, ⟨12, _⟩ => ⟨S1x8320x128, .bf16⟩
  | .local _ .vmem, ⟨13, _⟩ => ⟨S1x8320x128, .bf16⟩
  | .local _ .vmem, ⟨14, _⟩ => ⟨S1x13x80x640, .bf16⟩
  | .local _ .vmem, ⟨15, _⟩ => ⟨S1x13x80x640, .bf16⟩
  | .local _ .vmem, ⟨16, _⟩ => ⟨S1x64x640, .bf16⟩
  | .local _ .vmem, ⟨17, _⟩ => ⟨S1x64x640, .bf16⟩
  | .local _ .vmem, ⟨18, _⟩ => ⟨S1x1x640, .f32⟩
  | .local _ .vmem, ⟨19, _⟩ => ⟨S1x1x640, .f32⟩
  | .local _ .vmem, ⟨20, _⟩ => ⟨S1x13x80x640, .f32⟩
  | .local _ .vmem, ⟨21, _⟩ => ⟨S1x13x80x640, .f32⟩
  | .local _ .vmem, ⟨22, _⟩ => ⟨S1x13x64x640, .f32⟩
  | .local _ .vmem, ⟨23, _⟩ => ⟨S1x13x64x640, .f32⟩
  | _, _ => ⟨S16x8320x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65_0 : Ref sig .tc := ⟨.hbm, 81, rfl⟩
abbrev main_v65_1 : Ref sig .tc := ⟨.hbm, 82, rfl⟩
abbrev main_v65_2 : Ref sig .tc := ⟨.hbm, 83, rfl⟩
abbrev main_v65_3 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 13], ![false, false]⟩

@[reducible] def k0_t1_loop (i : grid0.Coords) : Scf.Loop 32 :=
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_31 : BitVec 32 := 1#32
  ⟨c0_i32_29, v72, c1_i32_31⟩
def k0_mult1 (i : grid0.Coords) (k0_t1 : Fin (k0_t1_loop i).trips) : BitVec 32 :=
  let c4_i32_76 : BitVec 32 := 4#32
  let c0_i32_29 : BitVec 32 := 0#32
  let c1_i32_31 : BitVec 32 := 1#32
  let arg14 : BitVec 32 := Scf.iv c0_i32_29 c1_i32_31 k0_t1
  let v153 : BitVec 32 := Scalar.muli c4_i32_76 arg14
  let c0_i32_77 : BitVec 32 := 0#32
  let v154 : BitVec 32 := Scalar.addi v153 c0_i32_77
  let c640_i32_78 : BitVec 32 := 640#32
  let v155 : BitVec 32 := Scalar.muli v154 c640_i32_78
  v155
def k0_off1 (i : grid0.Coords) (k0_t1 : Fin (k0_t1_loop i).trips) (c0_i32_77 : BitVec 32) : Fin 3 → Nat :=
  let c0_79 : Index := 0#32
  let c4_i32_76 : BitVec 32 := 4#32
  let c0_i32_29 : BitVec 32 := 0#32
  let c1_i32_31 : BitVec 32 := 1#32
  let arg14 : BitVec 32 := Scf.iv c0_i32_29 c1_i32_31 k0_t1
  let v153 : BitVec 32 := Scalar.muli c4_i32_76 arg14
  let v154 : BitVec 32 := Scalar.addi v153 c0_i32_77
  let c640_i32_78 : BitVec 32 := 640#32
  let v155 : BitVec 32 := Scalar.muli v154 c640_i32_78
  let v156 : BitVec 32 := v155
  let v157 : Index := Scalar.indexCast v156
  let c0_80 : Index := 0#32
  ![0, v157.toNat, 0]
def k0_off2 (i : grid0.Coords) (k0_t1 : Fin (k0_t1_loop i).trips) (c0_i32_77 : BitVec 32) : Fin 4 → Nat :=
  let c0_85 : Index := 0#32
  let c4_i32_76 : BitVec 32 := 4#32
  let c0_i32_29 : BitVec 32 := 0#32
  let c1_i32_31 : BitVec 32 := 1#32
  let arg14 : BitVec 32 := Scf.iv c0_i32_29 c1_i32_31 k0_t1
  let v153 : BitVec 32 := Scalar.muli c4_i32_76 arg14
  let v154 : BitVec 32 := Scalar.addi v153 c0_i32_77
  let v168 : Index := Scalar.indexCast v154
  let c0_86 : Index := 0#32
  let c0_87 : Index := 0#32
  ![0, v168.toNat, 0, 0]
def k0_off3 (i : grid0.Coords) (k0_t1 : Fin (k0_t1_loop i).trips) (c0_i32_77 : BitVec 32) : Fin 4 → Nat :=
  let c0_92 : Index := 0#32
  let c4_i32_76 : BitVec 32 := 4#32
  let c0_i32_29 : BitVec 32 := 0#32
  let c1_i32_31 : BitVec 32 := 1#32
  let arg14 : BitVec 32 := Scf.iv c0_i32_29 c1_i32_31 k0_t1
  let v153 : BitVec 32 := Scalar.muli c4_i32_76 arg14
  let v154 : BitVec 32 := Scalar.addi v153 c0_i32_77
  let v178 : Index := Scalar.indexCast v154
  let c0_93 : Index := 0#32
  let c0_94 : Index := 0#32
  ![0, v178.toNat, 0, 0]
def k0_mult2 (i : grid0.Coords) (k0_t1 : Fin (k0_t1_loop i).trips) : BitVec 32 :=
  let c4_i32_103 : BitVec 32 := 4#32
  let c0_i32_29 : BitVec 32 := 0#32
  let c1_i32_31 : BitVec 32 := 1#32
  let arg14 : BitVec 32 := Scf.iv c0_i32_29 c1_i32_31 k0_t1
  let v192 : BitVec 32 := Scalar.muli c4_i32_103 arg14
  let c1_i32_104 : BitVec 32 := 1#32
  let v193 : BitVec 32 := Scalar.addi v192 c1_i32_104
  let c640_i32_105 : BitVec 32 := 640#32
  let v194 : BitVec 32 := Scalar.muli v193 c640_i32_105
  v194
def k0_mult3 (i : grid0.Coords) (k0_t1 : Fin (k0_t1_loop i).trips) : BitVec 32 :=
  let c4_i32_130 : BitVec 32 := 4#32
  let c0_i32_29 : BitVec 32 := 0#32
  let c1_i32_31 : BitVec 32 := 1#32
  let arg14 : BitVec 32 := Scf.iv c0_i32_29 c1_i32_31 k0_t1
  let v231 : BitVec 32 := Scalar.muli c4_i32_130 arg14
  let c2_i32 : BitVec 32 := 2#32
  let v232 : BitVec 32 := Scalar.addi v231 c2_i32
  let c640_i32_131 : BitVec 32 := 640#32
  let v233 : BitVec 32 := Scalar.muli v232 c640_i32_131
  v233
def k0_mult4 (i : grid0.Coords) (k0_t1 : Fin (k0_t1_loop i).trips) : BitVec 32 :=
  let c4_i32_156 : BitVec 32 := 4#32
  let c0_i32_29 : BitVec 32 := 0#32
  let c1_i32_31 : BitVec 32 := 1#32
  let arg14 : BitVec 32 := Scf.iv c0_i32_29 c1_i32_31 k0_t1
  let v270 : BitVec 32 := Scalar.muli c4_i32_156 arg14
  let c3_i32 : BitVec 32 := 3#32
  let v271 : BitVec 32 := Scalar.addi v270 c3_i32
  let c640_i32_157 : BitVec 32 := 640#32
  let v272 : BitVec 32 := Scalar.muli v271 c640_i32_157
  v272
@[reducible] def k0_t2_loop (i : grid0.Coords) : Scf.Loop 32 :=
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let v69 : BitVec 32 := Scalar.addi c0_i32_29 v68
  let c1_i32_32 : BitVec 32 := 1#32
  ⟨v72, v69, c1_i32_32⟩
def k0_mult5 (i : grid0.Coords) (k0_t2 : Fin (k0_t2_loop i).trips) : BitVec 32 :=
  let c4_i32_76 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v153 : BitVec 32 := Scalar.muli c4_i32_76 arg14
  let c0_i32_77 : BitVec 32 := 0#32
  let v154 : BitVec 32 := Scalar.addi v153 c0_i32_77
  let c640_i32_78 : BitVec 32 := 640#32
  let v155 : BitVec 32 := Scalar.muli v154 c640_i32_78
  v155
def k0_off4 (i : grid0.Coords) (k0_t2 : Fin (k0_t2_loop i).trips) (c0_i32_77 : BitVec 32) : Fin 3 → Nat :=
  let c0_79 : Index := 0#32
  let c4_i32_76 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v153 : BitVec 32 := Scalar.muli c4_i32_76 arg14
  let v154 : BitVec 32 := Scalar.addi v153 c0_i32_77
  let c640_i32_78 : BitVec 32 := 640#32
  let v155 : BitVec 32 := Scalar.muli v154 c640_i32_78
  let v156 : BitVec 32 := v155
  let v157 : Index := Scalar.indexCast v156
  let c0_80 : Index := 0#32
  ![0, v157.toNat, 0]
def k0_off5 (i : grid0.Coords) (k0_t2 : Fin (k0_t2_loop i).trips) (c0_i32_77 : BitVec 32) : Fin 4 → Nat :=
  let c0_85 : Index := 0#32
  let c4_i32_76 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v153 : BitVec 32 := Scalar.muli c4_i32_76 arg14
  let v154 : BitVec 32 := Scalar.addi v153 c0_i32_77
  let v168 : Index := Scalar.indexCast v154
  let c0_86 : Index := 0#32
  let c0_87 : Index := 0#32
  ![0, v168.toNat, 0, 0]
def k0_off6 (i : grid0.Coords) (k0_t2 : Fin (k0_t2_loop i).trips) (c0_i32_77 : BitVec 32) : Fin 4 → Nat :=
  let c0_92 : Index := 0#32
  let c4_i32_76 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v153 : BitVec 32 := Scalar.muli c4_i32_76 arg14
  let v154 : BitVec 32 := Scalar.addi v153 c0_i32_77
  let v178 : Index := Scalar.indexCast v154
  let c0_93 : Index := 0#32
  let c0_94 : Index := 0#32
  ![0, v178.toNat, 0, 0]
def k0_mult6 (i : grid0.Coords) (k0_t2 : Fin (k0_t2_loop i).trips) : BitVec 32 :=
  let c4_i32_103 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v192 : BitVec 32 := Scalar.muli c4_i32_103 arg14
  let c1_i32_104 : BitVec 32 := 1#32
  let v193 : BitVec 32 := Scalar.addi v192 c1_i32_104
  let c640_i32_105 : BitVec 32 := 640#32
  let v194 : BitVec 32 := Scalar.muli v193 c640_i32_105
  v194
def k0_mult7 (i : grid0.Coords) (k0_t2 : Fin (k0_t2_loop i).trips) : BitVec 32 :=
  let c4_i32_130 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v231 : BitVec 32 := Scalar.muli c4_i32_130 arg14
  let c2_i32 : BitVec 32 := 2#32
  let v232 : BitVec 32 := Scalar.addi v231 c2_i32
  let c640_i32_131 : BitVec 32 := 640#32
  let v233 : BitVec 32 := Scalar.muli v232 c640_i32_131
  v233
def k0_mult8 (i : grid0.Coords) (k0_t2 : Fin (k0_t2_loop i).trips) : BitVec 32 :=
  let c4_i32_156 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v270 : BitVec 32 := Scalar.muli c4_i32_156 arg14
  let c3_i32 : BitVec 32 := 3#32
  let v271 : BitVec 32 := Scalar.addi v270 c3_i32
  let c640_i32_157 : BitVec 32 := 640#32
  let v272 : BitVec 32 := Scalar.muli v271 c640_i32_157
  v272
@[reducible] def k0_t3_loop (i : grid0.Coords) : Scf.Loop 32 :=
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_42 : BitVec 32 := 1#32
  ⟨v92, v97, c1_i32_42⟩
def k0_mult9 (i : grid0.Coords) (k0_t3 : Fin (k0_t3_loop i).trips) : BitVec 32 :=
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let c1_i32_42 : BitVec 32 := 1#32
  let arg14 : BitVec 32 := Scf.iv v92 c1_i32_42 k0_t3
  let c640_i32_76 : BitVec 32 := 640#32
  let v153 : BitVec 32 := Scalar.muli arg14 c640_i32_76
  v153
def k0_off7 (i : grid0.Coords) (k0_t3 : Fin (k0_t3_loop i).trips) : Fin 3 → Nat :=
  let c0_77 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let c1_i32_42 : BitVec 32 := 1#32
  let arg14 : BitVec 32 := Scf.iv v92 c1_i32_42 k0_t3
  let c640_i32_76 : BitVec 32 := 640#32
  let v153 : BitVec 32 := Scalar.muli arg14 c640_i32_76
  let v154 : BitVec 32 := v153
  let v155 : Index := Scalar.indexCast v154
  let c0_78 : Index := 0#32
  ![0, v155.toNat, 0]
def k0_off8 (i : grid0.Coords) (k0_t3 : Fin (k0_t3_loop i).trips) : Fin 4 → Nat :=
  let c0_83 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let c1_i32_42 : BitVec 32 := 1#32
  let arg14 : BitVec 32 := Scf.iv v92 c1_i32_42 k0_t3
  let v166 : Index := Scalar.indexCast arg14
  let c0_84 : Index := 0#32
  let c0_85 : Index := 0#32
  ![0, v166.toNat, 0, 0]
def k0_off9 (i : grid0.Coords) (k0_t3 : Fin (k0_t3_loop i).trips) : Fin 4 → Nat :=
  let c0_90 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let c1_i32_42 : BitVec 32 := 1#32
  let arg14 : BitVec 32 := Scf.iv v92 c1_i32_42 k0_t3
  let v176 : Index := Scalar.indexCast arg14
  let c0_91 : Index := 0#32
  let c0_92 : Index := 0#32
  ![0, v176.toNat, 0, 0]
@[reducible] def k0_t4_loop (i : grid0.Coords) : Scf.Loop 32 :=
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let v94 : BitVec 32 := Scalar.addi v92 v93
  let c1_i32_43 : BitVec 32 := 1#32
  ⟨v97, v94, c1_i32_43⟩
def k0_mult10 (i : grid0.Coords) (k0_t4 : Fin (k0_t4_loop i).trips) : BitVec 32 :=
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_43 : BitVec 32 := 1#32
  let arg14 : BitVec 32 := Scf.iv v97 c1_i32_43 k0_t4
  let c640_i32_76 : BitVec 32 := 640#32
  let v153 : BitVec 32 := Scalar.muli arg14 c640_i32_76
  v153
def k0_off10 (i : grid0.Coords) (k0_t4 : Fin (k0_t4_loop i).trips) : Fin 3 → Nat :=
  let c0_77 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_43 : BitVec 32 := 1#32
  let arg14 : BitVec 32 := Scf.iv v97 c1_i32_43 k0_t4
  let c640_i32_76 : BitVec 32 := 640#32
  let v153 : BitVec 32 := Scalar.muli arg14 c640_i32_76
  let v154 : BitVec 32 := v153
  let v155 : Index := Scalar.indexCast v154
  let c0_78 : Index := 0#32
  ![0, v155.toNat, 0]
def k0_off11 (i : grid0.Coords) (k0_t4 : Fin (k0_t4_loop i).trips) : Fin 4 → Nat :=
  let c0_83 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_43 : BitVec 32 := 1#32
  let arg14 : BitVec 32 := Scf.iv v97 c1_i32_43 k0_t4
  let v166 : Index := Scalar.indexCast arg14
  let c0_84 : Index := 0#32
  let c0_85 : Index := 0#32
  ![0, v166.toNat, 0, 0]
def k0_off12 (i : grid0.Coords) (k0_t4 : Fin (k0_t4_loop i).trips) : Fin 4 → Nat :=
  let c0_90 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_43 : BitVec 32 := 1#32
  let arg14 : BitVec 32 := Scf.iv v97 c1_i32_43 k0_t4
  let v176 : Index := Scalar.indexCast arg14
  let c0_91 : Index := 0#32
  let c0_92 : Index := 0#32
  ![0, v176.toNat, 0, 0]
def k0_mult11 (i : grid0.Coords) : BitVec 32 :=
  let arg1 : BitVec 32 := BitVec.ofNat 32 (i 1).val
  let c640_i32 : BitVec 32 := 640#32
  let v100 : BitVec 32 := Scalar.muli arg1 c640_i32
  v100
def k0_off13 (i : grid0.Coords) : Fin 3 → Nat :=
  let c0_44 : Index := 0#32
  let arg1 : BitVec 32 := BitVec.ofNat 32 (i 1).val
  let c640_i32 : BitVec 32 := 640#32
  let v100 : BitVec 32 := Scalar.muli arg1 c640_i32
  let v101 : BitVec 32 := v100
  let v102 : Index := Scalar.indexCast v101
  let c0_45 : Index := 0#32
  ![0, v102.toNat, 0]
def k0_off14 (i : grid0.Coords) : Fin 4 → Nat :=
  let c0_51 : Index := 0#32
  let arg1 : BitVec 32 := BitVec.ofNat 32 (i 1).val
  let v118 : Index := Scalar.indexCast arg1
  let c0_52 : Index := 0#32
  let c0_53 : Index := 0#32
  ![0, v118.toNat, 0, 0]
def k0_off15 (i : grid0.Coords) : Fin 4 → Nat :=
  let c0_58 : Index := 0#32
  let arg1 : BitVec 32 := BitVec.ofNat 32 (i 1).val
  let v128 : Index := Scalar.indexCast arg1
  let c0_59 : Index := 0#32
  let c0_60 : Index := 0#32
  ![0, v128.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8320x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8320x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x13x80x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x13x80x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x13x64x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16x8320x64 : Shape := ⟨3, ![16, 8320, 64]⟩
abbrev S16x8320 : Shape := ⟨2, ![16, 8320]⟩
abbrev S16x8320x8320 : Shape := ⟨3, ![16, 8320, 8320]⟩
abbrev S_ : Shape := ⟨0, ![]⟩
abbrev S16x8320x1 : Shape := ⟨3, ![16, 8320, 1]⟩
abbrev S16x1x8320 : Shape := ⟨3, ![16, 1, 8320]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S16x64x8320 : Shape := ⟨3, ![16, 64, 8320]⟩

abbrev nBuf : Space → Nat
  | .hbm => 104
  | .vmem => 0
  | .smem => 0
  | _ => 0

abbrev bufTy : (tb : Table) → Fin (tcTables nBuf tb) → BufTy
  | .hbm, ⟨0, _⟩ => ⟨S16x8320x64, .f32⟩
  | .hbm, ⟨1, _⟩ => ⟨S16x8320x64, .f32⟩
  | .hbm, ⟨2, _⟩ => ⟨S16x8320x64, .f32⟩
  | .hbm, ⟨3, _⟩ => ⟨S16x8320, .f32⟩
  | .hbm, ⟨4, _⟩ => ⟨S16x8320x64, .f32⟩
  | .hbm, ⟨5, _⟩ => ⟨S16x8320x8320, .f32⟩
  | .hbm, ⟨6, _⟩ => ⟨S_, .f32⟩
  | .hbm, ⟨7, _⟩ => ⟨S16x8320x8320, .f32⟩
  | .hbm, ⟨8, _⟩ => ⟨S16x8320x8320, .f32⟩
  | .hbm, ⟨9, _⟩ => ⟨S16x8320x1, .f32⟩
  | .hbm, ⟨10, _⟩ => ⟨S16x8320x8320, .f32⟩
  | .hbm, ⟨11, _⟩ => ⟨S16x8320x8320, .f32⟩
  | .hbm, ⟨12, _⟩ => ⟨S16x1x8320, .f32⟩
  | .hbm, ⟨13, _⟩ => ⟨S16x8320x8320, .f32⟩
  | .hbm, ⟨14, _⟩ => ⟨S16x8320x8320, .f32⟩
  | .hbm, ⟨15, _⟩ => ⟨S8320, .i32⟩
  | .hbm, ⟨16, _⟩ => ⟨S1x8320, .i32⟩
  | .hbm, ⟨17, _⟩ => ⟨S8320x1, .i32⟩
  | .hbm, ⟨18, _⟩ => ⟨S8320x8320, .i32⟩
  | .hbm, ⟨19, _⟩ => ⟨S8320x8320, .i32⟩
  | .hbm, ⟨20, _⟩ => ⟨S8320x8320, .i1⟩
  | .hbm, ⟨21, _⟩ => ⟨S_, .f32⟩
  | .hbm, ⟨22, _⟩ => ⟨S_, .f32⟩
  | .hbm, ⟨23, _⟩ => ⟨S16x8320x8320, .i1⟩
  | .hbm, ⟨24, _⟩ => ⟨S16x8320x8320, .f32⟩
  | .hbm, ⟨25, _⟩ => ⟨S16x8320x8320, .f32⟩
  | .hbm, ⟨26, _⟩ => ⟨S_, .f32⟩
  | .hbm, ⟨27, _⟩ => ⟨S16x8320x8320, .f32⟩
  | .hbm, ⟨28, _⟩ => ⟨S_, .f32⟩
  | .hbm, ⟨29, _⟩ => ⟨S16x8320, .f32⟩
  | .hbm, ⟨30, _⟩ => ⟨S16x8320x1, .f32⟩
  | .hbm, ⟨31, _⟩ => ⟨S16x8320x8320, .f32⟩
  | .hbm, ⟨32, _⟩ => ⟨S16x8320x8320, .i1⟩
  | .hbm, ⟨33, _⟩ => ⟨S16x8320x8320, .f32⟩
  | .hbm, ⟨34, _⟩ => ⟨S_, .f32⟩
  | .hbm, ⟨35, _⟩ => ⟨S16x8320, .f32⟩
  | .hbm, ⟨36, _⟩ => ⟨S_, .f32⟩
  | .hbm, ⟨37, _⟩ => ⟨S16x8320, .f32⟩
  | .hbm, ⟨38, _⟩ => ⟨S16x8320, .f32⟩
  | .hbm, ⟨39, _⟩ => ⟨S_, .f32⟩
  | .hbm, ⟨40, _⟩ => ⟨S16x8320, .f32⟩
  | .hbm, ⟨41, _⟩ => ⟨S16x8320, .i1⟩
  | .hbm, ⟨42, _⟩ => ⟨S_, .f32⟩
  | .hbm, ⟨43, _⟩ => ⟨S16x8320, .f32⟩
  | .hbm, ⟨44, _⟩ => ⟨S16x8320, .i1⟩
  | .hbm, ⟨45, _⟩ => ⟨S_, .f32⟩
  | .hbm, ⟨46, _⟩ => ⟨S16x8320, .f32⟩
  | .hbm, ⟨47, _⟩ => ⟨S_, .f32⟩
  | .hbm, ⟨48, _⟩ => ⟨S16x8320, .f32⟩
  | .hbm, ⟨49, _⟩ => ⟨S_, .f32⟩
  | .hbm, ⟨50, _⟩ => ⟨S16x8320, .f32⟩
  | .hbm, ⟨51, _⟩ => ⟨S16x8320, .f32⟩
  | .hbm, ⟨52, _⟩ => ⟨S16x8320, .f32⟩
  | .hbm, ⟨53, _⟩ => ⟨S16x8320x1, .f32⟩
  | .hbm, ⟨54, _⟩ => ⟨S16x8320x8320, .f32⟩
  | .hbm, ⟨55, _⟩ => ⟨S16x8320x8320, .f32⟩
  | .hbm, ⟨56, _⟩ => ⟨S16x8320x8320, .f32⟩
  | .hbm, ⟨57, _⟩ => ⟨S_, .f32⟩
  | .hbm, ⟨58, _⟩ => ⟨S16x8320, .f32⟩
  | .hbm, ⟨59, _⟩ => ⟨S16x8320x1, .f32⟩
  | .hbm, ⟨60, _⟩ => ⟨S16x8320x8320, .f32⟩
  | .hbm, ⟨61, _⟩ => ⟨S16x8320x8320, .f32⟩
  | .hbm, ⟨62, _⟩ => ⟨S16x8320x1, .f32⟩
  | .hbm, ⟨63, _⟩ => ⟨S_, .f32⟩
  | .hbm, ⟨64, _⟩ => ⟨S16x8320x1, .f32⟩
  | .hbm, ⟨65, _⟩ => ⟨S16x8320x1, .f32⟩
  | .hbm, ⟨66, _⟩ => ⟨S16x8320x64, .f32⟩
  | .hbm, ⟨67, _⟩ => ⟨S16x64x8320, .f32⟩
  | .hbm, ⟨68, _⟩ => ⟨S16x8320x64, .f32⟩
  | .hbm, ⟨69, _⟩ => ⟨S16x8320x8320, .f32⟩
  | .hbm, ⟨70, _⟩ => ⟨S16x8320x8320, .f32⟩
  | .hbm, ⟨71, _⟩ => ⟨S16x8320x8320, .f32⟩
  | .hbm, ⟨72, _⟩ => ⟨S16x8320x8320, .f32⟩
  | .hbm, ⟨73, _⟩ => ⟨S_, .f32⟩
  | .hbm, ⟨74, _⟩ => ⟨S16x8320, .f32⟩
  | .hbm, ⟨75, _⟩ => ⟨S16x8320x1, .f32⟩
  | .hbm, ⟨76, _⟩ => ⟨S16x8320x1, .f32⟩
  | .hbm, ⟨77, _⟩ => ⟨S16x8320x8320, .f32⟩
  | .hbm, ⟨78, _⟩ => ⟨S16x8320x8320, .f32⟩
  | .hbm, ⟨79, _⟩ => ⟨S_, .f32⟩
  | .hbm, ⟨80, _⟩ => ⟨S16x8320, .f32⟩
  | .hbm, ⟨81, _⟩ => ⟨S16x8320x8320, .f32⟩
  | .hbm, ⟨82, _⟩ => ⟨S16x8320x8320, .f32⟩
  | .hbm, ⟨83, _⟩ => ⟨S16x8320x8320, .f32⟩
  | .hbm, ⟨84, _⟩ => ⟨S_, .f32⟩
  | .hbm, ⟨85, _⟩ => ⟨S16x8320x8320, .f32⟩
  | .hbm, ⟨86, _⟩ => ⟨S16x8320x8320, .f32⟩
  | .hbm, ⟨87, _⟩ => ⟨S16x8320x8320, .f32⟩
  | .hbm, ⟨88, _⟩ => ⟨S_, .f32⟩
  | .hbm, ⟨89, _⟩ => ⟨S16x8320, .f32⟩
  | .hbm, ⟨90, _⟩ => ⟨S16x1x8320, .f32⟩
  | .hbm, ⟨91, _⟩ => ⟨S_, .f32⟩
  | .hbm, ⟨92, _⟩ => ⟨S16x8320, .f32⟩
  | .hbm, ⟨93, _⟩ => ⟨S_, .f32⟩
  | .hbm, ⟨94, _⟩ => ⟨S16x8320, .f32⟩
  | .hbm, ⟨95, _⟩ => ⟨S16x8320x1, .f32⟩
  | .hbm, ⟨96, _⟩ => ⟨S_, .f32⟩
  | .hbm, ⟨97, _⟩ => ⟨S16x8320, .f32⟩
  | .hbm, ⟨98, _⟩ => ⟨S16x8320, .f32⟩
  | .hbm, ⟨99, _⟩ => ⟨S_, .f32⟩
  | .hbm, ⟨100, _⟩ => ⟨S16x8320x8320, .f32⟩
  | .hbm, ⟨101, _⟩ => ⟨S16x8320x8320, .f32⟩
  | .hbm, ⟨102, _⟩ => ⟨S16x8320x64, .f32⟩
  | .hbm, ⟨103, _⟩ => ⟨S16x8320x64, .f32⟩
  | _, _ => ⟨S16x8320x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel2.lean ====
abbrev S8320x2816 : Shape := ⟨2, ![8320, 2816]⟩
abbrev S2816x1024 : Shape := ⟨2, ![2816, 1024]⟩
abbrev S8320x1024 : Shape := ⟨2, ![8320, 1024]⟩
abbrev S640x1024 : Shape := ⟨2, ![640, 1024]⟩
abbrev S640x2816 : Shape := ⟨2, ![640, 2816]⟩

abbrev nBuf : Space → Nat
  | .hbm => 6
  | .vmem => 5
  | .smem => 0
  | _ => 0

abbrev bufTy : (tb : Table) → Fin (tcTables nBuf tb) → BufTy
  | .hbm, ⟨0, _⟩ => ⟨S8320x2816, .f32⟩
  | .hbm, ⟨1, _⟩ => ⟨S2816x1024, .f32⟩
  | .hbm, ⟨2, _⟩ => ⟨S8320x1024, .f32⟩
  | .hbm, ⟨3, _⟩ => ⟨S8320x1024, .bf16⟩
  | .hbm, ⟨4, _⟩ => ⟨S2816x1024, .bf16⟩
  | .hbm, ⟨5, _⟩ => ⟨S8320x2816, .bf16⟩
  | .local _ .vmem, ⟨0, _⟩ => ⟨S640x1024, .bf16⟩
  | .local _ .vmem, ⟨1, _⟩ => ⟨S640x1024, .bf16⟩
  | .local _ .vmem, ⟨2, _⟩ => ⟨S2816x1024, .bf16⟩
  | .local _ .vmem, ⟨3, _⟩ => ⟨S640x2816, .bf16⟩
  | .local _ .vmem, ⟨4, _⟩ => ⟨S640x2816, .bf16⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S2816x1024, .f32⟩
  | .hbm, ⟨2, _⟩ => ⟨S8320x1024, .f32⟩
  | .hbm, ⟨3, _⟩ => ⟨S8320x1024, .f32⟩
  | .hbm, ⟨4, _⟩ => ⟨S8320x2816, .f32⟩
  | .hbm, ⟨5, _⟩ => ⟨S8320x2816, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S8320x2816 : Shape := ⟨2, ![8320, 2816]⟩
abbrev S2816x1024 : Shape := ⟨2, ![2816, 1024]⟩
abbrev S8320x1024 : Shape := ⟨2, ![8320, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8320x2816, .f32⟩
  | .hbm, ⟨1, _⟩ => ⟨S2816x1024, .f32⟩
  | .hbm, ⟨2, _⟩ => ⟨S8320x1024, .f32⟩
  | .hbm, ⟨3, _⟩ => ⟨S8320x2816, .bf16⟩
  | .hbm, ⟨4, _⟩ => ⟨S8320x1024, .bf16⟩
  | .hbm, ⟨5, _⟩ => ⟨S2816x1024, .f32⟩
  | .local _ .vmem, ⟨0, _⟩ => ⟨S1664x1408, .bf16⟩
  | .local _ .vmem, ⟨1, _⟩ => ⟨S1664x1408, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .f32⟩
  | .local _ .vmem, ⟨5, _⟩ => ⟨S1408x1024, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x2816 : Shape := ⟨2, ![8320, 2816]⟩
abbrev S2816x1024 : Shape := ⟨2, ![2816, 1024]⟩
abbrev S8320x1024 : Shape := ⟨2, ![8320, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S2816x1024, .f32⟩
  | .hbm, ⟨2, _⟩ => ⟨S8320x1024, .f32⟩
  | .hbm, ⟨3, _⟩ => ⟨S8320x1024, .f32⟩
  | .hbm, ⟨4, _⟩ => ⟨S1024x2816, .f32⟩
  | .hbm, ⟨5, _⟩ => ⟨S2816x1024, .f32⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8320x1024 : Shape := ⟨2, ![8320, 1024]⟩
abbrev S1024x5632 : Shape := ⟨2, ![1024, 5632]⟩
abbrev S8320x5632 : Shape := ⟨2, ![8320, 5632]⟩
abbrev S4160x1024 : Shape := ⟨2, ![4160, 1024]⟩
abbrev S4160x512 : Shape := ⟨2, ![4160, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x5632, .f32⟩
  | .hbm, ⟨2, _⟩ => ⟨S8320x5632, .f32⟩
  | .hbm, ⟨3, _⟩ => ⟨S8320x1024, .bf16⟩
  | .hbm, ⟨4, _⟩ => ⟨S8320x5632, .bf16⟩
  | .hbm, ⟨5, _⟩ => ⟨S1024x5632, .f32⟩
  | .local _ .vmem, ⟨0, _⟩ => ⟨S4160x1024, .bf16⟩
  | .local _ .vmem, ⟨1, _⟩ => ⟨S4160x1024, .bf16⟩
  | .local _ .vmem, ⟨2, _⟩ => ⟨S4160x512, .bf16⟩
  | .local _ .vmem, ⟨3, _⟩ => ⟨S4160x512, .bf16⟩
  | .local _ .vmem, ⟨4, _⟩ => ⟨S1024x512, .f32⟩
  | .local _ .vmem, ⟨5, _⟩ => ⟨S1024x512, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x1024 : Shape := ⟨2, ![8320, 1024]⟩
abbrev S1024x5632 : Shape := ⟨2, ![1024, 5632]⟩
abbrev S8320x5632 : Shape := ⟨2, ![8320, 5632]⟩
abbrev S5632x1024 : Shape := ⟨2, ![5632, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x5632, .f32⟩
  | .hbm, ⟨2, _⟩ => ⟨S8320x5632, .f32⟩
  | .hbm, ⟨3, _⟩ => ⟨S8320x5632, .f32⟩
  | .hbm, ⟨4, _⟩ => ⟨S5632x1024, .f32⟩
  | .hbm, ⟨5, _⟩ => ⟨S1024x5632, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8320x1024 : Shape := ⟨2, ![8320, 1024]⟩
abbrev S1024 : Shape := ⟨1, ![1024]⟩
abbrev S1024x5632 : Shape := ⟨2, ![1024, 5632]⟩
abbrev S8320x5632 : Shape := ⟨2, ![8320, 5632]⟩
abbrev S1x1024 : Shape := ⟨2, ![1, 1024]⟩
abbrev S640x2816 : Shape := ⟨2, ![640, 2816]⟩
abbrev S1024x2816 : Shape := ⟨2, ![1024, 2816]⟩
abbrev S640x1024 : Shape := ⟨2, ![640, 1024]⟩
abbrev S640 : Shape := ⟨1, ![640]⟩
abbrev S640x1 : Shape := ⟨2, ![640, 1]⟩

abbrev nBuf : Space → Nat
  | .hbm => 13
  | .vmem => 16
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S8320x1024, .f32⟩
  | .hbm, ⟨5, _⟩ => ⟨S8320x5632, .f32⟩
  | .hbm, ⟨6, _⟩ => ⟨S8320x5632, .bf16⟩
  | .hbm, ⟨7, _⟩ => ⟨S1024x5632, .bf16⟩
  | .hbm, ⟨8, _⟩ => ⟨S1x1024, .f32⟩
  | .hbm, ⟨9, _⟩ => ⟨S8320x1024, .f32⟩
  | .hbm, ⟨10, _⟩ => ⟨S8320x1024, .bf16⟩
  | .hbm, ⟨11, _⟩ => ⟨S1x1024, .f32⟩
  | .hbm, ⟨12, _⟩ => ⟨S1x1024, .f32⟩
  | .local _ .vmem, ⟨0, _⟩ => ⟨S640x2816, .bf16⟩
  | .local _ .vmem, ⟨1, _⟩ => ⟨S640x2816, .bf16⟩
  | .local _ .vmem, ⟨2, _⟩ => ⟨S1024x2816, .bf16⟩
  | .local _ .vmem, ⟨3, _⟩ => ⟨S1024x2816, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S1x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x1024, .bf16⟩
  | .local _ .vmem, ⟨13, _⟩ => ⟨S1x1024, .f32⟩
  | .local _ .vmem, ⟨14, _⟩ => ⟨S1x1024, .f32⟩
  | .local _ .vmem, ⟨15, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![13, 2], ![false, false]⟩

def k0_cond4 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_9 : BitVec 32 := 0#32
  let v18 : BitVec 1 := Scalar.cmpi .ne v17 c0_i32_9
  v18

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_3 : BitVec 32 := 0#32
  let v6 : BitVec 1 := Scalar.cmpi .eq arg1 c0_i32_3
  let v7 : BitVec 1 := Scalar.andi v5 v6
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S8320x1024 : Shape := ⟨2, ![8320, 1024]⟩
abbrev S1024 : Shape := ⟨1, ![1024]⟩
abbrev S1024x5632 : Shape := ⟨2, ![1024, 5632]⟩
abbrev S8320x5632 : Shape := ⟨2, ![8320, 5632]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S8320x1024, .f32⟩
  | .hbm, ⟨5, _⟩ => ⟨S8320x5632, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S_, .f32⟩
  | .hbm, ⟨16, _⟩ => ⟨S8320, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1, .f32⟩
  | .hbm, ⟨25, _⟩ => ⟨S8320x1, .f32⟩
  | .hbm, ⟨26, _⟩ => ⟨S_, .f32⟩
  | .hbm, ⟨27, _⟩ => ⟨S8320x1, .f32⟩
  | .hbm, ⟨28, _⟩ => ⟨S8320x1, .f32⟩
  | .hbm, ⟨29, _⟩ => ⟨S8320x1024, .f32⟩
  | .hbm, ⟨30, _⟩ => ⟨S8320x1024, .f32⟩
  | .hbm, ⟨31, _⟩ => ⟨S1x1024, .f32⟩
  | .hbm, ⟨32, _⟩ => ⟨S8320x1024, .f32⟩
  | .hbm, ⟨33, _⟩ => ⟨S8320x1024, .f32⟩
  | .hbm, ⟨34, _⟩ => ⟨S1x1024, .f32⟩
  | .hbm, ⟨35, _⟩ => ⟨S8320x1024, .f32⟩
  | .hbm, ⟨36, _⟩ => ⟨S8320x1024, .f32⟩
  | .hbm, ⟨37, _⟩ => ⟨S_, .f32⟩
  | .hbm, ⟨38, _⟩ => ⟨S8320x1024, .f32⟩
  | .hbm, ⟨39, _⟩ => ⟨S8320x1024, .f32⟩
  | .hbm, ⟨40, _⟩ => ⟨S8320x5632, .f32⟩
  | .hbm, ⟨41, _⟩ => ⟨S8320x1024, .f32⟩
  | .hbm, ⟨42, _⟩ => ⟨S_, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8320x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8320x1024, .f32⟩
  | .hbm, ⟨56, _⟩ => ⟨S8320x1024, .f32⟩
  | .hbm, ⟨57, _⟩ => ⟨S_, .f32⟩
  | .hbm, ⟨58, _⟩ => ⟨S1024, .f32⟩
  | .hbm, ⟨59, _⟩ => ⟨S8320x1024, .f32⟩
  | .hbm, ⟨60, _⟩ => ⟨S_, .f32⟩
  | .hbm, ⟨61, _⟩ => ⟨S8320, .f32⟩
  | .hbm, ⟨62, _⟩ => ⟨S8320x1, .f32⟩
  | .hbm, ⟨63, _⟩ => ⟨S8320x1024, .f32⟩
  | .hbm, ⟨64, _⟩ => ⟨S8320x1024, .f32⟩
  | .hbm, ⟨65, _⟩ => ⟨S8320x1, .f32⟩
  | .hbm, ⟨66, _⟩ => ⟨S_, .f32⟩
  | .hbm, ⟨67, _⟩ => ⟨S8320x1, .f32⟩
  | .hbm, ⟨68, _⟩ => ⟨S8320x1, .f32⟩
  | .hbm, ⟨69, _⟩ => ⟨S_, .f32⟩
  | .hbm, ⟨70, _⟩ => ⟨S8320, .f32⟩
  | .hbm, ⟨71, _⟩ => ⟨S8320x1024, .f32⟩
  | .hbm, ⟨72, _⟩ => ⟨S8320x1024, .f32⟩
  | .hbm, ⟨73, _⟩ => ⟨S8320x1024, .f32⟩
  | .hbm, ⟨74, _⟩ => ⟨S8320x1024, .f32⟩
  | .hbm, ⟨75, _⟩ => ⟨S8320x1024, .f32⟩
  | .hbm, ⟨76, _⟩ => ⟨S8320x1024, .f32⟩
  | .hbm, ⟨77, _⟩ => ⟨S_, .f32⟩
  | .hbm, ⟨78, _⟩ => ⟨S8320, .f32⟩
  | .hbm, ⟨79, _⟩ => ⟨S8320x1, .f32⟩
  | .hbm, ⟨80, _⟩ => ⟨S_, .f32⟩
  | .hbm, ⟨81, _⟩ => ⟨S8320x1, .f32⟩
  | .hbm, ⟨82, _⟩ => ⟨S8320x1, .f32⟩
  | .hbm, ⟨83, _⟩ => ⟨S_, .f32⟩
  | .hbm, ⟨84, _⟩ => ⟨S8320, .f32⟩
  | .hbm, ⟨85, _⟩ => ⟨S8320x1024, .f32⟩
  | .hbm, ⟨86, _⟩ => ⟨S8320x1024, .f32⟩
  | .hbm, ⟨87, _⟩ => ⟨S8320x1024, .bf16⟩
  | .hbm, ⟨88, _⟩ => ⟨S1x1024, .f32⟩
  | .hbm, ⟨89, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Kernel6.lean ====
abbrev S8320x1024 : Shape := ⟨2, ![8320, 1024]⟩
abbrev S1024x5632 : Shape := ⟨2, ![1024, 5632]⟩
abbrev S8320x5632 : Shape := ⟨2, ![8320, 5632]⟩
abbrev S640x1024 : Shape := ⟨2, ![640, 1024]⟩
abbrev S1024x2816 : Shape := ⟨2, ![1024, 2816]⟩
abbrev S640x2816 : Shape := ⟨2, ![640, 2816]⟩

abbrev nBuf : Space → Nat
  | .hbm => 5
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x5632, .f32⟩
  | .hbm, ⟨2, _⟩ => ⟨S8320x1024, .bf16⟩
  | .hbm, ⟨3, _⟩ => ⟨S1024x5632, .bf16⟩
  | .hbm, ⟨4, _⟩ => ⟨S8320x5632, .bf16⟩
  | .local _ .vmem, ⟨0, _⟩ => ⟨S640x1024, .bf16⟩
  | .local _ .vmem, ⟨1, _⟩ => ⟨S640x1024, .bf16⟩
  | .local _ .vmem, ⟨2, _⟩ => ⟨S1024x2816, .bf16⟩
  | .local _ .vmem, ⟨3, _⟩ => ⟨S1024x2816, .bf16⟩
  | .local _ .vmem, ⟨4, _⟩ => ⟨S640x2816, .bf16⟩
  | .local _ .vmem, ⟨5, _⟩ => ⟨S640x2816, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8320x1024 : Shape := ⟨2, ![8320, 1024]⟩
abbrev S1024x5632 : Shape := ⟨2, ![1024, 5632]⟩
abbrev S8320x5632 : Shape := ⟨2, ![8320, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x5632, .f32⟩
  | .hbm, ⟨2, _⟩ => ⟨S8320x5632, .f32⟩
  | .hbm, ⟨3, _⟩ => ⟨S8320x5632, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S8320x1024 : Shape := ⟨2, ![8320, 1024]⟩
abbrev S1024x3200 : Shape := ⟨2, ![1024, 3200]⟩
abbrev S8320x3200 : Shape := ⟨2, ![8320, 3200]⟩
abbrev S4160x1024 : Shape := ⟨2, ![4160, 1024]⟩
abbrev S4160x640 : Shape := ⟨2, ![4160, 640]⟩
abbrev S1024x640 : Shape := ⟨2, ![1024, 640]⟩

abbrev nBuf : Space → Nat
  | .hbm => 6
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x3200, .f32⟩
  | .hbm, ⟨2, _⟩ => ⟨S8320x3200, .f32⟩
  | .hbm, ⟨3, _⟩ => ⟨S8320x1024, .bf16⟩
  | .hbm, ⟨4, _⟩ => ⟨S8320x3200, .bf16⟩
  | .hbm, ⟨5, _⟩ => ⟨S1024x3200, .f32⟩
  | .local _ .vmem, ⟨0, _⟩ => ⟨S4160x1024, .bf16⟩
  | .local _ .vmem, ⟨1, _⟩ => ⟨S4160x1024, .bf16⟩
  | .local _ .vmem, ⟨2, _⟩ => ⟨S4160x640, .bf16⟩
  | .local _ .vmem, ⟨3, _⟩ => ⟨S4160x640, .bf16⟩
  | .local _ .vmem, ⟨4, _⟩ => ⟨S1024x640, .f32⟩
  | .local _ .vmem, ⟨5, _⟩ => ⟨S1024x640, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8320x1024 : Shape := ⟨2, ![8320, 1024]⟩
abbrev S1024x3200 : Shape := ⟨2, ![1024, 3200]⟩
abbrev S8320x3200 : Shape := ⟨2, ![8320, 3200]⟩
abbrev S3200x1024 : Shape := ⟨2, ![3200, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x3200, .f32⟩
  | .hbm, ⟨2, _⟩ => ⟨S8320x3200, .f32⟩
  | .hbm, ⟨3, _⟩ => ⟨S8320x3200, .f32⟩
  | .hbm, ⟨4, _⟩ => ⟨S3200x1024, .f32⟩
  | .hbm, ⟨5, _⟩ => ⟨S1024x3200, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8320x1024 : Shape := ⟨2, ![8320, 1024]⟩
abbrev S1024x3072 : Shape := ⟨2, ![1024, 3072]⟩
abbrev S8320x3072 : Shape := ⟨2, ![8320, 3072]⟩
abbrev S640x1024 : Shape := ⟨2, ![640, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x3072, .f32⟩
  | .hbm, ⟨2, _⟩ => ⟨S8320x1024, .bf16⟩
  | .hbm, ⟨3, _⟩ => ⟨S1024x3072, .bf16⟩
  | .hbm, ⟨4, _⟩ => ⟨S8320x3072, .bf16⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .bf16⟩
  | .local _ .vmem, ⟨5, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8320x1024 : Shape := ⟨2, ![8320, 1024]⟩
abbrev S1024x3072 : Shape := ⟨2, ![1024, 3072]⟩
abbrev S8320x3072 : Shape := ⟨2, ![8320, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x3072, .f32⟩
  | .hbm, ⟨2, _⟩ => ⟨S8320x3072, .f32⟩
  | .hbm, ⟨3, _⟩ => ⟨S8320x3072, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S1024x8320 : Shape := ⟨2, ![1024, 8320]⟩
abbrev S1024x1024 : Shape := ⟨2, ![1024, 1024]⟩
abbrev S8320x1024 : Shape := ⟨2, ![8320, 1024]⟩
abbrev S512x1024 : Shape := ⟨2, ![512, 1024]⟩
abbrev S640x1024 : Shape := ⟨2, ![640, 1024]⟩
abbrev S512x640 : Shape := ⟨2, ![512, 640]⟩

abbrev nBuf : Space → Nat
  | .hbm => 6
  | .vmem => 6
  | .smem => 0
  | _ => 0

abbrev bufTy : (tb : Table) → Fin (tcTables nBuf tb) → BufTy
  | .hbm, ⟨0, _⟩ => ⟨S1024x8320, .f32⟩
  | .hbm, ⟨1, _⟩ => ⟨S1024x1024, .f32⟩
  | .hbm, ⟨2, _⟩ => ⟨S8320x1024, .f32⟩
  | .hbm, ⟨3, _⟩ => ⟨S1024x1024, .bf16⟩
  | .hbm, ⟨4, _⟩ => ⟨S8320x1024, .bf16⟩
  | .hbm, ⟨5, _⟩ => ⟨S1024x8320, .bf16⟩
  | .local _ .vmem, ⟨0, _⟩ => ⟨S512x1024, .bf16⟩
  | .local _ .vmem, ⟨1, _⟩ => ⟨S512x1024, .bf16⟩
  | .local _ .vmem, ⟨2, _⟩ => ⟨S640x1024, .bf16⟩
  | .local _ .vmem, ⟨3, _⟩ => ⟨S640x1024, .bf16⟩
  | .local _ .vmem, ⟨4, _⟩ => ⟨S512x640, .bf16⟩
  | .local _ .vmem, ⟨5, _⟩ => ⟨S512x640, .bf16⟩
  | _, _ => ⟨S1024x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S1024x8320 : Shape := ⟨2, ![1024, 8320]⟩
abbrev S1024x1024 : Shape := ⟨2, ![1024, 1024]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x8320, .f32⟩
  | .hbm, ⟨1, _⟩ => ⟨S1024x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S1024x8320, .f32⟩
  | .hbm, ⟨7, _⟩ => ⟨S1024x8320, .bf16⟩
  | _, _ => ⟨S1024x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S1024x8320 : Shape := ⟨2, ![1024, 8320]⟩
abbrev S1024x1024 : Shape := ⟨2, ![1024, 1024]⟩
abbrev S8320x1024 : Shape := ⟨2, ![8320, 1024]⟩
abbrev S512x640 : Shape := ⟨2, ![512, 640]⟩
abbrev S640x1024 : Shape := ⟨2, ![640, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x8320, .f32⟩
  | .hbm, ⟨1, _⟩ => ⟨S1024x1024, .f32⟩
  | .hbm, ⟨2, _⟩ => ⟨S8320x1024, .f32⟩
  | .hbm, ⟨3, _⟩ => ⟨S1024x8320, .bf16⟩
  | .hbm, ⟨4, _⟩ => ⟨S8320x1024, .bf16⟩
  | .hbm, ⟨5, _⟩ => ⟨S1024x1024, .f32⟩
  | .local _ .vmem, ⟨0, _⟩ => ⟨S512x640, .bf16⟩
  | .local _ .vmem, ⟨1, _⟩ => ⟨S512x640, .bf16⟩
  | .local _ .vmem, ⟨2, _⟩ => ⟨S640x1024, .bf16⟩
  | .local _ .vmem, ⟨3, _⟩ => ⟨S640x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 13], ![false, false, false]⟩

def k0_cond3 (i : grid0.Coords) : BitVec 1 :=
  let arg2 : BitVec 32 := BitVec.ofNat 32 (i 2).val
  let c12_i32 : BitVec 32 := 12#32
  let v11 : BitVec 1 := Scalar.cmpi .eq arg2 c12_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S1024x8320 : Shape := ⟨2, ![1024, 8320]⟩
abbrev S1024x1024 : Shape := ⟨2, ![1024, 1024]⟩
abbrev S8320x1024 : Shape := ⟨2, ![8320, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x8320, .f32⟩
  | .hbm, ⟨1, _⟩ => ⟨S1024x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S1024x1024, .f32⟩
  | .hbm, ⟨6, _⟩ => ⟨S1024x1024, .f32⟩
  | _, _ => ⟨S1024x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8320x1024 : Shape := ⟨2, ![8320, 1024]⟩
abbrev S1024 : Shape := ⟨1, ![1024]⟩
abbrev S1024x3200 : Shape := ⟨2, ![1024, 3200]⟩
abbrev S8320x3200 : Shape := ⟨2, ![8320, 3200]⟩
abbrev S1x1024 : Shape := ⟨2, ![1, 1024]⟩
abbrev S640x3200 : Shape := ⟨2, ![640, 3200]⟩
abbrev S640x1024 : Shape := ⟨2, ![640, 1024]⟩
abbrev S640 : Shape := ⟨1, ![640]⟩
abbrev S640x1 : Shape := ⟨2, ![640, 1]⟩

abbrev nBuf : Space → Nat
  | .hbm => 13
  | .vmem => 14
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024, .f32⟩
  | .hbm, ⟨3, _⟩ => ⟨S1024x3200, .f32⟩
  | .hbm, ⟨4, _⟩ => ⟨S8320x1024, .f32⟩
  | .hbm, ⟨5, _⟩ => ⟨S8320x3200, .f32⟩
  | .hbm, ⟨6, _⟩ => ⟨S8320x3200, .bf16⟩
  | .hbm, ⟨7, _⟩ => ⟨S1024x3200, .bf16⟩
  | .hbm, ⟨8, _⟩ => ⟨S1x1024, .f32⟩
  | .hbm, ⟨9, _⟩ => ⟨S8320x1024, .f32⟩
  | .hbm, ⟨10, _⟩ => ⟨S8320x1024, .bf16⟩
  | .hbm, ⟨11, _⟩ => ⟨S1x1024, .f32⟩
  | .hbm, ⟨12, _⟩ => ⟨S1x1024, .f32⟩
  | .local _ .vmem, ⟨0, _⟩ => ⟨S640x3200, .bf16⟩
  | .local _ .vmem, ⟨1, _⟩ => ⟨S640x3200, .bf16⟩
  | .local _ .vmem, ⟨2, _⟩ => ⟨S1024x3200, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S1x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | .local _ .vmem, ⟨12, _⟩ => ⟨S1x1024, .f32⟩
  | .local _ .vmem, ⟨13, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference11Ideal.lean ====
abbrev S8320x1024 : Shape := ⟨2, ![8320, 1024]⟩
abbrev S1024 : Shape := ⟨1, ![1024]⟩
abbrev S1024x3200 : Shape := ⟨2, ![1024, 3200]⟩
abbrev S8320x3200 : Shape := ⟨2, ![8320, 3200]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024, .f32⟩
  | .hbm, ⟨3, _⟩ => ⟨S1024x3200, .f32⟩
  | .hbm, ⟨4, _⟩ => ⟨S8320x1024, .f32⟩
  | .hbm, ⟨5, _⟩ => ⟨S8320x3200, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S_, .f32⟩
  | .hbm, ⟨16, _⟩ => ⟨S8320, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1, .f32⟩
  | .hbm, ⟨25, _⟩ => ⟨S8320x1, .f32⟩
  | .hbm, ⟨26, _⟩ => ⟨S_, .f32⟩
  | .hbm, ⟨27, _⟩ => ⟨S8320x1, .f32⟩
  | .hbm, ⟨28, _⟩ => ⟨S8320x1, .f32⟩
  | .hbm, ⟨29, _⟩ => ⟨S8320x1024, .f32⟩
  | .hbm, ⟨30, _⟩ => ⟨S8320x1024, .f32⟩
  | .hbm, ⟨31, _⟩ => ⟨S1x1024, .f32⟩
  | .hbm, ⟨32, _⟩ => ⟨S8320x1024, .f32⟩
  | .hbm, ⟨33, _⟩ => ⟨S8320x1024, .f32⟩
  | .hbm, ⟨34, _⟩ => ⟨S1x1024, .f32⟩
  | .hbm, ⟨35, _⟩ => ⟨S8320x1024, .f32⟩
  | .hbm, ⟨36, _⟩ => ⟨S8320x1024, .f32⟩
  | .hbm, ⟨37, _⟩ => ⟨S_, .f32⟩
  | .hbm, ⟨38, _⟩ => ⟨S8320x1024, .f32⟩
  | .hbm, ⟨39, _⟩ => ⟨S8320x1024, .f32⟩
  | .hbm, ⟨40, _⟩ => ⟨S8320x3200, .f32⟩
  | .hbm, ⟨41, _⟩ => ⟨S8320x1024, .f32⟩
  | .hbm, ⟨42, _⟩ => ⟨S_, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8320x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8320x1024, .f32⟩
  | .hbm, ⟨56, _⟩ => ⟨S8320x1024, .f32⟩
  | .hbm, ⟨57, _⟩ => ⟨S_, .f32⟩
  | .hbm, ⟨58, _⟩ => ⟨S1024, .f32⟩
  | .hbm, ⟨59, _⟩ => ⟨S8320x1024, .f32⟩
  | .hbm, ⟨60, _⟩ => ⟨S_, .f32⟩
  | .hbm, ⟨61, _⟩ => ⟨S8320, .f32⟩
  | .hbm, ⟨62, _⟩ => ⟨S8320x1, .f32⟩
  | .hbm, ⟨63, _⟩ => ⟨S8320x1024, .f32⟩
  | .hbm, ⟨64, _⟩ => ⟨S8320x1024, .f32⟩
  | .hbm, ⟨65, _⟩ => ⟨S8320x1, .f32⟩
  | .hbm, ⟨66, _⟩ => ⟨S_, .f32⟩
  | .hbm, ⟨67, _⟩ => ⟨S8320x1, .f32⟩
  | .hbm, ⟨68, _⟩ => ⟨S8320x1, .f32⟩
  | .hbm, ⟨69, _⟩ => ⟨S_, .f32⟩
  | .hbm, ⟨70, _⟩ => ⟨S8320, .f32⟩
  | .hbm, ⟨71, _⟩ => ⟨S8320x1024, .f32⟩
  | .hbm, ⟨72, _⟩ => ⟨S8320x1024, .f32⟩
  | .hbm, ⟨73, _⟩ => ⟨S8320x1024, .f32⟩
  | .hbm, ⟨74, _⟩ => ⟨S8320x1024, .f32⟩
  | .hbm, ⟨75, _⟩ => ⟨S8320x1024, .f32⟩
  | .hbm, ⟨76, _⟩ => ⟨S8320x1024, .f32⟩
  | .hbm, ⟨77, _⟩ => ⟨S_, .f32⟩
  | .hbm, ⟨78, _⟩ => ⟨S8320, .f32⟩
  | .hbm, ⟨79, _⟩ => ⟨S8320x1, .f32⟩
  | .hbm, ⟨80, _⟩ => ⟨S_, .f32⟩
  | .hbm, ⟨81, _⟩ => ⟨S8320x1, .f32⟩
  | .hbm, ⟨82, _⟩ => ⟨S8320x1, .f32⟩
  | .hbm, ⟨83, _⟩ => ⟨S_, .f32⟩
  | .hbm, ⟨84, _⟩ => ⟨S8320, .f32⟩
  | .hbm, ⟨85, _⟩ => ⟨S8320x1024, .f32⟩
  | .hbm, ⟨86, _⟩ => ⟨S8320x1024, .f32⟩
  | .hbm, ⟨87, _⟩ => ⟨S8320x1024, .bf16⟩
  | .hbm, ⟨88, _⟩ => ⟨S1x1024, .f32⟩
  | .hbm, ⟨89, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Kernel12.lean ====
abbrev S8320x2816 : Shape := ⟨2, ![8320, 2816]⟩
abbrev S2816x1024 : Shape := ⟨2, ![2816, 1024]⟩
abbrev S8320x1024 : Shape := ⟨2, ![8320, 1024]⟩
abbrev S1024 : Shape := ⟨1, ![1024]⟩
abbrev S1x1024 : Shape := ⟨2, ![1, 1024]⟩
abbrev S640x2816 : Shape := ⟨2, ![640, 2816]⟩
abbrev S640x1024 : Shape := ⟨2, ![640, 1024]⟩
abbrev S640 : Shape := ⟨1, ![640]⟩
abbrev S640x1 : Shape := ⟨2, ![640, 1]⟩

abbrev nBuf : Space → Nat
  | .hbm => 12
  | .vmem => 13
  | .smem => 0
  | _ => 0

abbrev bufTy : (tb : Table) → Fin (tcTables nBuf tb) → BufTy
  | .hbm, ⟨0, _⟩ => ⟨S8320x2816, .f32⟩
  | .hbm, ⟨1, _⟩ => ⟨S2816x1024, .f32⟩
  | .hbm, ⟨2, _⟩ => ⟨S8320x1024, .f32⟩
  | .hbm, ⟨3, _⟩ => ⟨S1024, .f32⟩
  | .hbm, ⟨4, _⟩ => ⟨S1024, .f32⟩
  | .hbm, ⟨5, _⟩ => ⟨S8320x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S8320x1024, .f32⟩
  | .hbm, ⟨10, _⟩ => ⟨S8320x1024, .f32⟩
  | .hbm, ⟨11, _⟩ => ⟨S8320x1024, .bf16⟩
  | .local _ .vmem, ⟨0, _⟩ => ⟨S640x2816, .bf16⟩
  | .local _ .vmem, ⟨1, _⟩ => ⟨S640x2816, .bf16⟩
  | .local _ .vmem, ⟨2, _⟩ => ⟨S2816x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x1024, .bf16⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8320x2816 : Shape := ⟨2, ![8320, 2816]⟩
abbrev S2816x1024 : Shape := ⟨2, ![2816, 1024]⟩
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S2816x1024, .f32⟩
  | .hbm, ⟨2, _⟩ => ⟨S8320x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S8320, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1, .f32⟩
  | .hbm, ⟨29, _⟩ => ⟨S8320x1024, .f32⟩
  | .hbm, ⟨30, _⟩ => ⟨S8320x1024, .f32⟩
  | .hbm, ⟨31, _⟩ => ⟨S1x1024, .f32⟩
  | .hbm, ⟨32, _⟩ => ⟨S8320x1024, .f32⟩
  | .hbm, ⟨33, _⟩ => ⟨S8320x1024, .f32⟩
  | .hbm, ⟨34, _⟩ => ⟨S1x1024, .f32⟩
  | .hbm, ⟨35, _⟩ => ⟨S8320x1024, .f32⟩
  | .hbm, ⟨36, _⟩ => ⟨S8320x1024, .f32⟩
  | .hbm, ⟨37, _⟩ => ⟨S8320x1024, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel13.lean ====
abbrev S1024x8320 : Shape := ⟨2, ![1024, 8320]⟩
abbrev S1024x1024 : Shape := ⟨2, ![1024, 1024]⟩
abbrev S8320x1024 : Shape := ⟨2, ![8320, 1024]⟩
abbrev S1024 : Shape := ⟨1, ![1024]⟩
abbrev S1x1024 : Shape := ⟨2, ![1, 1024]⟩
abbrev S1024x640 : Shape := ⟨2, ![1024, 640]⟩
abbrev S640x1024 : Shape := ⟨2, ![640, 1024]⟩
abbrev S640 : Shape := ⟨1, ![640]⟩
abbrev S640x1 : Shape := ⟨2, ![640, 1]⟩

abbrev nBuf : Space → Nat
  | .hbm => 12
  | .vmem => 13
  | .smem => 0
  | _ => 0

abbrev bufTy : (tb : Table) → Fin (tcTables nBuf tb) → BufTy
  | .hbm, ⟨0, _⟩ => ⟨S1024x8320, .f32⟩
  | .hbm, ⟨1, _⟩ => ⟨S1024x1024, .f32⟩
  | .hbm, ⟨2, _⟩ => ⟨S8320x1024, .f32⟩
  | .hbm, ⟨3, _⟩ => ⟨S1024, .f32⟩
  | .hbm, ⟨4, _⟩ => ⟨S1024, .f32⟩
  | .hbm, ⟨5, _⟩ => ⟨S1024x8320, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8320x1024, .f32⟩
  | .hbm, ⟨10, _⟩ => ⟨S8320x1024, .f32⟩
  | .hbm, ⟨11, _⟩ => ⟨S8320x1024, .bf16⟩
  | .local _ .vmem, ⟨0, _⟩ => ⟨S1024x640, .bf16⟩
  | .local _ .vmem, ⟨1, _⟩ => ⟨S1024x640, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x1024, .bf16⟩
  | _, _ => ⟨S1024x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1024x8320 : Shape := ⟨2, ![1024, 8320]⟩
abbrev S1024x1024 : Shape := ⟨2, ![1024, 1024]⟩
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1024x8320, .f32⟩
  | .hbm, ⟨1, _⟩ => ⟨S1024x1024, .f32⟩
  | .hbm, ⟨2, _⟩ => ⟨S8320x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S8320x1024, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S_, .f32⟩
  | .hbm, ⟨21, _⟩ => ⟨S8320, .f32⟩
  | .hbm, ⟨22, _⟩ => ⟨S8320x1, .f32⟩
  | .hbm, ⟨23, _⟩ => ⟨S_, .f32⟩
  | .hbm, ⟨24, _⟩ => ⟨S8320x1, .f32⟩
  | .hbm, ⟨25, _⟩ => ⟨S8320x1, .f32⟩
  | .hbm, ⟨26, _⟩ => ⟨S_, .f32⟩
  | .hbm, ⟨27, _⟩ => ⟨S8320x1, .f32⟩
  | .hbm, ⟨28, _⟩ => ⟨S8320x1, .f32⟩
  | .hbm, ⟨29, _⟩ => ⟨S8320x1, .f32⟩
  | .hbm, ⟨30, _⟩ => ⟨S8320x1024, .f32⟩
  | .hbm, ⟨31, _⟩ => ⟨S8320x1024, .f32⟩
  | .hbm, ⟨32, _⟩ => ⟨S1x1024, .f32⟩
  | .hbm, ⟨33, _⟩ => ⟨S8320x1024, .f32⟩
  | .hbm, ⟨34, _⟩ => ⟨S8320x1024, .f32⟩
  | .hbm, ⟨35, _⟩ => ⟨S1x1024, .f32⟩
  | .hbm, ⟨36, _⟩ => ⟨S8320x1024, .f32⟩
  | .hbm, ⟨37, _⟩ => ⟨S8320x1024, .f32⟩
  | .hbm, ⟨38, _⟩ => ⟨S8320x1024, .bf16⟩
  | _, _ => ⟨S1024x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Offsets.lean ====
/- The offsets and trip counts of the attention gradient's body, in closed form: key block `j` of a loop's trip is slab
   `j` of the three slab arrays and rows `640 j …` of the two key arrays; the two remainder loops make no trip. -/
module

public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

/-- The trip counts: `i / 4` trips of four blocks, none, `i mod 4` trips of one, none. -/
theorem trips1 : ∀ i : grid0.Coords, (k0_t1_loop i).trips = (i 1).val / 4 := by decide +kernel
theorem trips2 : ∀ i : grid0.Coords, (k0_t2_loop i).trips = 0 := by decide +kernel
theorem trips3 : ∀ i : grid0.Coords, (k0_t3_loop i).trips = (i 1).val % 4 := by decide +kernel
theorem trips4 : ∀ i : grid0.Coords, (k0_t4_loop i).trips = 0 := by decide +kernel
/-- A query tile's number is below 13. -/
theorem i1_lt (i : grid0.Coords) : (i 1).val < 13 := (i 1).isLt

theorem off1_eq : ∀ (i : grid0.Coords) (t : Fin (k0_t1_loop i).trips) (r : Fin 4),
    k0_off1 i t (BitVec.ofNat 32 r.val) = ![0, 640 * (4 * t.val + r.val), 0] := by decide +kernel
theorem off2_eq : ∀ (i : grid0.Coords) (t : Fin (k0_t1_loop i).trips) (r : Fin 4),
    k0_off2 i t (BitVec.ofNat 32 r.val) = ![0, 4 * t.val + r.val, 0, 0] := by decide +kernel
theorem off3_eq : ∀ (i : grid0.Coords) (t : Fin (k0_t1_loop i).trips) (r : Fin 4),
    k0_off3 i t (BitVec.ofNat 32 r.val) = ![0, 4 * t.val + r.val, 0, 0] := by decide +kernel
theorem off7_eq : ∀ (i : grid0.Coords) (t : Fin (k0_t3_loop i).trips),
    k0_off7 i t = ![0, 640 * (4 * ((i 1).val / 4) + t.val), 0] := by decide +kernel
theorem off8_eq : ∀ (i : grid0.Coords) (t : Fin (k0_t3_loop i).trips),
    k0_off8 i t = ![0, 4 * ((i 1).val / 4) + t.val, 0, 0] := by decide +kernel
theorem off9_eq : ∀ (i : grid0.Coords) (t : Fin (k0_t3_loop i).trips),
    k0_off9 i t = ![0, 4 * ((i 1).val / 4) + t.val, 0, 0] := by decide +kernel
theorem off13_eq : ∀ i : grid0.Coords, k0_off13 i = ![0, 640 * (i 1).val, 0] := by decide +kernel
theorem off14_eq : ∀ i : grid0.Coords, k0_off14 i = ![0, (i 1).val, 0, 0] := by decide +kernel
theorem off15_eq : ∀ i : grid0.Coords, k0_off15 i = ![0, (i 1).val, 0, 0] := by decide +kernel

theorem off1_0 (i : grid0.Coords) (t : Fin (k0_t1_loop i).trips) : k0_off1 i t 0#32 = ![0, 640 * (4 * t.val + 0), 0] := off1_eq i t 0
instance (i : grid0.Coords) (t : Fin (k0_t1_loop i).trips) : ClosedOff (k0_off1 i t 0#32) := ⟨_, off1_0 i t⟩
theorem off1_1 (i : grid0.Coords) (t : Fin (k0_t1_loop i).trips) : k0_off1 i t 1#32 = ![0, 640 * (4 * t.val + 1), 0] := off1_eq i t 1
instance (i : grid0.Coords) (t : Fin (k0_t1_loop i).trips) : ClosedOff (k0_off1 i t 1#32) := ⟨_, off1_1 i t⟩
theorem off1_2 (i : grid0.Coords) (t : Fin (k0_t1_loop i).trips) : k0_off1 i t 2#32 = ![0, 640 * (4 * t.val + 2), 0] := off1_eq i t 2
instance (i : grid0.Coords) (t : Fin (k0_t1_loop i).trips) : ClosedOff (k0_off1 i t 2#32) := ⟨_, off1_2 i t⟩
theorem off1_3 (i : grid0.Coords) (t : Fin (k0_t1_loop i).trips) : k0_off1 i t 3#32 = ![0, 640 * (4 * t.val + 3), 0] := off1_eq i t 3
instance (i : grid0.Coords) (t : Fin (k0_t1_loop i).trips) : ClosedOff (k0_off1 i t 3#32) := ⟨_, off1_3 i t⟩
theorem off2_0 (i : grid0.Coords) (t : Fin (k0_t1_loop i).trips) : k0_off2 i t 0#32 = ![0, 4 * t.val + 0, 0, 0] := off2_eq i t 0
instance (i : grid0.Coords) (t : Fin (k0_t1_loop i).trips) : ClosedOff (k0_off2 i t 0#32) := ⟨_, off2_0 i t⟩
theorem off2_1 (i : grid0.Coords) (t : Fin (k0_t1_loop i).trips) : k0_off2 i t 1#32 = ![0, 4 * t.val + 1, 0, 0] := off2_eq i t 1
instance (i : grid0.Coords) (t : Fin (k0_t1_loop i).trips) : ClosedOff (k0_off2 i t 1#32) := ⟨_, off2_1 i t⟩
theorem off2_2 (i : grid0.Coords) (t : Fin (k0_t1_loop i).trips) : k0_off2 i t 2#32 = ![0, 4 * t.val + 2, 0, 0] := off2_eq i t 2
instance (i : grid0.Coords) (t : Fin (k0_t1_loop i).trips) : ClosedOff (k0_off2 i t 2#32) := ⟨_, off2_2 i t⟩
theorem off2_3 (i : grid0.Coords) (t : Fin (k0_t1_loop i).trips) : k0_off2 i t 3#32 = ![0, 4 * t.val + 3, 0, 0] := off2_eq i t 3
instance (i : grid0.Coords) (t : Fin (k0_t1_loop i).trips) : ClosedOff (k0_off2 i t 3#32) := ⟨_, off2_3 i t⟩
theorem off3_0 (i : grid0.Coords) (t : Fin (k0_t1_loop i).trips) : k0_off3 i t 0#32 = ![0, 4 * t.val + 0, 0, 0] := off3_eq i t 0
instance (i : grid0.Coords) (t : Fin (k0_t1_loop i).trips) : ClosedOff (k0_off3 i t 0#32) := ⟨_, off3_0 i t⟩
theorem off3_1 (i : grid0.Coords) (t : Fin (k0_t1_loop i).trips) : k0_off3 i t 1#32 = ![0, 4 * t.val + 1, 0, 0] := off3_eq i t 1
instance (i : grid0.Coords) (t : Fin (k0_t1_loop i).trips) : ClosedOff (k0_off3 i t 1#32) := ⟨_, off3_1 i t⟩
theorem off3_2 (i : grid0.Coords) (t : Fin (k0_t1_loop i).trips) : k0_off3 i t 2#32 = ![0, 4 * t.val + 2, 0, 0] := off3_eq i t 2
instance (i : grid0.Coords) (t : Fin (k0_t1_loop i).trips) : ClosedOff (k0_off3 i t 2#32) := ⟨_, off3_2 i t⟩
theorem off3_3 (i : grid0.Coords) (t : Fin (k0_t1_loop i).trips) : k0_off3 i t 3#32 = ![0, 4 * t.val + 3, 0, 0] := off3_eq i t 3
instance (i : grid0.Coords) (t : Fin (k0_t1_loop i).trips) : ClosedOff (k0_off3 i t 3#32) := ⟨_, off3_3 i t⟩
instance (i : grid0.Coords) (t : Fin (k0_t3_loop i).trips) : ClosedOff (k0_off7 i t) := ⟨_, off7_eq i t⟩
instance (i : grid0.Coords) (t : Fin (k0_t3_loop i).trips) : ClosedOff (k0_off8 i t) := ⟨_, off8_eq i t⟩
instance (i : grid0.Coords) (t : Fin (k0_t3_loop i).trips) : ClosedOff (k0_off9 i t) := ⟨_, off9_eq i t⟩
instance (i : grid0.Coords) : ClosedOff (k0_off13 i) := ⟨_, off13_eq i⟩
instance (i : grid0.Coords) : ClosedOff (k0_off14 i) := ⟨_, off14_eq i⟩
instance (i : grid0.Coords) : ClosedOff (k0_off15 i) := ⟨_, off15_eq i⟩

end Cert.KernelIdeal.Body

end
-- ==== Proof.Block.lean ====
/- What one key block of the attention gradient does, on the arrays themselves: the state is the sum `dq` carried along
   a row of key blocks and the two arrays of slabs, and block `j` adds to `dq` and to slab `j` of each array. -/
module

public import proofs.«01_k».proof.Proof.Offsets
public import Idealize.ShloMosaic.Lib.VecWindow

@[expose] public section

set_option maxRecDepth 16384
set_option maxHeartbeats 4000000

noncomputable section

namespace Cert.KernelIdeal.Body

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The values a query tile fixes for all its key blocks: `dO`, the query columns of the score product and of the
`dp - delta` product, and the query rows of the key gradient. -/
structure Query (F : FTy → Type) where
  dO : FVec F S64x640 .bf16
  qa : FVec F S128x640 .bf16
  da : FVec F S128x640 .bf16
  q1 : FVec F S80x640 .bf16

/-- The key arrays of a head: keys, values, and the keys again as slabs. -/
structure Keys (F : FTy → Type) where
  k : FVec F S1x8320x128 .bf16
  v : FVec F S1x8320x128 .bf16
  kT : FVec F S1x13x80x640 .bf16

/-- What a row of key blocks carries and adds to. -/
@[ext] structure St (F : FTy → Type) where
  dq : FVec F S80x640 .f32
  dk : FVec F S1x13x80x640 .f32
  dv : FVec F S1x13x64x640 .f32

theorem inb_rows (j : Fin 13) : ∀ a, (![0, 640 * j.val, 0] : Fin 3 → ℕ) a + S1x640x128.size a ≤ S1x8320x128.size a := by
  revert j; decide
theorem inb_k (j : Fin 13) : ∀ a, (![0, j.val, 0, 0] : Fin 4 → ℕ) a + S1x1x80x640.size a ≤ S1x13x80x640.size a := by
  revert j; decide
theorem inb_v (j : Fin 13) : ∀ a, (![0, j.val, 0, 0] : Fin 4 → ℕ) a + S1x1x64x640.size a ≤ S1x13x64x640.size a := by
  revert j; decide

/-- Rows `640 j …` of a key array, slab `j` of the slab arrays, and a slab put in its place. -/
def rows (x : FVec F S1x8320x128 .bf16) (j : Fin 13) : FVec F S1x640x128 .bf16 :=
  VecWindow.window x ![0, 640 * j.val, 0] S1x640x128.size (inb_rows j)
def slabK {e : FTy} (x : FVec F S1x13x80x640 e) (j : Fin 13) : FVec F S1x1x80x640 e :=
  VecWindow.window x ![0, j.val, 0, 0] S1x1x80x640.size (inb_k j)
def slabV (x : FVec F S1x13x64x640 .f32) (j : Fin 13) : FVec F S1x1x64x640 .f32 :=
  VecWindow.window x ![0, j.val, 0, 0] S1x1x64x640.size (inb_v j)
def putK (x : FVec F S1x13x80x640 .f32) (j : Fin 13) (w : FVec F S1x1x80x640 .f32) : FVec F S1x13x80x640 .f32 :=
  VecWindow.put x ![0, j.val, 0, 0] S1x1x80x640.size w
def putV (x : FVec F S1x13x64x640 .f32) (j : Fin 13) (w : FVec F S1x1x64x640 .f32) : FVec F S1x13x64x640 .f32 :=
  VecWindow.put x ![0, j.val, 0, 0] S1x1x64x640.size w

/-- One unmasked key block. -/
def step (Q : Query F) (K : Keys F) (j : Fin 13) (s : St F) : St F where
  dq := k0_pay65 s.dq (k0_pay41 Q.qa Q.da (rows K.k j) (rows K.v j)) (slabK K.kT j)
  dk := putK s.dk j (k0_pay43 Q.qa Q.da Q.q1 (rows K.k j) (rows K.v j) (slabK s.dk j))
  dv := putV s.dv j (k0_pay42 Q.dO Q.qa (rows K.k j) (slabV s.dv j))

/-- The masked block, at the query tile's own keys. -/
def last (Q : Query F) (K : Keys F) (j : Fin 13) (s : St F) : St F where
  dq := k0_pay71 s.dq (k0_pay68 Q.qa Q.da (rows K.k j) (rows K.v j)) (slabK K.kT j)
  dk := putK s.dk j (k0_pay70 Q.q1 (k0_pay68 Q.qa Q.da (rows K.k j) (rows K.v j)) (slabK s.dk j))
  dv := putV s.dv j (k0_pay69 Q.dO (k0_pay67 Q.qa (rows K.k j)) (slabV s.dv j))

/-- The state after the `n` key blocks from block `j` on. -/
def chain (Q : Query F) (K : Keys F) (j : ℕ) (s : St F) : ℕ → St F
  | 0 => s
  | n + 1 => if h : j + n < 13 then step Q K ⟨j + n, h⟩ (chain Q K j s n) else chain Q K j s n

theorem chain_zero (Q : Query F) (K : Keys F) (j : ℕ) (s : St F) : chain Q K j s 0 = s := rfl

theorem chain_succ (Q : Query F) (K : Keys F) (j : ℕ) (s : St F) (n : ℕ) (h : j + n < 13) :
    chain Q K j s (n + 1) = step Q K ⟨j + n, h⟩ (chain Q K j s n) := dif_pos h

/-- Two rows of blocks one after the other. -/
theorem chain_chain (Q : Query F) (K : Keys F) (j m n : ℕ) (s : St F) :
    chain Q K (j + m) (chain Q K j s m) n = chain Q K j s (m + n) := by
  induction n with
  | zero => rfl
  | succ n ih =>
    show (if h : j + m + n < 13 then step Q K ⟨j + m + n, h⟩ (chain Q K (j + m) (chain Q K j s m) n)
      else chain Q K (j + m) (chain Q K j s m) n)
        = if h : j + (m + n) < 13 then step Q K ⟨j + (m + n), h⟩ (chain Q K j s (m + n)) else chain Q K j s (m + n)
    rw [ih]
    simp only [Nat.add_assoc]

/-- A slab put elsewhere leaves the slab read. -/
theorem slabK_putK_ne (x : FVec F S1x13x80x640 .f32) {j j' : Fin 13} (h : j'.val ≠ j.val) (w : FVec F S1x1x80x640 .f32) :
    slabK (putK x j w) j' = slabK x j' :=
  VecWindow.window_put_of_disjoint x ![0, j.val, 0, 0] S1x1x80x640.size ![0, j'.val, 0, 0] S1x1x80x640.size (inb_k j') w
    (1 : Fin 4) (show j'.val + 1 ≤ j.val ∨ j.val + 1 ≤ j'.val by omega)
theorem slabV_putV_ne (x : FVec F S1x13x64x640 .f32) {j j' : Fin 13} (h : j'.val ≠ j.val) (w : FVec F S1x1x64x640 .f32) :
    slabV (putV x j w) j' = slabV x j' :=
  VecWindow.window_put_of_disjoint x ![0, j.val, 0, 0] S1x1x64x640.size ![0, j'.val, 0, 0] S1x1x64x640.size (inb_v j') w
    (1 : Fin 4) (show j'.val + 1 ≤ j.val ∨ j.val + 1 ≤ j'.val by omega)

/-- What the block loads of a key array or a slab array held at `x` are. -/
theorem readAt_rows {κ : Kind} {sp : Space} (v : View sig κ sp S1x8320x128 .bf16) (x : FVec F S1x8320x128 .bf16) (j : Fin 13)
    {off : Fin 3 → ℕ} (inb : ∀ a, off a + S1x640x128.size a ≤ S1x8320x128.size a) (h : off = ![0, 640 * j.val, 0]) :
    v.readAt (Elt F) (Rect.unit (s := S1x8320x128) off S1x640x128.size inb).toLoadRect (v.rep x) = rows x j :=
  View.readAt_rep_unit (Val := Elt F) v x inb h (inb_rows j)
theorem readAt_slabK {κ : Kind} {sp : Space} (v : View sig κ sp S1x13x80x640 .f32) (x : FVec F S1x13x80x640 .f32) (j : Fin 13)
    {off : Fin 4 → ℕ} (inb : ∀ a, off a + S1x1x80x640.size a ≤ S1x13x80x640.size a) (h : off = ![0, j.val, 0, 0]) :
    v.readAt (Elt F) (Rect.unit (s := S1x13x80x640) off S1x1x80x640.size inb).toLoadRect (v.rep x) = slabK x j :=
  View.readAt_rep_unit (Val := Elt F) v x inb h (inb_k j)
theorem readAt_slabT {κ : Kind} {sp : Space} (v : View sig κ sp S1x13x80x640 .bf16) (x : FVec F S1x13x80x640 .bf16) (j : Fin 13)
    {off : Fin 4 → ℕ} (inb : ∀ a, off a + S1x1x80x640.size a ≤ S1x13x80x640.size a) (h : off = ![0, j.val, 0, 0]) :
    v.readAt (Elt F) (Rect.unit (s := S1x13x80x640) off S1x1x80x640.size inb).toLoadRect (v.rep x) = slabK x j :=
  View.readAt_rep_unit (Val := Elt F) v x inb h (inb_k j)
theorem readAt_slabV {κ : Kind} {sp : Space} (v : View sig κ sp S1x13x64x640 .f32) (x : FVec F S1x13x64x640 .f32) (j : Fin 13)
    {off : Fin 4 → ℕ} (inb : ∀ a, off a + S1x1x64x640.size a ≤ S1x13x64x640.size a) (h : off = ![0, j.val, 0, 0]) :
    v.readAt (Elt F) (Rect.unit (s := S1x13x64x640) off S1x1x64x640.size inb).toLoadRect (v.rep x) = slabV x j :=
  View.readAt_rep_unit (Val := Elt F) v x inb h (inb_v j)
/-- What a store of a slab leaves. -/
theorem read_putK {κ : Kind} {sp : Space} (v : View sig κ sp S1x13x80x640 .f32) (f : v.ty.Contents (Elt F)) (j : Fin 13)
    {off : Fin 4 → ℕ} (inb : ∀ a, off a + S1x1x80x640.size a ≤ S1x13x80x640.size a) (w : FVec F S1x1x80x640 .f32)
    (L : List (View.Piece (Elt F) S1x13x80x640 .f32)) (h : off = ![0, j.val, 0, 0]) :
    v.read (Elt F) (v.writes (Elt F) f (⟨Rect.unit (s := S1x13x80x640) off S1x1x80x640.size inb, w⟩ :: L))
      = putK (v.read (Elt F) (v.writes (Elt F) f L)) j w :=
  View.read_writes_cons_put (Val := Elt F) v f inb w L h
theorem read_putV {κ : Kind} {sp : Space} (v : View sig κ sp S1x13x64x640 .f32) (f : v.ty.Contents (Elt F)) (j : Fin 13)
    {off : Fin 4 → ℕ} (inb : ∀ a, off a + S1x1x64x640.size a ≤ S1x13x64x640.size a) (w : FVec F S1x1x64x640 .f32)
    (L : List (View.Piece (Elt F) S1x13x64x640 .f32)) (h : off = ![0, j.val, 0, 0]) :
    v.read (Elt F) (v.writes (Elt F) f (⟨Rect.unit (s := S1x13x64x640) off S1x1x64x640.size inb, w⟩ :: L))
      = putV (v.read (Elt F) (v.writes (Elt F) f L)) j w :=
  View.read_writes_cons_put (Val := Elt F) v f inb w L h

end Cert.KernelIdeal.Body

end
-- ==== Proof.Trip1.lean ====
/- One trip of the loop over four key blocks at a time, and the loop's invariant. -/
module

public import proofs.«01_k».proof.Proof.Block
public import Idealize.ShloMosaic.Lib.Exec
public import Idealize.ShloMosaic.Lib.Tactic.Stretches
public import Idealize.ShloMosaic.Lib.Tactic
public import Idealize.ShloMosaic.Lib.Pipeline.Kit

@[expose] public section

set_option maxRecDepth 16384
set_option maxHeartbeats 4000000

noncomputable section

namespace Cert.KernelIdeal.Body

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a row of key blocks holds: the three key arrays, and the two arrays of slabs at the state's. -/
abbrev Held (c : Dev nD) (arg7 arg8 : Memref sig .tc .vmem S1x8320x128 .bf16) (arg9 : Memref sig .tc .vmem S1x13x80x640 .bf16)
    (arg12 : Memref sig .tc .vmem S1x13x80x640 .f32) (arg13 : Memref sig .tc .vmem S1x13x64x640 .f32) (K : Keys F)
    (dk : FVec F S1x13x80x640 .f32) (dv : FVec F S1x13x64x640 .f32) : sProp 𝕄G :=
  iprop((arg7.view.loc (c : Thread nD τ) ↦[arg7.view.set]{fullShare} arg7.view.rep K.k)
    ∗ (arg8.view.loc (c : Thread nD τ) ↦[arg8.view.set]{fullShare} arg8.view.rep K.v)
    ∗ (arg9.view.loc (c : Thread nD τ) ↦[arg9.view.set]{fullShare} arg9.view.rep K.kT)
    ∗ (arg12.view.loc (c : Thread nD τ) ↦[arg12.view.set]{fullShare} arg12.view.rep dk)
    ∗ (arg13.view.loc (c : Thread nD τ) ↦[arg13.view.set]{fullShare} arg13.view.rep dv))

/-- One trip adds four key blocks. -/
theorem trip1 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v6 : FVec F S64x640 .bf16) (v8 : FVec F S64x640 .bf16) (v15 : FVec F S1x640 .f32) (v16 : FVec F S3x640 .bf16) (v32 : FVec F S128x640 .bf16) (v33 : FVec F S1x640 .f32)
    (K : Keys F) (s : St F) (k : Fin (k0_t1_loop i).trips) (j : Fin 4 → Fin 13) (hj : ∀ r, (j r).val = 4 * k.val + r.val) :
    (Held c arg7 arg8 arg9 arg12 arg13 K s.dk s.dv : sProp 𝕄G) ⊢
      wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 arg1 v6 v8 v15 v16 v32 v33 k s.dq)
        (fun yld => iprop(⌜yld = (step ⟨v8, v32, k0_pay56 v8 v15 v33, k0_pay57 v6 v16⟩ K (j 3) (step ⟨v8, v32, k0_pay56 v8 v15 v33, k0_pay57 v6 v16⟩ K (j 2) (step ⟨v8, v32, k0_pay56 v8 v15 v33, k0_pay57 v6 v16⟩ K (j 1) (step ⟨v8, v32, k0_pay56 v8 v15 v33, k0_pay57 v6 v16⟩ K (j 0) s)))).dq⌝
          ∗ Held c arg7 arg8 arg9 arg12 arg13 K (step ⟨v8, v32, k0_pay56 v8 v15 v33, k0_pay57 v6 v16⟩ K (j 3) (step ⟨v8, v32, k0_pay56 v8 v15 v33, k0_pay57 v6 v16⟩ K (j 2) (step ⟨v8, v32, k0_pay56 v8 v15 v33, k0_pay57 v6 v16⟩ K (j 1) (step ⟨v8, v32, k0_pay56 v8 v15 v33, k0_pay57 v6 v16⟩ K (j 0) s)))).dk (step ⟨v8, v32, k0_pay56 v8 v15 v33, k0_pay57 v6 v16⟩ K (j 3) (step ⟨v8, v32, k0_pay56 v8 v15 v33, k0_pay57 v6 v16⟩ K (j 2) (step ⟨v8, v32, k0_pay56 v8 v15 v33, k0_pay57 v6 v16⟩ K (j 1) (step ⟨v8, v32, k0_pay56 v8 v15 v33, k0_pay57 v6 v16⟩ K (j 0) s)))).dv)) := by
  have n01 : (j 1).val ≠ (j 0).val := by rw [hj, hj]; simp
  have n02 : (j 2).val ≠ (j 0).val := by rw [hj, hj]; simp
  have n03 : (j 3).val ≠ (j 0).val := by rw [hj, hj]; simp
  have n12 : (j 2).val ≠ (j 1).val := by rw [hj, hj]; simp
  have n13 : (j 3).val ≠ (j 1).val := by rw [hj, hj]; simp
  have n23 : (j 3).val ≠ (j 2).val := by rw [hj, hj]; simp
  have a0 : k0_off1 i k 0#32 = ![0, 640 * (j 0).val, 0] := by rw [hj]; exact off1_0 i k
  have a1 : k0_off1 i k 1#32 = ![0, 640 * (j 1).val, 0] := by rw [hj]; exact off1_1 i k
  have a2 : k0_off1 i k 2#32 = ![0, 640 * (j 2).val, 0] := by rw [hj]; exact off1_2 i k
  have a3 : k0_off1 i k 3#32 = ![0, 640 * (j 3).val, 0] := by rw [hj]; exact off1_3 i k
  have b0 : k0_off2 i k 0#32 = ![0, (j 0).val, 0, 0] := by rw [hj]; exact off2_0 i k
  have b1 : k0_off2 i k 1#32 = ![0, (j 1).val, 0, 0] := by rw [hj]; exact off2_1 i k
  have b2 : k0_off2 i k 2#32 = ![0, (j 2).val, 0, 0] := by rw [hj]; exact off2_2 i k
  have b3 : k0_off2 i k 3#32 = ![0, (j 3).val, 0, 0] := by rw [hj]; exact off2_3 i k
  have c0 : k0_off3 i k 0#32 = ![0, (j 0).val, 0, 0] := by rw [hj]; exact off3_0 i k
  have c1 : k0_off3 i k 1#32 = ![0, (j 1).val, 0, 0] := by rw [hj]; exact off3_1 i k
  have c2 : k0_off3 i k 2#32 = ![0, (j 2).val, 0, 0] := by rw [hj]; exact off3_2 i k
  have c3 : k0_off3 i k 3#32 = ![0, (j 3).val, 0, 0] := by rw [hj]; exact off3_3 i k
  have r70 := readAt_rows arg7.view K.k (j 0) (k0_off1_inb i k 0) a0
  have r80 := readAt_rows arg8.view K.v (j 0) (k0_off1_inb i k 0) a0
  have r90 := readAt_slabT arg9.view K.kT (j 0) (k0_off3_inb i k 0) c0
  have rk0 := readAt_slabK arg12.view s.dk (j 0) (k0_off3_inb i k 0) c0
  have rv0 := readAt_slabV arg13.view s.dv (j 0) (k0_off2_inb i k 0) b0
  have r71 := readAt_rows arg7.view K.k (j 1) (k0_off1_inb i k 1) a1
  have r81 := readAt_rows arg8.view K.v (j 1) (k0_off1_inb i k 1) a1
  have r91 := readAt_slabT arg9.view K.kT (j 1) (k0_off3_inb i k 1) c1
  have rk1 := readAt_slabK arg12.view s.dk (j 1) (k0_off3_inb i k 1) c1
  have rv1 := readAt_slabV arg13.view s.dv (j 1) (k0_off2_inb i k 1) b1
  have r72 := readAt_rows arg7.view K.k (j 2) (k0_off1_inb i k 2) a2
  have r82 := readAt_rows arg8.view K.v (j 2) (k0_off1_inb i k 2) a2
  have r92 := readAt_slabT arg9.view K.kT (j 2) (k0_off3_inb i k 2) c2
  have rk2 := readAt_slabK arg12.view s.dk (j 2) (k0_off3_inb i k 2) c2
  have rv2 := readAt_slabV arg13.view s.dv (j 2) (k0_off2_inb i k 2) b2
  have r73 := readAt_rows arg7.view K.k (j 3) (k0_off1_inb i k 3) a3
  have r83 := readAt_rows arg8.view K.v (j 3) (k0_off1_inb i k 3) a3
  have r93 := readAt_slabT arg9.view K.kT (j 3) (k0_off3_inb i k 3) c3
  have rk3 := readAt_slabK arg12.view s.dk (j 3) (k0_off3_inb i k 3) c3
  have rv3 := readAt_slabV arg13.view s.dv (j 3) (k0_off2_inb i k 3) b3
  unfold k0_t1_body
  iintro ⟨H7, H8, H9, H12, H13⟩
  sl_exec
  sl_step
  sl_unfold_run_names
  simp only [r70, r71, r72, r73, r80, r81, r82, r83, r90, r91, r92, r93, rk0, rk1, rk2, rk3, rv0, rv1, rv2, rv3]
  clear a0 a1 a2 a3 r70 r71 r72 r73 r80 r81 r82 r83 r90 r91 r92 r93 rk0 rk1 rk2 rk3 rv0 rv1 rv2 rv3
  isplitr
  · ipureintro; simp only [step]; sl_open_pay; rfl
  isplitl [H7]; · iexact H7
  isplitl [H8]; · iexact H8
  isplitl [H9]; · iexact H9
  isplitl [H12]
  · iapply (pointsTo_rep_of_read (c : Thread nD τ) arg12 _ fullShare _ ?h12)
    case h12 =>
      rw [read_putK _ _ (j 3) (k0_off3_inb i k 3) _ _ c3, read_putK _ _ (j 2) (k0_off3_inb i k 2) _ _ c2, read_putK _ _ (j 1) (k0_off3_inb i k 1) _ _ c1, read_putK _ _ (j 0) (k0_off3_inb i k 0) _ _ c0, View.writes_nil, View.read_rep]
      simp only [step, slabK_putK_ne _ n01, slabK_putK_ne _ n02, slabK_putK_ne _ n03, slabK_putK_ne _ n12, slabK_putK_ne _ n13, slabK_putK_ne _ n23]
      sl_open_pay; rfl
    iexact H12
  · iapply (pointsTo_rep_of_read (c : Thread nD τ) arg13 _ fullShare _ ?h13)
    case h13 =>
      rw [read_putV _ _ (j 3) (k0_off2_inb i k 3) _ _ b3, read_putV _ _ (j 2) (k0_off2_inb i k 2) _ _ b2, read_putV _ _ (j 1) (k0_off2_inb i k 1) _ _ b1, read_putV _ _ (j 0) (k0_off2_inb i k 0) _ _ b0, View.writes_nil, View.read_rep]
      simp only [step, slabV_putV_ne _ n01, slabV_putV_ne _ n02, slabV_putV_ne _ n03, slabV_putV_ne _ n12, slabV_putV_ne _ n13, slabV_putV_ne _ n23]
      sl_open_pay; rfl
    iexact H13

end Cert.KernelIdeal.Body

end
-- ==== Proof.Rows.lean ====
/- One trip of the loop over single key blocks, and the invariants of the two loops. -/
module

public import proofs.«01_k».proof.Proof.Trip1
public import Idealize.ShloMosaic.Lib.Exec
public import Idealize.ShloMosaic.Lib.Tactic.Stretches
public import Idealize.ShloMosaic.Lib.Tactic
public import Idealize.ShloMosaic.Lib.Pipeline.Kit

@[expose] public section

set_option maxRecDepth 16384
set_option maxHeartbeats 4000000

noncomputable section

namespace Cert.KernelIdeal.Body

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- One trip adds one key block. -/
theorem trip3 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v8 : FVec F S64x640 .bf16) (v32 : FVec F S128x640 .bf16) (v45 : FVec F S128x640 .bf16) (v49 : FVec F S80x640 .bf16) (v74 : FVec F S80x640 .f32) (c4_i32_33 : BitVec 32) (v75 : BitVec 32) (v76 : BitVec 1) (v92 : BitVec 32)
    (K : Keys F) (s : St F) (k : Fin (k0_t3_loop i).trips) (j : Fin 13) (hj : j.val = 4 * ((i 1).val / 4) + k.val) :
    (Held c arg7 arg8 arg9 arg12 arg13 K s.dk s.dv : sProp 𝕄G) ⊢
      wp frame (wpE (defs₀ (F := F)) 𝒱 (c : Thread nD τ) bd) E
        (k0_t3_body (F := F) i arg2 harg2 arg3 harg3 arg4 harg4 arg5 harg5 arg6 harg6 arg7 harg7 arg8 harg8 arg9 harg9 arg10 harg10 arg11 harg11 arg12 harg12 arg13 harg13 arg1 v8 v32 v45 v49 v74 c4_i32_33 v75 v76 v92 k s.dq)
        (fun yld => iprop(⌜yld = (step ⟨v8, v32, v45, v49⟩ K j s).dq⌝
          ∗ Held c arg7 arg8 arg9 arg12 arg13 K (step ⟨v8, v32, v45, v49⟩ K j s).dk (step ⟨v8, v32, v45, v49⟩ K j s).dv)) := by
  have a0 : k0_off7 i k = ![0, 640 * j.val, 0] := by rw [hj]; exact off7_eq i k
  have b0 : k0_off8 i k = ![0, j.val, 0, 0] := by rw [hj]; exact off8_eq i k
  have c0 : k0_off9 i k = ![0, j.val, 0, 0] := by rw [hj]; exact off9_eq i k
  have r7 := readAt_rows arg7.view K.k j (k0_off7_inb i k) a0
  have r8 := readAt_rows arg8.view K.v j (k0_off7_inb i k) a0
  have r9 := readAt_slabT arg9.view K.kT j (k0_off9_inb i k) c0
  have rk := readAt_slabK arg12.view s.dk j (k0_off9_inb i k) c0
  have rv := readAt_slabV arg13.view s.dv j (k0_off8_inb i k) b0
  unfold k0_t3_body
  iintro ⟨H7, H8, H9, H12, H13⟩
  sl_exec
  sl_step
  sl_unfold_run_names
  simp only [r7, r8, r9, rk, rv]
  isplitr
  · ipureintro; rfl
  isplitl [H7]; · iexact H7
  isplitl [H8]; · iexact H8
  isplitl [H9]; · iexact H9
  isplitl [H12]
  · iapply (pointsTo_rep_of_read (c : Thread nD τ) arg12 _ fullShare _ ?h12)
    case h12 =>
      rw [read_putK _ _ j (k0_off9_inb i k) _ _ c0, View.writes_nil, View.read_rep]
      rfl
    iexact H12
  · iapply (pointsTo_rep_of_read (c : Thread nD τ) arg13 _ fullShare _ ?h13)
    case h13 =>
      rw [read_putV _ _ j (k0_off8_inb i k) _ _ b0, View.writes_nil, View.read_rep]
      rfl
    iexact H13

/-- The loop over four blocks at a time: before trip `k`, `4 k` blocks are added. -/
@[sl_loop] def loop1 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v6 : FVec F S64x640 .bf16) (v8 : FVec F S64x640 .bf16) (v15 : FVec F S1x640 .f32) (v16 : FVec F S3x640 .bf16) (v32 : FVec F S128x640 .bf16) (v33 : FVec F S1x640 .f32) (init : FVec F S80x640 .f32)
    (k7 k8 : FVec F S1x8320x128 .bf16) (k9 : FVec F S1x13x80x640 .bf16) (dk : FVec F S1x13x80x640 .f32) (dv : FVec F S1x13x64x640 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg1 v6 v8 v15 v16 v32 v33 init where
  inv := fun k acc => iprop((arg7.view.loc (c : Thread nD τ) ↦[arg7.view.set]{fullShare} arg7.view.rep k7)
    ∗ (arg8.view.loc (c : Thread nD τ) ↦[arg8.view.set]{fullShare} arg8.view.rep k8)
    ∗ (arg9.view.loc (c : Thread nD τ) ↦[arg9.view.set]{fullShare} arg9.view.rep k9)
    ∗ (arg12.view.loc (c : Thread nD τ) ↦[arg12.view.set]{fullShare} arg12.view.rep (chain ⟨v8, v32, k0_pay56 v8 v15 v33, k0_pay57 v6 v16⟩ ⟨k7, k8, k9⟩ 0 ⟨init, dk, dv⟩ (4 * k)).dk)
    ∗ (arg13.view.loc (c : Thread nD τ) ↦[arg13.view.set]{fullShare} arg13.view.rep (chain ⟨v8, v32, k0_pay56 v8 v15 v33, k0_pay57 v6 v16⟩ ⟨k7, k8, k9⟩ 0 ⟨init, dk, dv⟩ (4 * k)).dv)
    ∗ ⌜acc = (chain ⟨v8, v32, k0_pay56 v8 v15 v33, k0_pay57 v6 v16⟩ ⟨k7, k8, k9⟩ 0 ⟨init, dk, dv⟩ (4 * k)).dq⌝)
  step := fun k acc => by
    have hk : 4 * k.val + 4 ≤ 13 := by
      have h1 : k.val < _ := lt_of_lt_of_eq k.isLt (trips1 i)
      have h2 := i1_lt i
      omega
    have e : chain ⟨v8, v32, k0_pay56 v8 v15 v33, k0_pay57 v6 v16⟩ ⟨k7, k8, k9⟩ 0 ⟨init, dk, dv⟩ (4 * (k.val + 1))
        = (step ⟨v8, v32, k0_pay56 v8 v15 v33, k0_pay57 v6 v16⟩ ⟨k7, k8, k9⟩ ⟨4 * k.val + 3, by omega⟩ (step ⟨v8, v32, k0_pay56 v8 v15 v33, k0_pay57 v6 v16⟩ ⟨k7, k8, k9⟩ ⟨4 * k.val + 2, by omega⟩
          (step ⟨v8, v32, k0_pay56 v8 v15 v33, k0_pay57 v6 v16⟩ ⟨k7, k8, k9⟩ ⟨4 * k.val + 1, by omega⟩ (step ⟨v8, v32, k0_pay56 v8 v15 v33, k0_pay57 v6 v16⟩ ⟨k7, k8, k9⟩ ⟨4 * k.val + 0, by omega⟩
            (chain ⟨v8, v32, k0_pay56 v8 v15 v33, k0_pay57 v6 v16⟩ ⟨k7, k8, k9⟩ 0 ⟨init, dk, dv⟩ (4 * k.val)))))) := by
      rw [show 4 * (k.val + 1) = 4 * k.val + 3 + 1 from by omega, chain_succ _ _ _ _ _ (by omega), chain_succ _ _ _ _ _ (by omega),
        chain_succ _ _ _ _ _ (by omega), chain_succ _ _ _ _ _ (by omega)]
      simp only [Nat.zero_add, Nat.add_zero]
    iintro ⟨H7, H8, H9, H12, H13, %hacc⟩
    subst hacc
    rw [e]
    iapply (wp_wand_r Idealize.ShloMosaic.frame (wpE (defs₀ (F := F)) 𝒱 (c : Thread nD τ) bd) E)
    isplitl [H7 H8 H9 H12 H13]
    · iapply (trip1 𝒱 c bd E i arg2 harg2 arg3 harg3 arg4 harg4 arg5 harg5 arg6 harg6 arg7 harg7 arg8 harg8 arg9 harg9 arg10 harg10 arg11 harg11 arg12 harg12 arg13 harg13 arg1 v6 v8 v15 v16 v32 v33 ⟨k7, k8, k9⟩ _ k (fun r => ⟨4 * k.val + r.val, by omega⟩) (fun r => rfl))
      isplitl [H7]; · iexact H7
      isplitl [H8]; · iexact H8
      isplitl [H9]; · iexact H9
      isplitl [H12]; · iexact H12
      iexact H13
    · iintro %yld ⟨%hy, H7, H8, H9, H12, H13⟩
      isplitl [H7]; · iexact H7
      isplitl [H8]; · iexact H8
      isplitl [H9]; · iexact H9
      isplitl [H12]; · iexact H12
      isplitl [H13]; · iexact H13
      ipureintro; exact hy

/-- The loop over single blocks: before trip `k`, `k` blocks from block `4 (i / 4)` on are added. -/
@[sl_loop] def loop3 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v8 : FVec F S64x640 .bf16) (v32 : FVec F S128x640 .bf16) (v45 : FVec F S128x640 .bf16) (v49 : FVec F S80x640 .bf16) (v74 : FVec F S80x640 .f32) (c4_i32_33 : BitVec 32) (v75 : BitVec 32) (v76 : BitVec 1) (v92 : BitVec 32) (init : FVec F S80x640 .f32)
    (k7 k8 : FVec F S1x8320x128 .bf16) (k9 : FVec F S1x13x80x640 .bf16) (dk : FVec F S1x13x80x640 .f32) (dv : FVec F S1x13x64x640 .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg1 v8 v32 v45 v49 v74 c4_i32_33 v75 v76 v92 init where
  inv := fun k acc => iprop((arg7.view.loc (c : Thread nD τ) ↦[arg7.view.set]{fullShare} arg7.view.rep k7)
    ∗ (arg8.view.loc (c : Thread nD τ) ↦[arg8.view.set]{fullShare} arg8.view.rep k8)
    ∗ (arg9.view.loc (c : Thread nD τ) ↦[arg9.view.set]{fullShare} arg9.view.rep k9)
    ∗ (arg12.view.loc (c : Thread nD τ) ↦[arg12.view.set]{fullShare} arg12.view.rep (chain ⟨v8, v32, v45, v49⟩ ⟨k7, k8, k9⟩ (4 * ((i 1).val / 4)) ⟨init, dk, dv⟩ k).dk)
    ∗ (arg13.view.loc (c : Thread nD τ) ↦[arg13.view.set]{fullShare} arg13.view.rep (chain ⟨v8, v32, v45, v49⟩ ⟨k7, k8, k9⟩ (4 * ((i 1).val / 4)) ⟨init, dk, dv⟩ k).dv)
    ∗ ⌜acc = (chain ⟨v8, v32, v45, v49⟩ ⟨k7, k8, k9⟩ (4 * ((i 1).val / 4)) ⟨init, dk, dv⟩ k).dq⌝)
  step := fun k acc => by
    have hk : 4 * ((i 1).val / 4) + k.val < 13 := by
      have h1 : k.val < _ := lt_of_lt_of_eq k.isLt (trips3 i)
      have h2 := i1_lt i
      omega
    have e := chain_succ ⟨v8, v32, v45, v49⟩ ⟨k7, k8, k9⟩ (4 * ((i 1).val / 4)) ⟨init, dk, dv⟩ k.val hk
    iintro ⟨H7, H8, H9, H12, H13, %hacc⟩
    subst hacc
    rw [e]
    iapply (wp_wand_r Idealize.ShloMosaic.frame (wpE (defs₀ (F := F)) 𝒱 (c : Thread nD τ) bd) E)
    isplitl [H7 H8 H9 H12 H13]
    · iapply (trip3 𝒱 c bd E i arg2 harg2 arg3 harg3 arg4 harg4 arg5 harg5 arg6 harg6 arg7 harg7 arg8 harg8 arg9 harg9 arg10 harg10 arg11 harg11 arg12 harg12 arg13 harg13 arg1 v8 v32 v45 v49 v74 c4_i32_33 v75 v76 v92 ⟨k7, k8, k9⟩ _ k ⟨4 * ((i 1).val / 4) + k.val, hk⟩ rfl)
      isplitl [H7]; · iexact H7
      isplitl [H8]; · iexact H8
      isplitl [H9]; · iexact H9
      isplitl [H12]; · iexact H12
      iexact H13
    · iintro %yld ⟨%hy, H7, H8, H9, H12, H13⟩
      isplitl [H7]; · iexact H7
      isplitl [H8]; · iexact H8
      isplitl [H9]; · iexact H9
      isplitl [H12]; · iexact H12
      isplitl [H13]; · iexact H13
      ipureintro; exact hy

end Cert.KernelIdeal.Body

end
-- ==== Proof.Entry.lean ====
/- The start of a grid point: the slabs zeroed at the first query tile of a head, and the values the tile fixes. -/
module

public import proofs.«01_k».proof.Proof.Rows
public import Idealize.ShloMosaic.Lib.Exec
public import Idealize.ShloMosaic.Lib.Tactic.Stretches
public import Idealize.ShloMosaic.Lib.Tactic
public import Idealize.ShloMosaic.Lib.Pipeline.Kit

@[expose] public section

set_option maxRecDepth 16384
set_option maxHeartbeats 4000000

noncomputable section

namespace Cert.KernelIdeal.Body

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- What a query tile fixes, from its blocks of `q`, `o`, `do`, `lse` and `c`. -/
def query (x2 x3 x4 : FVec F S1x64x640 .bf16) (x5 x6 : FVec F S1x1x640 .f32) : Query F where
  dO := k0_pay51 x4
  qa := k0_pay54 x2 x6 x5
  da := k0_pay56 (k0_pay51 x4) (k0_pay52 x4 x3) (k0_pay55 (F := F))
  q1 := k0_pay57 (k0_pay50 x2) (k0_pay53 (F := F))

/-- The printed test of the first query tile. -/
theorem first_iff : ∀ i : grid0.Coords,
    (Scalar.cmpi .ne (Scalar.extui (Scalar.cmpi .eq (BitVec.ofNat 32 (i 1).val) 0#32) : BitVec 32) 0#32 = 1#1) ↔ (i 1).val = 0 := by
  decide +kernel

set_option maxRecDepth 65536 in
theorem part11 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (x2 x3 x4 : FVec F S1x64x640 .bf16) (x5 x6 : FVec F S1x1x640 .f32)
    (f12 : BufTy.Contents (Elt F) arg12.view.ty) (f13 : BufTy.Contents (Elt F) arg13.view.ty)
    (dk : FVec F S1x13x80x640 .f32) (dv : FVec F S1x13x64x640 .f32)
    (h0 : (i 1).val = 0 → dk = k0_pay48 (F := F) ∧ dv = k0_pay49 (F := F))
    (hn : (i 1).val ≠ 0 → arg12.view.read (Elt F) f12 = dk ∧ arg13.view.read (Elt F) f13 = dv) :
    (iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg12.view.loc (c : Thread nD τ) ↦[arg12.view.set]{fullShare} f12) ∗ (arg13.view.loc (c : Thread nD τ) ↦[arg13.view.set]{fullShare} f13)) : sProp 𝕄G) ⊢
      wp frame (wpE (defs₀ (F := F)) 𝒱 (c : Thread nD τ) bd) E (k0_part11 (F := F) i arg2 harg2 arg3 harg3 arg4 harg4 arg5 harg5 arg6 harg6 arg7 harg7 arg8 harg8 arg9 harg9 arg10 harg10 arg11 harg11 arg12 harg12 arg13 harg13)
        (fun r => iprop(⌜r = ⟨BitVec.ofNat 32 (i 1).val, k0_pay50 x2, k0_pay51 x4, k0_pay52 x4 x3, k0_pay53 (F := F), k0_pay54 x2 x6 x5, k0_pay55 (F := F)⟩⌝
          ∗ (arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg12.view.loc (c : Thread nD τ) ↦[arg12.view.set]{fullShare} arg12.view.rep dk) ∗ (arg13.view.loc (c : Thread nD τ) ↦[arg13.view.set]{fullShare} arg13.view.rep dv))) := by
  have e2 := View.readAt_rep_full (Val := Elt F) arg2.view x2 inb_S1x64x640_S1x64x640_0_0_0
  have e3 := View.readAt_rep_full (Val := Elt F) arg3.view x3 inb_S1x64x640_S1x64x640_0_0_0
  have e4 := View.readAt_rep_full (Val := Elt F) arg4.view x4 inb_S1x64x640_S1x64x640_0_0_0
  have e5 := View.readAt_rep_full (Val := Elt F) arg5.view x5 inb_S1x1x640_S1x1x640_0_0_0
  have e6 := View.readAt_rep_full (Val := Elt F) arg6.view x6 inb_S1x1x640_S1x1x640_0_0_0
  rw [k0_part11_eq_skeleton]
  unfold k0_part11_skel
  by_cases hi : (i 1).val = 0
  · have hC := (first_iff i).mpr hi
    obtain ⟨rfl, rfl⟩ := h0 hi
    iintro ⟨H2, H3, H4, H5, H6, H12, H13⟩
    sl_exec
    sl_step
    sl_unfold_run_names
    simp only [e2, e3, e4, e5, e6]
    isplitr
    · ipureintro; trivial
    isplitl [H2]; · iexact H2
    isplitl [H3]; · iexact H3
    isplitl [H4]; · iexact H4
    isplitl [H5]; · iexact H5
    isplitl [H6]; · iexact H6
    isplitl [H12]
    · iapply (pointsTo_rep_of_read (c : Thread nD τ) arg12 _ fullShare _ ?h12)
      case h12 => exact View.read_writes_full (Val := Elt F) arg12.view f12 inb_S1x13x80x640_S1x13x80x640_0_0_0_0 (k0_pay48 (F := F)) []
      iexact H12
    · iapply (pointsTo_rep_of_read (c : Thread nD τ) arg13 _ fullShare _ ?h13)
      case h13 => exact View.read_writes_full (Val := Elt F) arg13.view f13 inb_S1x13x64x640_S1x13x64x640_0_0_0_0 (k0_pay49 (F := F)) []
      iexact H13
  · have hC := fun h => hi ((first_iff i).mp h)
    obtain ⟨h12, h13⟩ := hn hi
    iintro ⟨H2, H3, H4, H5, H6, H12, H13⟩
    sl_exec
    sl_step
    sl_unfold_run_names
    simp only [e2, e3, e4, e5, e6, dif_neg hC]
    isplitr
    · ipureintro; trivial
    isplitl [H2]; · iexact H2
    isplitl [H3]; · iexact H3
    isplitl [H4]; · iexact H4
    isplitl [H5]; · iexact H5
    isplitl [H6]; · iexact H6
    isplitl [H12]
    · iapply (pointsTo_rep_of_read (c : Thread nD τ) arg12 _ fullShare _ ?h12)
      case h12 => exact h12
      iexact H12
    · iapply (pointsTo_rep_of_read (c : Thread nD τ) arg13 _ fullShare _ ?h13)
      case h13 => exact h13
      iexact H13

end Cert.KernelIdeal.Body

end
-- ==== Proof.Mid.lean ====
/- The two loops over four key blocks at a time and over single ones, each followed by a remainder that makes no trip, and
   the masked block at the query tile's own keys. -/
module

public import proofs.«01_k».proof.Proof.Entry
public import Idealize.ShloMosaic.Lib.LoopRemainder
public import Idealize.ShloMosaic.Lib.Exec
public import Idealize.ShloMosaic.Lib.Tactic.Stretches
public import Idealize.ShloMosaic.Lib.Tactic
public import Idealize.ShloMosaic.Lib.Pipeline.Kit

@[expose] public section

set_option maxRecDepth 16384
set_option maxHeartbeats 4000000

noncomputable section

namespace Cert.KernelIdeal.Body

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

set_option maxRecDepth 65536 in
/-- The loop over four blocks at a time adds blocks `0 … 4 (i / 4)`. -/
theorem part12 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (v6 v8 : FVec F S64x640 .bf16) (v15 : FVec F S1x640 .f32) (v16 : FVec F S3x640 .bf16) (v32 : FVec F S128x640 .bf16) (v33 : FVec F S1x640 .f32)
    (K : Keys F) (dk : FVec F S1x13x80x640 .f32) (dv : FVec F S1x13x64x640 .f32) :
    (Held c arg7 arg8 arg9 arg12 arg13 K dk dv : sProp 𝕄G) ⊢
      wp frame (wpE (defs₀ (F := F)) 𝒱 (c : Thread nD τ) bd) E (k0_part12 (F := F) i arg2 harg2 arg3 harg3 arg4 harg4 arg5 harg5 arg6 harg6 arg7 harg7 arg8 harg8 arg9 harg9 arg10 harg10 arg11 harg11 arg12 harg12 arg13 harg13 (BitVec.ofNat 32 (i 1).val) v6 v8 v15 v16 v32 v33)
        (fun r => iprop(⌜r = ⟨k0_pay56 v8 v15 v33, k0_pay57 v6 v16, (chain (⟨v8, v32, k0_pay56 v8 v15 v33, k0_pay57 v6 v16⟩ : Query F) K 0 ⟨k0_pay58, dk, dv⟩ (4 * ((i 1).val / 4))).dq, 4#32,
            Scalar.divsi (BitVec.ofNat 32 (i 1).val) 4#32, Scalar.cmpi .sgt (BitVec.ofNat 32 (i 1).val) 0#32⟩⌝
          ∗ Held c arg7 arg8 arg9 arg12 arg13 K (chain (⟨v8, v32, k0_pay56 v8 v15 v33, k0_pay57 v6 v16⟩ : Query F) K 0 ⟨k0_pay58, dk, dv⟩ (4 * ((i 1).val / 4))).dk (chain (⟨v8, v32, k0_pay56 v8 v15 v33, k0_pay57 v6 v16⟩ : Query F) K 0 ⟨k0_pay58, dk, dv⟩ (4 * ((i 1).val / 4))).dv)) := by
  have ht : Scf.trips (k0_t1_loop i).lb (k0_t1_loop i).ub (k0_t1_loop i).st = (i 1).val / 4 := trips1 i
  rw [k0_part12_eq_skeleton]
  unfold k0_part12_skel
  iintro ⟨H7, H8, H9, H12, H13⟩
  sl_exec
  sl_step
  rw [ht]
  isplitr
  · ipureintro; trivial
  isplitl [H7]; · iexact H7
  isplitl [H8]; · iexact H8
  isplitl [H9]; · iexact H9
  isplitl [H12]; · iexact H12
  iexact H13

set_option maxRecDepth 65536 in
/-- The loop over single blocks adds blocks `4 (i / 4) … i`. -/
theorem part13 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (v8 : FVec F S64x640 .bf16) (v32 v45 : FVec F S128x640 .bf16) (v49 : FVec F S80x640 .bf16)
    (K : Keys F) (s : St F) :
    (Held c arg7 arg8 arg9 arg12 arg13 K s.dk s.dv : sProp 𝕄G) ⊢
      wp frame (wpE (defs₀ (F := F)) 𝒱 (c : Thread nD τ) bd) E (k0_part13 (F := F) i arg2 harg2 arg3 harg3 arg4 harg4 arg5 harg5 arg6 harg6 arg7 harg7 arg8 harg8 arg9 harg9 arg10 harg10 arg11 harg11 arg12 harg12 arg13 harg13 (BitVec.ofNat 32 (i 1).val) v8 v32 v45 v49 s.dq 4#32
          (Scalar.divsi (BitVec.ofNat 32 (i 1).val) 4#32) (Scalar.cmpi .sgt (BitVec.ofNat 32 (i 1).val) 0#32))
        (fun r => iprop(⌜r = ⟨(chain ⟨v8, v32, v45, v49⟩ K (4 * ((i 1).val / 4)) s ((i 1).val % 4)).dq,
            k0_pay67 v32 (rows K.k (i 1)), k0_pay68 v32 v45 (rows K.k (i 1)) (rows K.v (i 1))⟩⌝
          ∗ Held c arg7 arg8 arg9 arg12 arg13 K (chain ⟨v8, v32, v45, v49⟩ K (4 * ((i 1).val / 4)) s ((i 1).val % 4)).dk (chain ⟨v8, v32, v45, v49⟩ K (4 * ((i 1).val / 4)) s ((i 1).val % 4)).dv)) := by
  have ht : Scf.trips (k0_t3_loop i).lb (k0_t3_loop i).ub (k0_t3_loop i).st = (i 1).val % 4 := trips3 i
  have r7 := readAt_rows arg7.view K.k (i 1) (k0_off13_inb i) (off13_eq i)
  have r8 := readAt_rows arg8.view K.v (i 1) (k0_off13_inb i) (off13_eq i)
  rw [k0_part13_eq_skeleton]
  unfold k0_part13_skel
  iintro ⟨H7, H8, H9, H12, H13⟩
  sl_exec
  sl_step
  sl_unfold_run_names
  rw [ht]
  simp only [r7, r8]
  isplitr
  · ipureintro; trivial
  isplitl [H7]; · iexact H7
  isplitl [H8]; · iexact H8
  isplitl [H9]; · iexact H9
  isplitl [H12]; · iexact H12
  iexact H13

set_option maxRecDepth 65536 in
/-- The masked block, and the two results of the query tile. -/
theorem part14 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (Q : Query F)
    (K : Keys F) (s : St F) (f10 : BufTy.Contents (Elt F) arg10.view.ty) (f11 : BufTy.Contents (Elt F) arg11.view.ty) :
    (iprop((arg10.view.loc (c : Thread nD τ) ↦[arg10.view.set]{fullShare} f10) ∗ (arg11.view.loc (c : Thread nD τ) ↦[arg11.view.set]{fullShare} f11) ∗ Held c arg7 arg8 arg9 arg12 arg13 K s.dk s.dv) : sProp 𝕄G) ⊢
      wp frame (wpE (defs₀ (F := F)) 𝒱 (c : Thread nD τ) bd) E (k0_part14 (F := F) i arg2 harg2 arg3 harg3 arg4 harg4 arg5 harg5 arg6 harg6 arg7 harg7 arg8 harg8 arg9 harg9 arg10 harg10 arg11 harg11 arg12 harg12 arg13 harg13 (BitVec.ofNat 32 (i 1).val) Q.dO Q.q1 s.dq
          (k0_pay67 Q.qa (rows K.k (i 1))) (k0_pay68 Q.qa Q.da (rows K.k (i 1)) (rows K.v (i 1))))
        (fun r => iprop(⌜r = k0_pay73 s.dq (k0_pay68 Q.qa Q.da (rows K.k (i 1)) (rows K.v (i 1))) (slabK K.kT (i 1))⌝
          ∗ (arg10.view.loc (c : Thread nD τ) ↦[arg10.view.set]{fullShare} arg10.view.rep (k0_pay72 s.dq (k0_pay68 Q.qa Q.da (rows K.k (i 1)) (rows K.v (i 1))) (slabK K.kT (i 1))))
          ∗ (arg11.view.loc (c : Thread nD τ) ↦[arg11.view.set]{fullShare} f11)
          ∗ Held c arg7 arg8 arg9 arg12 arg13 K (last Q K (i 1) s).dk (last Q K (i 1) s).dv)) := by
  have r9 := readAt_slabT arg9.view K.kT (i 1) (k0_off15_inb i) (off15_eq i)
  have rk := readAt_slabK arg12.view s.dk (i 1) (k0_off15_inb i) (off15_eq i)
  have rv := readAt_slabV arg13.view s.dv (i 1) (k0_off14_inb i) (off14_eq i)
  rw [k0_part14_eq_skeleton]
  unfold k0_part14_skel
  iintro ⟨H10, H11, H7, H8, H9, H12, H13⟩
  sl_exec
  sl_step
  sl_unfold_run_names
  simp only [r9, rk, rv]
  isplitr
  · ipureintro; trivial
  isplitl [H10]
  · iapply (pointsTo_rep_of_read (c : Thread nD τ) arg10 _ fullShare _ ?h10)
    case h10 => exact View.read_writes_full (Val := Elt F) arg10.view f10 inb_S1x64x640_S1x64x640_0_0_0 _ []
    iexact H10
  isplitl [H11]; · iexact H11
  isplitl [H7]; · iexact H7
  isplitl [H8]; · iexact H8
  isplitl [H9]; · iexact H9
  isplitl [H12]
  · iapply (pointsTo_rep_of_read (c : Thread nD τ) arg12 _ fullShare _ ?h12)
    case h12 =>
      rw [read_putK _ _ (i 1) (k0_off15_inb i) _ _ (off15_eq i), View.writes_nil, View.read_rep]
      rfl
    iexact H12
  · iapply (pointsTo_rep_of_read (c : Thread nD τ) arg13 _ fullShare _ ?h13)
    case h13 =>
      rw [read_putV _ _ (i 1) (k0_off14_inb i) _ _ (off14_eq i), View.writes_nil, View.read_rep]
      rfl
    iexact H13

end Cert.KernelIdeal.Body

end
-- ==== Proof.Tile.lean ====
/- One grid point of the attention gradient. -/
module

public import proofs.«01_k».proof.Proof.Mid
public import Idealize.ShloMosaic.Lib.Exec
public import Idealize.ShloMosaic.Lib.Tactic.Stretches
public import Idealize.ShloMosaic.Lib.Tactic
public import Idealize.ShloMosaic.Lib.Pipeline.Kit

@[expose] public section

set_option maxRecDepth 16384
set_option maxHeartbeats 4000000

noncomputable section

namespace Cert.KernelIdeal.Body

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The state before the masked block: blocks `0 … i` added to zero `dq` and to the slabs as the point finds them. -/
def before (Q : Query F) (K : Keys F) (dk : FVec F S1x13x80x640 .f32) (dv : FVec F S1x13x64x640 .f32) (n : ℕ) : St F :=
  chain Q K 0 ⟨k0_pay58, dk, dv⟩ n

/-- What query tile `j` of a head writes: its `dq` and `dcq`, and the slabs. -/
def outDq (Q : Query F) (K : Keys F) (dk : FVec F S1x13x80x640 .f32) (dv : FVec F S1x13x64x640 .f32) (j : Fin 13) : FVec F S1x64x640 .bf16 :=
  k0_pay72 (before Q K dk dv j.val).dq (k0_pay68 Q.qa Q.da (rows K.k j) (rows K.v j)) (slabK K.kT j)
def outDcq (Q : Query F) (K : Keys F) (dk : FVec F S1x13x80x640 .f32) (dv : FVec F S1x13x64x640 .f32) (j : Fin 13) : FVec F S1x1x640 .f32 :=
  k0_pay1 (k0_pay73 (before Q K dk dv j.val).dq (k0_pay68 Q.qa Q.da (rows K.k j) (rows K.v j)) (slabK K.kT j))
def outSt (Q : Query F) (K : Keys F) (dk : FVec F S1x13x80x640 .f32) (dv : FVec F S1x13x64x640 .f32) (j : Fin 13) : St F :=
  last Q K j (before Q K dk dv j.val)

set_option maxRecDepth 65536 in
theorem tile_run (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (x2 x3 x4 : FVec F S1x64x640 .bf16) (x5 x6 : FVec F S1x1x640 .f32) (K : Keys F)
    (f10 : BufTy.Contents (Elt F) arg10.view.ty) (f11 : BufTy.Contents (Elt F) arg11.view.ty)
    (f12 : BufTy.Contents (Elt F) arg12.view.ty) (f13 : BufTy.Contents (Elt F) arg13.view.ty)
    (dk : FVec F S1x13x80x640 .f32) (dv : FVec F S1x13x64x640 .f32)
    (h0 : (i 1).val = 0 → dk = k0_pay48 (F := F) ∧ dv = k0_pay49 (F := F))
    (hn : (i 1).val ≠ 0 → arg12.view.read (Elt F) f12 = dk ∧ arg13.view.read (Elt F) f13 = dv) :
    (iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep K.k) ∗ (arg8.view.loc (c : Thread nD τ) ↦[arg8.view.set]{fullShare} arg8.view.rep K.v) ∗ (arg9.view.loc (c : Thread nD τ) ↦[arg9.view.set]{fullShare} arg9.view.rep K.kT) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G) ⊢
      wp frame (wpE (defs₀ (F := F)) 𝒱 (c : Thread nD τ) bd) E (cc0_attn_bwd (F := F) i arg2 harg2 arg3 harg3 arg4 harg4 arg5 harg5 arg6 harg6 arg7 harg7 arg8 harg8 arg9 harg9 arg10 harg10 arg11 harg11 arg12 harg12 arg13 harg13)
        (fun _ => iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep K.k) ∗ (arg8.view.loc (c : Thread nD τ) ↦[arg8.view.set]{fullShare} arg8.view.rep K.v) ∗ (arg9.view.loc (c : Thread nD τ) ↦[arg9.view.set]{fullShare} arg9.view.rep K.kT)
          ∗ (arg10.view.loc (c : Thread nD τ) ↦[arg10.view.set]{fullShare} arg10.view.rep (outDq (query x2 x3 x4 x5 x6) K dk dv (i 1)))
          ∗ (arg11.view.loc (c : Thread nD τ) ↦[arg11.view.set]{fullShare} arg11.view.rep (outDcq (query x2 x3 x4 x5 x6) K dk dv (i 1)))
          ∗ (arg12.view.loc (c : Thread nD τ) ↦[arg12.view.set]{fullShare} arg12.view.rep (outSt (query x2 x3 x4 x5 x6) K dk dv (i 1)).dk)
          ∗ (arg13.view.loc (c : Thread nD τ) ↦[arg13.view.set]{fullShare} arg13.view.rep (outSt (query x2 x3 x4 x5 x6) K dk dv (i 1)).dv))) := by
  have h11 := part11 𝒱 c bd E i arg2 harg2 arg3 harg3 arg4 harg4 arg5 harg5 arg6 harg6 arg7 harg7 arg8 harg8 arg9 harg9 arg10 harg10 arg11 harg11 arg12 harg12 arg13 harg13 x2 x3 x4 x5 x6 f12 f13 dk dv h0 hn
  have h12 := part12 𝒱 c bd E i arg2 harg2 arg3 harg3 arg4 harg4 arg5 harg5 arg6 harg6 arg7 harg7 arg8 harg8 arg9 harg9 arg10 harg10 arg11 harg11 arg12 harg12 arg13 harg13 (k0_pay50 x2) (k0_pay51 x4) (k0_pay52 x4 x3) (k0_pay53 (F := F)) (k0_pay54 x2 x6 x5) (k0_pay55 (F := F)) K dk dv
  have h13 := part13 𝒱 c bd E i arg2 harg2 arg3 harg3 arg4 harg4 arg5 harg5 arg6 harg6 arg7 harg7 arg8 harg8 arg9 harg9 arg10 harg10 arg11 harg11 arg12 harg12 arg13 harg13 (k0_pay51 x4) (k0_pay54 x2 x6 x5) (k0_pay56 (k0_pay51 x4) (k0_pay52 x4 x3) (k0_pay55 (F := F))) (k0_pay57 (k0_pay50 x2) (k0_pay53 (F := F))) K
    (chain (query x2 x3 x4 x5 x6) K 0 ⟨k0_pay58, dk, dv⟩ (4 * ((i 1).val / 4)))
  have h14 := part14 𝒱 c bd E i arg2 harg2 arg3 harg3 arg4 harg4 arg5 harg5 arg6 harg6 arg7 harg7 arg8 harg8 arg9 harg9 arg10 harg10 arg11 harg11 arg12 harg12 arg13 harg13 (query x2 x3 x4 x5 x6) K
    (chain (query x2 x3 x4 x5 x6) K (4 * ((i 1).val / 4)) (chain (query x2 x3 x4 x5 x6) K 0 ⟨k0_pay58, dk, dv⟩ (4 * ((i 1).val / 4))) ((i 1).val % 4)) f10 f11
  have hc : chain (query x2 x3 x4 x5 x6) K (4 * ((i 1).val / 4)) (chain (query x2 x3 x4 x5 x6) K 0 ⟨k0_pay58, dk, dv⟩ (4 * ((i 1).val / 4))) ((i 1).val % 4)
      = before (query x2 x3 x4 x5 x6) K dk dv (i 1).val := by
    have e := chain_chain (query x2 x3 x4 x5 x6) K 0 (4 * ((i 1).val / 4)) ((i 1).val % 4) ⟨k0_pay58, dk, dv⟩
    rw [Nat.zero_add] at e
    rw [e, Nat.div_add_mod]
    rfl
  rw [cc0_attn_bwd_eq_skeleton]
  unfold cc0_attn_bwd_skel
  iintro ⟨H2, H3, H4, H5, H6, H7, H8, H9, H10, H11, H12, H13⟩
  rw [wp_bind]
  iapply (wp_wand_r _ _ _)
  isplitl [H2 H3 H4 H5 H6 H12 H13]
  · iapply h11
    isplitl [H2]; · iexact H2
    isplitl [H3]; · iexact H3
    isplitl [H4]; · iexact H4
    isplitl [H5]; · iexact H5
    isplitl [H6]; · iexact H6
    isplitl [H12]; · iexact H12
    iexact H13
  iintro %r ⟨%e, H2, H3, H4, H5, H6, H12, H13⟩
  subst e
  dsimp only
  rw [wp_bind]
  iapply (wp_wand_r _ _ _)
  isplitl [H7 H8 H9 H12 H13]
  · iapply h12
    isplitl [H7]; · iexact H7
    isplitl [H8]; · iexact H8
    isplitl [H9]; · iexact H9
    isplitl [H12]; · iexact H12
    iexact H13
  iintro %r ⟨%e, H7, H8, H9, H12, H13⟩
  subst e
  dsimp only
  rw [wp_bind]
  iapply (wp_wand_r _ _ _)
  isplitl [H7 H8 H9 H12 H13]
  · iapply h13
    isplitl [H7]; · iexact H7
    isplitl [H8]; · iexact H8
    isplitl [H9]; · iexact H9
    isplitl [H12]; · iexact H12
    iexact H13
  iintro %r ⟨%e, H7, H8, H9, H12, H13⟩
  subst e
  dsimp only
  rw [wp_bind]
  iapply (wp_wand_r _ _ _)
  isplitl [H7 H8 H9 H10 H11 H12 H13]
  · iapply h14
    isplitl [H10]; · iexact H10
    isplitl [H11]; · iexact H11
    isplitl [H7]; · iexact H7
    isplitl [H8]; · iexact H8
    isplitl [H9]; · iexact H9
    isplitl [H12]; · iexact H12
    iexact H13
  iintro %r ⟨%e, H10, H11, H7, H8, H9, H12, H13⟩
  subst e
  rw [hc]
  clear h11 h12 h13 h14
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (pointsTo_rep_of_read (c : Thread nD τ) arg11 _ fullShare _ ?h11)
    case h11 => exact View.read_writes_full (Val := Elt F) arg11.view f11 inb_S1x1x640_S1x1x640_0_0_0 _ []
    iexact H11
  isplitl [H12]; · iexact H12
  iexact H13

end Cert.KernelIdeal.Body

end
-- ==== Proof.Run.lean ====
/- The run of the kernel's program: what each window's buffer holds at each grid point, the body at a point, and the launch. -/
module

public import proofs.«01_k».proof.Proof.Tile
public import proofs.«01_k».proof.Proof.Gen.KernelIdeal.Frame
public import Idealize.ShloMosaic.Lib.Exec
public import Idealize.ShloMosaic.Lib.Tactic.Stretches
public import Idealize.ShloMosaic.Lib.Tactic
public import Idealize.ShloMosaic.Lib.Pipeline.Kit

@[expose] public section

set_option maxRecDepth 16384
set_option maxHeartbeats 4000000

noncomputable section

namespace Cert.KernelIdeal.Body

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ
open Idealize.ShloMosaic.Pipeline (Dat Cfg Window BodyObligation cellOf)

variable (m : (ℓ : Loc nD τ sig) → Buf (Elt F) ℓ) (ρ : Dev nD → PrngReg)

/-- What the query tile and the head of point `t` fix. -/
def qryAt (c : Dev nD) (t : Fin cfg0.N) : Query F :=
  query (iblk m c 0 t) (iblk m c 1 t) (iblk m c 2 t) (iblk m c 3 t) (iblk m c 4 t)
def keysAt (c : Dev nD) (t : Fin cfg0.N) : Keys F := ⟨iblk m c 5 t, iblk m c 6 t, iblk m c 7 t⟩

/-- The two slab arrays as point `n` adds to them: zero at the first query tile of a head, else as the point before left them. -/
def slabsIn (c : Dev nD) : ℕ → FVec F S1x13x80x640 .f32 × FVec F S1x13x64x640 .f32
  | 0 => (k0_pay48, k0_pay49)
  | n + 1 => if (n + 1) % 13 = 0 then (k0_pay48, k0_pay49)
    else if h : n < cfg0.N then
      let s := outSt (qryAt m c ⟨n, h⟩) (keysAt m c ⟨n, h⟩) (slabsIn c n).1 (slabsIn c n).2 (grid0.coords ⟨n, h⟩ 1)
      (s.dk, s.dv)
    else slabsIn c n

/-- What point `t` leaves in the four output windows. -/
def dqAt (c : Dev nD) (t : Fin cfg0.N) : FVec F S1x64x640 .bf16 :=
  outDq (qryAt m c t) (keysAt m c t) (slabsIn m c t.val).1 (slabsIn m c t.val).2 (grid0.coords t 1)
def dcqAt (c : Dev nD) (t : Fin cfg0.N) : FVec F S1x1x640 .f32 :=
  outDcq (qryAt m c t) (keysAt m c t) (slabsIn m c t.val).1 (slabsIn m c t.val).2 (grid0.coords t 1)
def stAt (c : Dev nD) (t : Fin cfg0.N) : St F :=
  outSt (qryAt m c t) (keysAt m c t) (slabsIn m c t.val).1 (slabsIn m c t.val).2 (grid0.coords t 1)

theorem slabsIn_first (c : Dev nD) (n : ℕ) (h : n % 13 = 0) : slabsIn m c n = (k0_pay48, k0_pay49) := by
  cases n with
  | zero => rfl
  | succ n => rw [slabsIn, if_pos h]
theorem slabsIn_later (c : Dev nD) (t : Fin cfg0.N) (h : t.val % 13 ≠ 0) :
    slabsIn m c t.val = ((stAt m c ⟨t.val - 1, lt_of_le_of_lt (Nat.sub_le _ _) t.isLt⟩).dk,
      (stAt m c ⟨t.val - 1, lt_of_le_of_lt (Nat.sub_le _ _) t.isLt⟩).dv) := by
  obtain ⟨n, hn⟩ := t
  cases n with
  | zero => exact absurd rfl h
  | succ n => rw [slabsIn, if_neg h, dif_pos (Nat.lt_of_succ_lt hn)]; rfl

/-- The query tile of a point. -/
theorem coord1 : ∀ t : Fin cfg0.N, (grid0.coords t 1).val = t.val % 13 := by decide +kernel

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t
    | ⟨9, _⟩ => dcqAt m c t
    | ⟨10, _⟩ => (stAt m c t).dk
    | ⟨11, _⟩ => (stAt m c t).dv
    | ⟨_ + 12, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dqAt m c t := by dsimp only [dats]
theorem after_9 (c : Dev nD) (t : Fin cfg0.N) : (dats m 0 c).after 9 t = dcqAt m c t := by dsimp only [dats]
theorem after_10 (c : Dev nD) (t : Fin cfg0.N) : (dats m 0 c).after 10 t = (stAt m c t).dk := by dsimp only [dats]
theorem after_11 (c : Dev nD) (t : Fin cfg0.N) : (dats m 0 c).after 11 t = (stAt m c t).dv := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Past the first query tile of a head the window holds what the point before left. -/
theorem before_10 (c : Dev nD) (t : Fin cfg0.N) (h : t.val % 13 ≠ 0) (d) :
    (dats m 0 c).before 10 t d = (slabsIn m c t.val).1 := by
  have ht : t.val ≠ 0 := fun e => h (by rw [e])
  have hfl : (cfg0.win 10).flush ⟨t.val - 1, Nat.lt_of_le_of_lt (Nat.sub_le _ _) t.isLt⟩ = false := by
    rw [Bool.eq_false_iff]
    intro e
    have e1 := (flush0_10 ⟨t.val - 1, Nat.lt_of_le_of_lt (Nat.sub_le _ _) t.isLt⟩).mp e
    have e2 : (t.val - 1) % 13 = 12 := e1
    omega
  rw [Dat.before_out_kept (dats m 0 c) 10 rfl t ht hfl (fun _ => rfl) (fun _ _ => rfl) d, after_10, slabsIn_later m c t h]

/-- Past the first query tile of a head the window holds what the point before left. -/
theorem before_11 (c : Dev nD) (t : Fin cfg0.N) (h : t.val % 13 ≠ 0) (d) :
    (dats m 0 c).before 11 t d = (slabsIn m c t.val).2 := by
  have ht : t.val ≠ 0 := fun e => h (by rw [e])
  have hfl : (cfg0.win 11).flush ⟨t.val - 1, Nat.lt_of_le_of_lt (Nat.sub_le _ _) t.isLt⟩ = false := by
    rw [Bool.eq_false_iff]
    intro e
    have e1 := (flush0_11 ⟨t.val - 1, Nat.lt_of_le_of_lt (Nat.sub_le _ _) t.isLt⟩).mp e
    have e2 : (t.val - 1) % 13 = 12 := e1
    omega
  rw [Dat.before_out_kept (dats m 0 c) 11 rfl t ht hfl (fun _ => rfl) (fun _ _ => rfl) d, after_11, slabsIn_later m c t h]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- A buffer that reads `X` is held at the contents representing `X`, and conversely. -/
theorem owns_rep (c : Dev nD) {sp : Space} {s : Shape} {e : EltTy} (M : Memref sig .tc sp s e) (X : s.Idx → Elt F e) :
    (owns (c : Thread nD τ) M fullShare X : sProp 𝕄) ⊢ M.view.loc (c : Thread nD τ) ↦[M.view.set]{fullShare} M.view.rep X := by
  unfold owns
  iintro ⟨%f, %h, H⟩
  iapply (pointsTo_rep_of_read (c : Thread nD τ) M f fullShare X h)
  iexact H
theorem rep_owns (c : Dev nD) {sp : Space} {s : Shape} {e : EltTy} (M : Memref sig .tc sp s e) (X : s.Idx → Elt F e) :
    (M.view.loc (c : Thread nD τ) ↦[M.view.set]{fullShare} M.view.rep X : sProp 𝕄) ⊢ owns (c : Thread nD τ) M fullShare X := by
  unfold owns
  iintro H
  iexists _
  isplitr; swap; · iexact H
  ipureintro; exact View.read_rep (Val := Elt F) M.view X

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  unfold owns
  icases H8 with ⟨%f8, -, H8⟩
  icases H9 with ⟨%f9, -, H9⟩
  icases H10 with ⟨%f10, %h10, H10⟩
  icases H11 with ⟨%f11, %h11, H11⟩
  have hc := coord1 t
  have h0 : (grid0.coords t 1).val = 0 → (slabsIn m c t.val).1 = k0_pay48 (F := F) ∧ (slabsIn m c t.val).2 = k0_pay49 (F := F) := by
    intro e
    rw [slabsIn_first m c t.val (hc.symm.trans e)]
    exact ⟨rfl, rfl⟩
  have hn : (grid0.coords t 1).val ≠ 0 → (st0_10 t).view.read (Elt F) f10 = (slabsIn m c t.val).1
      ∧ (st0_11 t).view.read (Elt F) f11 = (slabsIn m c t.val).2 := by
    intro e
    have e' : t.val % 13 ≠ 0 := fun h => e (hc.trans h)
    exact ⟨h10.trans (before_10 m c t e' d10), h11.trans (before_11 m c t e' d11)⟩
  have run := tile_run (F := F) Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
    (iblk m c 0 t) (iblk m c 1 t) (iblk m c 2 t) (iblk m c 3 t) (iblk m c 4 t) (keysAt m c t) f8 f9 f10 f11
    (slabsIn m c t.val).1 (slabsIn m c t.val).2 h0 hn
  rw [show (keysAt m c t).k = iblk m c 5 t from rfl, show (keysAt m c t).v = iblk m c 6 t from rfl,
    show (keysAt m c t).kT = iblk m c 7 t from rfl] at run
  simp only [dqAt, dcqAt, stAt, qryAt]
  iapply (wp_wand_r _ _ _)
  isplitr [HΦ Ho]
  · iapply run

    isplitl [H0]
    · iapply (owns_rep c (st0_0 t) (iblk m c 0 t)); unfold owns; iexact H0
    isplitl [H1]
    · iapply (owns_rep c (st0_1 t) (iblk m c 1 t)); unfold owns; iexact H1
    isplitl [H2]
    · iapply (owns_rep c (st0_2 t) (iblk m c 2 t)); unfold owns; iexact H2
    isplitl [H3]
    · iapply (owns_rep c (st0_3 t) (iblk m c 3 t)); unfold owns; iexact H3
    isplitl [H4]
    · iapply (owns_rep c (st0_4 t) (iblk m c 4 t)); unfold owns; iexact H4
    isplitl [H5]
    · iapply (owns_rep c (st0_5 t) (iblk m c 5 t)); unfold owns; iexact H5
    isplitl [H6]
    · iapply (owns_rep c (st0_6 t) (iblk m c 6 t)); unfold owns; iexact H6
    isplitl [H7]
    · iapply (owns_rep c (st0_7 t) (iblk m c 7 t)); unfold owns; iexact H7
    isplitl [H8]; · iexact H8
    isplitl [H9]; · iexact H9
    isplitl [H10]; · iexact H10
    iexact H11
  iintro %r ⟨H0, H1, H2, H3, H4, H5, H6, H7, H8, H9, H10, H11⟩
  isplitl [HΦ]; · iexact HΦ
  isplitl [Ho]; · iexact Ho
  isplitl [H0]
  · ihave H := (rep_owns c (st0_0 t) (iblk m c 0 t)) $$ H0; unfold owns; iexact H
  isplitl [H1]
  · ihave H := (rep_owns c (st0_1 t) (iblk m c 1 t)) $$ H1; unfold owns; iexact H
  isplitl [H2]
  · ihave H := (rep_owns c (st0_2 t) (iblk m c 2 t)) $$ H2; unfold owns; iexact H
  isplitl [H3]
  · ihave H := (rep_owns c (st0_3 t) (iblk m c 3 t)) $$ H3; unfold owns; iexact H
  isplitl [H4]
  · ihave H := (rep_owns c (st0_4 t) (iblk m c 4 t)) $$ H4; unfold owns; iexact H
  isplitl [H5]
  · ihave H := (rep_owns c (st0_5 t) (iblk m c 5 t)) $$ H5; unfold owns; iexact H
  isplitl [H6]
  · ihave H := (rep_owns c (st0_6 t) (iblk m c 6 t)) $$ H6; unfold owns; iexact H
  isplitl [H7]
  · ihave H := (rep_owns c (st0_7 t) (iblk m c 7 t)) $$ H7; unfold owns; iexact H
  isplitl [H8]
  · ihave H := (rep_owns c (st0_8 t) (outDq (query (iblk m c 0 t) (iblk m c 1 t) (iblk m c 2 t) (iblk m c 3 t) (iblk m c 4 t)) (keysAt m c t) (slabsIn m c t.val).1 (slabsIn m c t.val).2 (grid0.coords t 1))) $$ H8; unfold owns; iexact H
  isplitl [H9]
  · ihave H := (rep_owns c (st0_9 t) (outDcq (query (iblk m c 0 t) (iblk m c 1 t) (iblk m c 2 t) (iblk m c 3 t) (iblk m c 4 t)) (keysAt m c t) (slabsIn m c t.val).1 (slabsIn m c t.val).2 (grid0.coords t 1))) $$ H9; unfold owns; iexact H
  isplitl [H10]
  · ihave H := (rep_owns c (st0_10 t) ((outSt (query (iblk m c 0 t) (iblk m c 1 t) (iblk m c 2 t) (iblk m c 3 t) (iblk m c 4 t)) (keysAt m c t) (slabsIn m c t.val).1 (slabsIn m c t.val).2 (grid0.coords t 1)).dk)) $$ H10; unfold owns; iexact H
  ihave H := (rep_owns c (st0_11 t) ((outSt (query (iblk m c 0 t) (iblk m c 1 t) (iblk m c 2 t) (iblk m c 3 t) (iblk m c 4 t)) (keysAt m c t) (slabsIn m c t.val).1 (slabsIn m c t.val).2 (grid0.coords t 1)).dv)) $$ H11; unfold owns; iexact H

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays of the call as the proof data compute them, every other array as the host operations
after the call leave it, and every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _)

end Cert.KernelIdeal.Body

end
-- ==== Proof.Same.lean ====
module

public import proofs.«01_k».proof.Proof.Gen.Kernel
public import proofs.«01_k».proof.Proof.Gen.KernelIdeal

@[expose] public section

/-! The program read at the machine's floats and the program read over the extended reals have one text. -/

set_option maxRecDepth 16384
set_option maxHeartbeats 1000000

noncomputable section

namespace Cert.Proof

open Idealize.ShloMosaic Idealize.SL.Sem Idealize.ShloMosaic.TcCoe

variable {F : FTy → Type} [FloatOps F]

/-- The two body tables are one. -/
theorem defs0_same : Cert.Kernel.defs₀ (F := F) = Cert.KernelIdeal.defs₀ (F := F) := by
  unfold Cert.Kernel.defs₀ Cert.KernelIdeal.defs₀
  refine congrArg _ ?_
  funext l a
  match l, a with
  | 0, (t, s) => rfl

/-- The two tables of bodies and regions are one. -/
theorem defs_same : Cert.Kernel.defs (F := F) = Cert.KernelIdeal.defs (F := F) := by
  unfold Cert.Kernel.defs Cert.KernelIdeal.defs
  exact congrArg (Pipeline.defs Cert.KernelIdeal.pcfgs) defs0_same

/-- The two main functions are one. -/
theorem main_same : Cert.Kernel.main (F := F) = Cert.KernelIdeal.main (F := F) := rfl

end Cert.Proof

end
-- ==== Proof.Real.lean ====
/- The attention gradient of one head over the real numbers, and the rules that turn sums, products and quotients of
   extended reals that are real into the real ones. -/
module

public import Idealize.ShloMosaic.Lib.Pointwise

@[expose] public section

set_option maxRecDepth 16384
noncomputable section
open Idealize.ShloMosaic
namespace Cert.Attn

/-- One head: queries, keys, values, the gradient that arrives, and the cumulated forget gates. -/
structure Head where
  q : Fin 8320 → Fin 64 → ℝ
  k : Fin 8320 → Fin 64 → ℝ
  v : Fin 8320 → Fin 64 → ℝ
  ct : Fin 8320 → Fin 64 → ℝ
  c : Fin 8320 → ℝ

namespace Head
variable (H : Head)
/-- The score of query `x` and key `y`. -/
def s (x y : Fin 8320) : ℝ := (∑ d, H.q x d * H.k y d) * (1 / 8) + H.c x - H.c y
/-- The masked score: `-∞` after the query. -/
def sm (x y : Fin 8320) : EReal := if y ≤ x then ((H.s x y : ℝ) : EReal) else ⊥
/-- The largest score of a query. -/
def top (x : Fin 8320) : ℝ := (Finset.univ.fold max ⊥ fun y => H.sm x y).toReal
def e (x y : Fin 8320) : ℝ := if y ≤ x then Real.exp (H.s x y - H.top x) else 0
def l (x : Fin 8320) : ℝ := ∑ y, H.e x y
def p (x y : Fin 8320) : ℝ := H.e x y / H.l x
def lse (x : Fin 8320) : ℝ := H.top x + Real.log (H.l x)
def o (x : Fin 8320) (d : Fin 64) : ℝ := ∑ y, H.p x y * H.v y d
def dp (x y : Fin 8320) : ℝ := ∑ d, H.ct x d * H.v y d
def delta (x : Fin 8320) : ℝ := ∑ d, H.ct x d * H.o x d
/-- The gradient of the scores. -/
def ds (x y : Fin 8320) : ℝ := H.p x y * (H.dp x y - H.delta x)
def dq (x : Fin 8320) (d : Fin 64) : ℝ := (∑ y, H.ds x y * H.k y d) * (1 / 8)
def dk (y : Fin 8320) (d : Fin 64) : ℝ := (∑ x, H.ds x y * H.q x d) * (1 / 8)
def dv (y : Fin 8320) (d : Fin 64) : ℝ := ∑ x, H.ct x d * H.p x y
def dc (z : Fin 8320) : ℝ := (∑ y, H.ds z y) - ∑ x, H.ds x z

theorem e_pos (x y : Fin 8320) (h : y ≤ x) : 0 < H.e x y := by
  unfold e; rw [if_pos h]; exact Real.exp_pos _
theorem e_nonneg (x y : Fin 8320) : 0 ≤ H.e x y := by
  unfold e; split
  · exact (Real.exp_pos _).le
  · exact le_rfl
theorem l_pos (x : Fin 8320) : 0 < H.l x :=
  Finset.sum_pos' (fun y _ => H.e_nonneg x y) ⟨x, Finset.mem_univ x, H.e_pos x x le_rfl⟩
theorem l_ne (x : Fin 8320) : H.l x ≠ 0 := (H.l_pos x).ne'
theorem p_above (x y : Fin 8320) (h : ¬ y ≤ x) : H.p x y = 0 := by
  unfold p e; rw [if_neg h, zero_div]
theorem ds_above (x y : Fin 8320) (h : ¬ y ≤ x) : H.ds x y = 0 := by
  unfold ds; rw [p_above H x y h, zero_mul]
/-- The probability from the log-sum-exp. -/
theorem exp_lse (x y : Fin 8320) (h : y ≤ x) : Real.exp (H.s x y - H.lse x) = H.p x y := by
  unfold lse p e
  rw [if_pos h, ← sub_sub, Real.exp_sub, Real.exp_log (H.l_pos x)]
/-- `delta` read over the keys. -/
theorem delta_eq (x : Fin 8320) : H.delta x = ∑ y, H.dp x y * H.p x y := by
  unfold delta o dp
  simp only [Finset.mul_sum, Finset.sum_mul]
  rw [Finset.sum_comm]
  exact Finset.sum_congr rfl fun y _ => Finset.sum_congr rfl fun d _ => by ring

/-- A maximum of scores of which one at least is real is real. -/
theorem fold_real {ι : Type} [DecidableEq ι] (f : ι → EReal) (hf : ∀ i, f i ≠ ⊤) (t : Finset ι) :
    t.fold max ⊥ f ≠ ⊤ := by
  induction t using Finset.induction_on with
  | empty => simp
  | insert a t ha ih =>
    rw [Finset.fold_insert ha]
    rcases max_choice (f a) (t.fold max ⊥ f) with h | h <;> rw [h]
    · exact hf a
    · exact ih
theorem le_fold {ι : Type} [DecidableEq ι] (f : ι → EReal) (t : Finset ι) (i : ι) (hi : i ∈ t) : f i ≤ t.fold max ⊥ f := by
  rw [Finset.le_fold_max]; exact Or.inr ⟨i, hi, le_rfl⟩
theorem top_eq (x : Fin 8320) : (Finset.univ.fold max ⊥ fun y => H.sm x y) = ((H.top x : ℝ) : EReal) := by
  unfold top
  refine (EReal.coe_toReal (fold_real _ (fun y => ?_) _) ?_).symm
  · unfold sm; split
    · exact EReal.coe_ne_top _
    · exact bot_ne_top
  · have h := le_fold (fun y => H.sm x y) Finset.univ x (Finset.mem_univ x)
    intro h'
    rw [h'] at h
    have : H.sm x x = ((H.s x x : ℝ) : EReal) := if_pos le_rfl
    rw [this, le_bot_iff] at h
    exact EReal.coe_ne_bot _ h
/-- The exponential of a masked score. -/
theorem exp_sm (x y : Fin 8320) : Ideal.exp (H.sm x y - ((H.top x : ℝ) : EReal)) = ((H.e x y : ℝ) : EReal) := by
  unfold sm e
  split
  · rw [← EReal.coe_sub, Ideal.exp_coe]
  · rw [EReal.bot_sub, Ideal.exp_bot, EReal.coe_zero]

/-- The query rows the key gradient's product takes: the scaled query, then a row of ones. -/
def q1 (e : Fin 80) (x : Fin 8320) : ℝ := if h : e.val < 64 then H.q x ⟨e.val, h⟩ * (1 / 8) else if e.val - 64 < 1 then 1 else 0
/-- The key rows the query gradient's product takes: the key, then a row of ones. -/
def k1 (e : Fin 80) (y : Fin 8320) : ℝ := if h : e.val < 64 then H.k y ⟨e.val, h⟩ else if e.val - 64 < 1 then 1 else 0

end Head

/-! ## Real extended reals -/

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]
theorem div_real (a b : ℝ) (h : b ≠ 0) : Ideal.div (a : EReal) (b : EReal) = ((a / b : ℝ) : EReal) := by
  rw [Ideal.div_coe h, ← EReal.coe_mul, mul_one_div]
theorem ofBits_eighth : Ideal.ofBits .f32 0x3E000000#32 = ((1 / 8 : ℝ) : EReal) := by
  simp [Ideal.ofBits, Ideal.ieee, -EReal.coe_mul]; norm_num
theorem ofBits_eighth_bf16 : Ideal.ofBits .bf16 0x3E00#16 = ((1 / 8 : ℝ) : EReal) := by
  simp [Ideal.ofBits, Ideal.ieee, -EReal.coe_mul]; norm_num
theorem ofBits_bot : Ideal.ofBits .f32 0xFF800000#32 = ⊥ := by
  simp [Ideal.ofBits, Ideal.ieee]
/-- The causal mask's bit. -/
theorem mask_bit (n a b : ℕ) (hn : n ≤ 8320) (ha : a < n) (hb : b < n) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    have na : (BitVec.ofNat 32 a).toNat = a := by rw [BitVec.toNat_ofNat]; omega
    have nb : (BitVec.ofNat 32 b).toNat = b := by rw [BitVec.toNat_ofNat]; omega
    rw [BitVec.sle, BitVec.toInt_eq_toNat_of_lt (by rw [na]; omega), BitVec.toInt_eq_toNat_of_lt (by rw [nb]; omega), na, nb]
    simp
  show BitVec.ofBool ((BitVec.ofNat 32 a).sle (BitVec.ofNat 32 b)) = _
  rw [h]
  by_cases h' : a ≤ b <;> simp [h']
/-- A sum over 128 of which all after the first 70 vanish. -/
theorem sum128 (F : Fin 128 → EReal) (hz : ∀ a : Fin 128, 70 ≤ a.val → F a = 0) :
    ∑ a, F a = (∑ d : Fin 64, F ⟨d.val, by omega⟩) + (F 64 + F 65 + F 66 + F 67 + F 68 + F 69) := by
  have h1 := Fin.sum_univ_add (a := 64) (b := 64) (f := F)
  have h2 := Fin.sum_univ_add (a := 6) (b := 58) (f := fun i : Fin (6 + 58) => F (Fin.natAdd 64 i))
  rw [h1]
  refine congrArg₂ (· + ·) rfl (h2.trans ?_)
  rw [Finset.sum_eq_zero (s := Finset.univ) (f := fun i : Fin 58 => F (Fin.natAdd 64 (Fin.natAdd 6 i)))
    (fun i _ => hz _ (by simp only [Fin.val_natAdd]; omega)), add_zero, Fin.sum_univ_six]
  rfl

/-- The row of the whole array that row `r` of tile `j` is. -/
def gi (j : Fin 13) (r : Fin 640) : Fin 8320 := ⟨j.val * 640 + r.val, by omega⟩

/-- The arrays of all heads are those of the heads `H`. -/
structure ArgsReal (q k v t : FVec Ideal ⟨3, ![16, 8320, 64]⟩ .f32) (g : FVec Ideal ⟨2, ![16, 8320]⟩ .f32) (H : Fin 16 → Head) : Prop where
  q : ∀ (h : Fin 16) (x : Fin 8320) (d : Fin 64), q (ix3 h x d) = (((H h).q x d : ℝ) : EReal)
  k : ∀ (h : Fin 16) (x : Fin 8320) (d : Fin 64), k (ix3 h x d) = (((H h).k x d : ℝ) : EReal)
  v : ∀ (h : Fin 16) (x : Fin 8320) (d : Fin 64), v (ix3 h x d) = (((H h).v x d : ℝ) : EReal)
  t : ∀ (h : Fin 16) (x : Fin 8320) (d : Fin 64), t (ix3 h x d) = (((H h).ct x d : ℝ) : EReal)
  g : ∀ (h : Fin 16) (x : Fin 8320), g (ix2 h x) = (((H h).c x : ℝ) : EReal)

end Cert.Attn
-- ==== Proof.Pay.lean ====
/- What one query tile computes, over the reals: each key block adds its part of the gradients, and the whole row of blocks
   leaves the sums over the keys up to the query. -/
module

public import proofs.«01_k».proof.Proof.Tile
public import proofs.«01_k».proof.Proof.Real

@[expose] public section

set_option maxRecDepth 16384
noncomputable section
open Idealize.ShloMosaic Idealize.ShloMosaic.TcCoe Idealize.SL.Sem
namespace Cert.KernelIdeal.Body
open Cert.KernelIdeal Cert.KernelIdeal.Gen Cert.Attn

/-! ## Rows and slabs read at an index -/

theorem rows_at (x : FVec Ideal S1x8320x128 .bf16) (j : Fin 13) (κ : Fin 640) (a : Fin 128) :
    rows (F := Ideal) x j (ix3 0 κ a) = x (ix3 0 (gi j κ) a) := by
  unfold rows VecWindow.window
  refine congrArg x (funext fun b => Fin.ext ?_)
  fin_cases b
  · rfl
  · show 640 * j.val + 1 * κ.val = j.val * 640 + κ.val
    omega
  · show 0 + 1 * a.val = a.val
    omega
theorem slabK_at {e : FTy} (x : FVec Ideal S1x13x80x640 e) (j : Fin 13) (a : Fin 80) (κ : Fin 640) :
    slabK (F := Ideal) x j (ix4 0 0 a κ) = x (ix4 0 j a κ) := by
  unfold slabK VecWindow.window
  refine congrArg x (funext fun b => Fin.ext ?_)
  fin_cases b
  · rfl
  · show j.val + 1 * 0 = j.val
    omega
  · show 0 + 1 * a.val = a.val
    omega
  · show 0 + 1 * κ.val = κ.val
    omega
theorem slabV_at (x : FVec Ideal S1x13x64x640 .f32) (j : Fin 13) (a : Fin 64) (κ : Fin 640) :
    slabV (F := Ideal) x j (ix4 0 0 a κ) = x (ix4 0 j a κ) := by
  unfold slabV VecWindow.window
  refine congrArg x (funext fun b => Fin.ext ?_)
  fin_cases b
  · rfl
  · show j.val + 1 * 0 = j.val
    omega
  · show 0 + 1 * a.val = a.val
    omega
  · show 0 + 1 * κ.val = κ.val
    omega
theorem slabK_putK (x : FVec Ideal S1x13x80x640 .f32) (j : Fin 13) (w : FVec Ideal S1x1x80x640 .f32) :
    slabK (F := Ideal) (putK x j w) j = w := VecWindow.window_put_same x _ _ (inb_k j) w
theorem slabV_putV (x : FVec Ideal S1x13x64x640 .f32) (j : Fin 13) (w : FVec Ideal S1x1x64x640 .f32) :
    slabV (F := Ideal) (putV x j w) j = w := VecWindow.window_put_same x _ _ (inb_v j) w
theorem putK_at (x : FVec Ideal S1x13x80x640 .f32) (j j' : Fin 13) (w : FVec Ideal S1x1x80x640 .f32) (a : Fin 80) (κ : Fin 640) :
    putK (F := Ideal) x j w (ix4 0 j' a κ) = if j' = j then w (ix4 0 0 a κ) else x (ix4 0 j' a κ) := by
  rw [← slabK_at (putK (F := Ideal) x j w) j' a κ]
  by_cases h : j' = j
  · subst h; rw [if_pos rfl, slabK_putK]
  · rw [if_neg h, slabK_putK_ne x (fun h' => h (Fin.ext h')) w, slabK_at]
theorem putV_at (x : FVec Ideal S1x13x64x640 .f32) (j j' : Fin 13) (w : FVec Ideal S1x1x64x640 .f32) (a : Fin 64) (κ : Fin 640) :
    putV (F := Ideal) x j w (ix4 0 j' a κ) = if j' = j then w (ix4 0 0 a κ) else x (ix4 0 j' a κ) := by
  rw [← slabV_at (putV (F := Ideal) x j w) j' a κ]
  by_cases h : j' = j
  · subst h; rw [if_pos rfl, slabV_putV]
  · rw [if_neg h, slabV_putV_ne x (fun h' => h (Fin.ext h')) w, slabV_at]

/-! ## The products -/

theorem pay41_at (qa da : FVec Ideal S128x640 .bf16) (k v : FVec Ideal S1x640x128 .bf16) (κ r : Fin 640) (x y : ℝ)
    (hx : ∑ a : Fin 128, k (ix3 0 κ a) * qa (ix2 a r) = ((x : ℝ) : EReal)) (hy : ∑ a : Fin 128, v (ix3 0 κ a) * da (ix2 a r) = ((y : ℝ) : EReal)) :
    k0_pay41 (F := Ideal) qa da k v (ix2 κ r) = ((Real.exp x * y : ℝ) : EReal) := by
  pointwise [k0_pay41, k0_pay40]
  rw [hx, hy, Ideal.exp_coe, ← EReal.coe_mul]
theorem pay67_at (qa : FVec Ideal S128x640 .bf16) (k : FVec Ideal S1x640x128 .bf16) (κ r : Fin 640) (x : ℝ)
    (hx : ∑ a : Fin 128, k (ix3 0 κ a) * qa (ix2 a r) = ((x : ℝ) : EReal)) :
    k0_pay67 (F := Ideal) qa k (ix2 κ r) = ((if κ ≤ r then Real.exp x else 0 : ℝ) : EReal) := by
  pointwise [k0_pay67]
  rw [hx, Ideal.exp_coe, mask_bit 640 κ.val r.val (by norm_num) κ.isLt r.isLt]
  by_cases h : κ ≤ r
  · rw [if_pos h, if_pos (show κ.val ≤ r.val from h)]; rfl
  · rw [if_neg h, if_neg (show ¬ κ.val ≤ r.val from h)]; rfl
theorem pay68_at (qa da : FVec Ideal S128x640 .bf16) (k v : FVec Ideal S1x640x128 .bf16) (κ r : Fin 640) (x y : ℝ)
    (hx : ∑ a : Fin 128, k (ix3 0 κ a) * qa (ix2 a r) = ((x : ℝ) : EReal)) (hy : ∑ a : Fin 128, v (ix3 0 κ a) * da (ix2 a r) = ((y : ℝ) : EReal)) :
    k0_pay68 (F := Ideal) qa da k v (ix2 κ r) = (((if κ ≤ r then Real.exp x else 0) * y : ℝ) : EReal) := by
  pointwise [k0_pay68]
  rw [pay67_at qa k κ r x hx, hy, ← EReal.coe_mul]
/-- A slab of the key gradient after its product: `S` is the block of score gradients, keys by queries. -/
theorem pay43_at (qa da : FVec Ideal S128x640 .bf16) (q1 : FVec Ideal S80x640 .bf16) (k v : FVec Ideal S1x640x128 .bf16)
    (s : FVec Ideal S1x1x80x640 .f32) (e : Fin 80) (κ : Fin 640) (a : ℝ) (u S : Fin 640 → ℝ)
    (hs : s (ix4 0 0 e κ) = ((a : ℝ) : EReal)) (hu : ∀ r : Fin 640, q1 (ix2 e r) = ((u r : ℝ) : EReal))
    (hS : ∀ r : Fin 640, k0_pay41 (F := Ideal) qa da k v (ix2 κ r) = ((S r : ℝ) : EReal)) :
    k0_pay43 (F := Ideal) qa da q1 k v s (ix4 0 0 e κ) = ((a + ∑ r, u r * S r : ℝ) : EReal) := by
  pointwise [k0_pay43]
  simp only [hs, hu, hS, ← EReal.coe_mul, ← coe_sum, ← EReal.coe_add]
theorem pay70_at (q1 : FVec Ideal S80x640 .bf16) (p : FVec Ideal S640x640 .bf16)
    (s : FVec Ideal S1x1x80x640 .f32) (e : Fin 80) (κ : Fin 640) (a : ℝ) (u S : Fin 640 → ℝ)
    (hs : s (ix4 0 0 e κ) = ((a : ℝ) : EReal)) (hu : ∀ r : Fin 640, q1 (ix2 e r) = ((u r : ℝ) : EReal))
    (hS : ∀ r : Fin 640, p (ix2 κ r) = ((S r : ℝ) : EReal)) :
    k0_pay70 (F := Ideal) q1 p s (ix4 0 0 e κ) = ((a + ∑ r, u r * S r : ℝ) : EReal) := by
  pointwise [k0_pay70]
  simp only [hs, hu, hS, ← EReal.coe_mul, ← coe_sum, ← EReal.coe_add]
theorem pay42_at (dO : FVec Ideal S64x640 .bf16) (qa : FVec Ideal S128x640 .bf16) (k : FVec Ideal S1x640x128 .bf16)
    (s : FVec Ideal S1x1x64x640 .f32) (e : Fin 64) (κ : Fin 640) (a : ℝ) (u x : Fin 640 → ℝ)
    (hs : s (ix4 0 0 e κ) = ((a : ℝ) : EReal)) (hu : ∀ r : Fin 640, dO (ix2 e r) = ((u r : ℝ) : EReal))
    (hx : ∀ r : Fin 640, ∑ a : Fin 128, k (ix3 0 κ a) * qa (ix2 a r) = ((x r : ℝ) : EReal)) :
    k0_pay42 (F := Ideal) dO qa k s (ix4 0 0 e κ) = ((a + ∑ r, u r * Real.exp (x r) : ℝ) : EReal) := by
  pointwise [k0_pay42, k0_pay40]
  simp only [hs, hu, hx, Ideal.exp_coe, ← EReal.coe_mul, ← coe_sum, ← EReal.coe_add]
theorem pay69_at (dO : FVec Ideal S64x640 .bf16) (p : FVec Ideal S640x640 .f32)
    (s : FVec Ideal S1x1x64x640 .f32) (e : Fin 64) (κ : Fin 640) (a : ℝ) (u S : Fin 640 → ℝ)
    (hs : s (ix4 0 0 e κ) = ((a : ℝ) : EReal)) (hu : ∀ r : Fin 640, dO (ix2 e r) = ((u r : ℝ) : EReal))
    (hS : ∀ r : Fin 640, p (ix2 κ r) = ((S r : ℝ) : EReal)) :
    k0_pay69 (F := Ideal) dO p s (ix4 0 0 e κ) = ((a + ∑ r, u r * S r : ℝ) : EReal) := by
  pointwise [k0_pay69]
  simp only [hs, hu, hS, ← EReal.coe_mul, ← coe_sum, ← EReal.coe_add]
theorem pay65_at (d : FVec Ideal S80x640 .f32) (p : FVec Ideal S640x640 .bf16) (s : FVec Ideal S1x1x80x640 .bf16)
    (e : Fin 80) (r : Fin 640) (a : ℝ) (u S : Fin 640 → ℝ) (hd : d (ix2 e r) = ((a : ℝ) : EReal))
    (hu : ∀ κ : Fin 640, s (ix4 0 0 e κ) = ((u κ : ℝ) : EReal)) (hS : ∀ κ : Fin 640, p (ix2 κ r) = ((S κ : ℝ) : EReal)) :
    k0_pay65 (F := Ideal) d p s (ix2 e r) = ((a + ∑ κ, u κ * S κ : ℝ) : EReal) := by
  pointwise [k0_pay65]
  simp only [hd, hu, hS, ← EReal.coe_mul, ← coe_sum, ← EReal.coe_add]
theorem pay72_at (d : FVec Ideal S80x640 .f32) (p : FVec Ideal S640x640 .bf16) (s : FVec Ideal S1x1x80x640 .bf16)
    (e : Fin 64) (r : Fin 640) :
    k0_pay72 (F := Ideal) d p s (ix3 0 e r) = k0_pay65 (F := Ideal) d p s (ix2 ⟨e.val, by omega⟩ r) * ((1 / 8 : ℝ) : EReal) := by
  pointwise [k0_pay72, k0_pay71, k0_pay65]
  rw [ofBits_eighth]
theorem pay1_at (d : FVec Ideal S80x640 .f32) (p : FVec Ideal S640x640 .bf16) (s : FVec Ideal S1x1x80x640 .bf16) (r : Fin 640) :
    k0_pay1 (F := Ideal) (k0_pay73 d p s) (ix3 0 0 r) = k0_pay65 (F := Ideal) d p s (ix2 64 r) := by
  pointwise [k0_pay1, k0_pay73, k0_pay71, k0_pay65]

/-! ## A tile -/

/-- The operands of query tile `i` of a head, over the reals. -/
structure TileReal (Q : Query Ideal) (K : Keys Ideal) (H : Head) (i : Fin 13) : Prop where
  score : ∀ (j : Fin 13) (κ r : Fin 640), ∑ a : Fin 128, rows (F := Ideal) K.k j (ix3 0 κ a) * Q.qa (ix2 a r)
    = ((H.s (gi i r) (gi j κ) - H.lse (gi i r) : ℝ) : EReal)
  diff : ∀ (j : Fin 13) (κ r : Fin 640), ∑ a : Fin 128, rows (F := Ideal) K.v j (ix3 0 κ a) * Q.da (ix2 a r)
    = ((H.dp (gi i r) (gi j κ) - H.delta (gi i r) : ℝ) : EReal)
  q1 : ∀ (e : Fin 80) (r : Fin 640), Q.q1 (ix2 e r) = ((H.q1 e (gi i r) : ℝ) : EReal)
  dO : ∀ (d : Fin 64) (r : Fin 640), Q.dO (ix2 d r) = ((H.ct (gi i r) d : ℝ) : EReal)
  k1 : ∀ (j : Fin 13) (e : Fin 80) (κ : Fin 640), slabK (F := Ideal) K.kT j (ix4 0 0 e κ) = ((H.k1 e (gi j κ) : ℝ) : EReal)

/-- The part of each gradient that query tile `i` and key block `j` make. -/
def partDq (H : Head) (i j : Fin 13) (e : Fin 80) (r : Fin 640) : ℝ := ∑ κ, H.k1 e (gi j κ) * H.ds (gi i r) (gi j κ)
def partDk (H : Head) (i j : Fin 13) (e : Fin 80) (κ : Fin 640) : ℝ := ∑ r, H.q1 e (gi i r) * H.ds (gi i r) (gi j κ)
def partDv (H : Head) (i j : Fin 13) (d : Fin 64) (κ : Fin 640) : ℝ := ∑ r, H.ct (gi i r) d * H.p (gi i r) (gi j κ)

theorem gi_lt {i j : Fin 13} (h : j.val < i.val) (κ r : Fin 640) : gi j κ ≤ gi i r := by
  show j.val * 640 + κ.val ≤ i.val * 640 + r.val
  omega
theorem gi_le (i : Fin 13) (κ r : Fin 640) : gi i κ ≤ gi i r ↔ κ ≤ r := by
  show i.val * 640 + κ.val ≤ i.val * 640 + r.val ↔ κ.val ≤ r.val
  omega
theorem gi_gt {i j : Fin 13} (h : i.val < j.val) (κ r : Fin 640) : ¬ gi j κ ≤ gi i r := by
  show ¬ j.val * 640 + κ.val ≤ i.val * 640 + r.val
  omega
theorem partDq_above (H : Head) {i j : Fin 13} (h : i.val < j.val) (e : Fin 80) (r : Fin 640) : partDq H i j e r = 0 :=
  Finset.sum_eq_zero fun κ _ => by rw [H.ds_above _ _ (gi_gt h κ r), mul_zero]
theorem partDk_above (H : Head) {i j : Fin 13} (h : i.val < j.val) (e : Fin 80) (κ : Fin 640) : partDk H i j e κ = 0 :=
  Finset.sum_eq_zero fun r _ => by rw [H.ds_above _ _ (gi_gt h κ r), mul_zero]
theorem partDv_above (H : Head) {i j : Fin 13} (h : i.val < j.val) (d : Fin 64) (κ : Fin 640) : partDv H i j d κ = 0 :=
  Finset.sum_eq_zero fun r _ => by rw [H.p_above _ _ (gi_gt h κ r), mul_zero]

/-- A state whose three arrays are real. -/
structure StReal (s : St Ideal) (A : Fin 80 → Fin 640 → ℝ) (B : Fin 13 → Fin 80 → Fin 640 → ℝ) (C : Fin 13 → Fin 64 → Fin 640 → ℝ) : Prop where
  dq : ∀ (e : Fin 80) (r : Fin 640), s.dq (ix2 e r) = ((A e r : ℝ) : EReal)
  dk : ∀ (j : Fin 13) (e : Fin 80) (κ : Fin 640), s.dk (ix4 0 j e κ) = ((B j e κ : ℝ) : EReal)
  dv : ∀ (j : Fin 13) (d : Fin 64) (κ : Fin 640), s.dv (ix4 0 j d κ) = ((C j d κ : ℝ) : EReal)

variable {Q : Query Ideal} {K : Keys Ideal} {H : Head} {i : Fin 13}

theorem pay41_tile (h : TileReal Q K H i) (j : Fin 13) (hj : j.val < i.val) (κ r : Fin 640) :
    k0_pay41 (F := Ideal) Q.qa Q.da (rows K.k j) (rows K.v j) (ix2 κ r) = ((H.ds (gi i r) (gi j κ) : ℝ) : EReal) := by
  rw [pay41_at _ _ _ _ _ _ _ _ (h.score j κ r) (h.diff j κ r), H.exp_lse _ _ (gi_lt hj κ r)]
  rfl
theorem pay67_tile (h : TileReal Q K H i) (κ r : Fin 640) :
    k0_pay67 (F := Ideal) Q.qa (rows K.k i) (ix2 κ r) = ((H.p (gi i r) (gi i κ) : ℝ) : EReal) := by
  rw [pay67_at _ _ _ _ _ (h.score i κ r)]
  by_cases hc : κ ≤ r
  · rw [if_pos hc, H.exp_lse _ _ ((gi_le i κ r).mpr hc)]
  · rw [if_neg hc, H.p_above _ _ (fun h' => hc ((gi_le i κ r).mp h'))]
theorem pay68_tile (h : TileReal Q K H i) (κ r : Fin 640) :
    k0_pay68 (F := Ideal) Q.qa Q.da (rows K.k i) (rows K.v i) (ix2 κ r) = ((H.ds (gi i r) (gi i κ) : ℝ) : EReal) := by
  rw [pay68_at _ _ _ _ _ _ _ _ (h.score i κ r) (h.diff i κ r)]
  by_cases hc : κ ≤ r
  · rw [if_pos hc, H.exp_lse _ _ ((gi_le i κ r).mpr hc)]; rfl
  · rw [if_neg hc, zero_mul, H.ds_above _ _ (fun h' => hc ((gi_le i κ r).mp h'))]

/-- One unmasked block adds its parts. -/
theorem step_real (h : TileReal Q K H i) (j : Fin 13) (hj : j.val < i.val) {s : St Ideal} {A B C} (hs : StReal s A B C) :
    StReal (step Q K j s) (fun e r => A e r + partDq H i j e r)
      (fun j' e κ => if j' = j then B j' e κ + partDk H i j e κ else B j' e κ)
      (fun j' d κ => if j' = j then C j' d κ + partDv H i j d κ else C j' d κ) where
  dq e r := pay65_at _ _ _ _ _ _ _ _ (hs.dq e r) (fun κ => h.k1 j e κ) (fun κ => pay41_tile h j hj κ r)
  dk j' e κ := by
    refine (putK_at s.dk j j' _ e κ).trans ?_
    by_cases hc : j' = j
    · subst hc
      rw [if_pos rfl, if_pos rfl]
      exact pay43_at _ _ _ _ _ _ _ _ _ _ _ ((slabK_at s.dk _ e κ).trans (hs.dk _ e κ)) (fun r => h.q1 e r) (fun r => pay41_tile h _ hj κ r)
    · rw [if_neg hc, if_neg hc]
      exact hs.dk j' e κ
  dv j' e κ := by
    refine (putV_at s.dv j j' _ e κ).trans ?_
    by_cases hc : j' = j
    · subst hc
      rw [if_pos rfl, if_pos rfl]
      refine (pay42_at _ _ _ _ _ _ _ _ _ ((slabV_at s.dv _ e κ).trans (hs.dv _ e κ)) (fun r => h.dO e r) (fun r => h.score _ κ r)).trans ?_
      simp only [fun r => H.exp_lse _ _ (gi_lt hj κ r)]
      rfl
    · rw [if_neg hc, if_neg hc]
      exact hs.dv j' e κ

/-- The masked block adds its parts. -/
theorem last_real (h : TileReal Q K H i) {s : St Ideal} {A B C} (hs : StReal s A B C) :
    StReal (last Q K i s) (fun e r => A e r + partDq H i i e r)
      (fun j' e κ => if j' = i then B j' e κ + partDk H i i e κ else B j' e κ)
      (fun j' d κ => if j' = i then C j' d κ + partDv H i i d κ else C j' d κ) where
  dq e r := (show k0_pay71 (F := Ideal) _ _ _ (ix2 e r) = k0_pay65 (F := Ideal) _ _ _ (ix2 e r) from rfl).trans
    (pay65_at _ _ _ _ _ _ _ _ (hs.dq e r) (fun κ => h.k1 i e κ) (fun κ => pay68_tile h κ r))
  dk j' e κ := by
    refine (putK_at s.dk i j' _ e κ).trans ?_
    by_cases hc : j' = i
    · subst hc
      rw [if_pos rfl, if_pos rfl]
      exact pay70_at _ _ _ _ _ _ _ _ ((slabK_at s.dk _ e κ).trans (hs.dk _ e κ)) (fun r => h.q1 e r) (fun r => pay68_tile h κ r)
    · rw [if_neg hc, if_neg hc]
      exact hs.dk j' e κ
  dv j' e κ := by
    refine (putV_at s.dv i j' _ e κ).trans ?_
    by_cases hc : j' = i
    · subst hc
      rw [if_pos rfl, if_pos rfl]
      exact pay69_at _ _ _ _ _ _ _ _ ((slabV_at s.dv _ e κ).trans (hs.dv _ e κ)) (fun r => h.dO e r) (fun r => pay67_tile h κ r)
    · rw [if_neg hc, if_neg hc]
      exact hs.dv j' e κ

/-- The sum of the first `n` blocks' parts. -/
def sumTo (f : Fin 13 → ℝ) (n : ℕ) : ℝ := ∑ j ∈ Finset.range n, if h : j < 13 then f ⟨j, h⟩ else 0
theorem sumTo_succ (f : Fin 13 → ℝ) (n : ℕ) (h : n < 13) : sumTo f (n + 1) = sumTo f n + f ⟨n, h⟩ := by
  unfold sumTo; rw [Finset.sum_range_succ, dif_pos h]
theorem sumTo_all (f : Fin 13 → ℝ) : sumTo f 13 = ∑ j, f j := by
  unfold sumTo
  rw [Finset.sum_range]
  exact Finset.sum_congr rfl fun j _ => dif_pos j.isLt
theorem sumTo_above (f : Fin 13 → ℝ) (n : ℕ) (hn : n ≤ 13) (hf : ∀ j : Fin 13, n ≤ j.val → f j = 0) : sumTo f n = ∑ j, f j := by
  rw [← sumTo_all]
  unfold sumTo
  refine Finset.sum_subset (Finset.range_mono hn) fun j hj hj' => ?_
  rw [dif_pos (Finset.mem_range.mp hj)]
  exact hf _ (not_lt.mp fun h' => hj' (Finset.mem_range.mpr h'))

theorem chain_real (h : TileReal Q K H i) {s : St Ideal} {A B C} (hs : StReal s A B C) (n : ℕ) (hn : n ≤ i.val) :
    StReal (chain Q K 0 s n) (fun e r => A e r + sumTo (fun j => partDq H i j e r) n)
      (fun j e κ => if j.val < n then B j e κ + partDk H i j e κ else B j e κ)
      (fun j d κ => if j.val < n then C j d κ + partDv H i j d κ else C j d κ) := by
  induction n with
  | zero =>
    rw [chain_zero]
    refine ⟨fun e r => ?_, fun j e κ => ?_, fun j d κ => ?_⟩
    · rw [show sumTo (fun j => partDq H i j e r) 0 = 0 from rfl, add_zero]; exact hs.dq e r
    · rw [if_neg (Nat.not_lt_zero _)]; exact hs.dk j e κ
    · rw [if_neg (Nat.not_lt_zero _)]; exact hs.dv j d κ
  | succ n ih =>
    have h13 : n < 13 := lt_trans (Nat.lt_of_succ_le hn) i.isLt
    have hz : 0 + n < 13 := by omega
    have e0 : (⟨0 + n, hz⟩ : Fin 13) = ⟨n, h13⟩ := Fin.ext (Nat.zero_add n)
    rw [chain_succ Q K 0 s n hz, e0]
    have st := step_real h ⟨n, h13⟩ (Nat.lt_of_succ_le hn) (ih (Nat.le_of_succ_le hn))
    refine ⟨fun e r => ?_, fun j e κ => ?_, fun j d κ => ?_⟩
    · rw [st.dq e r, sumTo_succ _ n h13, add_assoc]
    · rw [st.dk j e κ]
      by_cases hj : j = ⟨n, h13⟩
      · subst hj; rw [if_pos rfl, if_neg (lt_irrefl _), if_pos (Nat.lt_succ_self _)]
      · have hne : j.val ≠ n := fun h' => hj (Fin.ext h')
        rw [if_neg hj]
        by_cases hl : j.val < n
        · rw [if_pos hl, if_pos (Nat.lt_succ_of_lt hl)]
        · rw [if_neg hl, if_neg (by omega)]
    · rw [st.dv j d κ]
      by_cases hj : j = ⟨n, h13⟩
      · subst hj; rw [if_pos rfl, if_neg (lt_irrefl _), if_pos (Nat.lt_succ_self _)]
      · have hne : j.val ≠ n := fun h' => hj (Fin.ext h')
        rw [if_neg hj]
        by_cases hl : j.val < n
        · rw [if_pos hl, if_pos (Nat.lt_succ_of_lt hl)]
        · rw [if_neg hl, if_neg (by omega)]

/-- What a query tile leaves of the query gradient, and of the slabs. -/
theorem tile_real (h : TileReal Q K H i) (dk : FVec Ideal S1x13x80x640 .f32) (dv : FVec Ideal S1x13x64x640 .f32)
    {B : Fin 13 → Fin 80 → Fin 640 → ℝ} {C : Fin 13 → Fin 64 → Fin 640 → ℝ}
    (hdk : ∀ (j : Fin 13) (e : Fin 80) (κ : Fin 640), dk (ix4 0 j e κ) = ((B j e κ : ℝ) : EReal))
    (hdv : ∀ (j : Fin 13) (d : Fin 64) (κ : Fin 640), dv (ix4 0 j d κ) = ((C j d κ : ℝ) : EReal)) :
    StReal (outSt Q K dk dv i) (fun e r => ∑ j, partDq H i j e r) (fun j e κ => B j e κ + partDk H i j e κ)
      (fun j d κ => C j d κ + partDv H i j d κ) := by
  have h0 : StReal ⟨k0_pay58 (F := Ideal), dk, dv⟩ (fun _ _ => 0) B C :=
    ⟨fun e r => by show k0_pay58 (F := Ideal) (ix2 e r) = _; pointwise [k0_pay58]; rw [EReal.coe_zero], hdk, hdv⟩
  have st := last_real h (chain_real h h0 i.val le_rfl)
  refine ⟨fun e r => ?_, fun j e κ => ?_, fun j d κ => ?_⟩
  · refine (st.dq e r).trans ?_
    rw [zero_add, ← sumTo_succ (fun j => partDq H i j e r) i.val i.isLt,
      sumTo_above _ _ (by omega) (fun j hj => partDq_above H (by omega) e r)]
  · refine (st.dk j e κ).trans ?_
    by_cases hj : j = i
    · subst hj; rw [if_pos rfl, if_neg (lt_irrefl _)]
    · have hne : j.val ≠ i.val := fun h' => hj (Fin.ext h')
      rw [if_neg hj]
      by_cases hl : j.val < i.val
      · rw [if_pos hl]
      · rw [if_neg hl, partDk_above H (by omega), add_zero]
  · refine (st.dv j d κ).trans ?_
    by_cases hj : j = i
    · subst hj; rw [if_pos rfl, if_neg (lt_irrefl _)]
    · have hne : j.val ≠ i.val := fun h' => hj (Fin.ext h')
      rw [if_neg hj]
      by_cases hl : j.val < i.val
      · rw [if_pos hl]
      · rw [if_neg hl, partDv_above H (by omega), add_zero]

theorem outDq_real (h : TileReal Q K H i) (dk : FVec Ideal S1x13x80x640 .f32) (dv : FVec Ideal S1x13x64x640 .f32)
    {B : Fin 13 → Fin 80 → Fin 640 → ℝ} {C : Fin 13 → Fin 64 → Fin 640 → ℝ}
    (hdk : ∀ (j : Fin 13) (e : Fin 80) (κ : Fin 640), dk (ix4 0 j e κ) = ((B j e κ : ℝ) : EReal))
    (hdv : ∀ (j : Fin 13) (d : Fin 64) (κ : Fin 640), dv (ix4 0 j d κ) = ((C j d κ : ℝ) : EReal)) (d : Fin 64) (r : Fin 640) :
    outDq (F := Ideal) Q K dk dv i (ix3 0 d r) = (((∑ j, partDq H i j ⟨d.val, by omega⟩ r) * (1 / 8) : ℝ) : EReal) := by
  refine (pay72_at _ _ _ d r).trans ?_
  rw [show k0_pay65 (F := Ideal) _ _ _ (ix2 ⟨d.val, by omega⟩ r) = _ from (tile_real h dk dv hdk hdv).dq ⟨d.val, by omega⟩ r, ← EReal.coe_mul]
theorem outDcq_real (h : TileReal Q K H i) (dk : FVec Ideal S1x13x80x640 .f32) (dv : FVec Ideal S1x13x64x640 .f32)
    {B : Fin 13 → Fin 80 → Fin 640 → ℝ} {C : Fin 13 → Fin 64 → Fin 640 → ℝ}
    (hdk : ∀ (j : Fin 13) (e : Fin 80) (κ : Fin 640), dk (ix4 0 j e κ) = ((B j e κ : ℝ) : EReal))
    (hdv : ∀ (j : Fin 13) (d : Fin 64) (κ : Fin 640), dv (ix4 0 j d κ) = ((C j d κ : ℝ) : EReal)) (r : Fin 640) :
    outDcq (F := Ideal) Q K dk dv i (ix3 0 0 r) = ((∑ j, partDq H i j 64 r : ℝ) : EReal) :=
  (pay1_at _ _ _ r).trans ((tile_real h dk dv hdk hdv).dq 64 r)

end Cert.KernelIdeal.Body
-- ==== Proof.Host.lean ====
/- The operands the host lines before the launch prepare, as functions of the arguments. -/
module

public import proofs.«01_k».proof.Proof.Gen.KernelIdeal.Frame
public import proofs.«01_k».proof.Proof.Real
public import Idealize.ShloMosaic.Lib.Claim

@[expose] public section

set_option maxRecDepth 16384
noncomputable section
open Idealize.ShloMosaic Idealize.ShloMosaic.TcCoe Idealize.SL.Sem
namespace Cert.KernelIdeal.Host
open Cert.KernelIdeal Cert.KernelIdeal.Gen Cert.Attn

/-- The masked scores. -/
def SM (q k : FVec Ideal S16x8320x64 .f32) (g : FVec Ideal S16x8320 .f32) : FVec Ideal S16x8320x8320 .f32 :=
  select (broadcastInDim S16x8320x8320 ![1, 2] bcast_S8320x8320_S16x8320x8320_1_2 (cmpi .sle (broadcastInDim S8320x8320 ![0, 1] bcast_S1x8320_S8320x8320_0_1 (broadcastInDim S1x8320 ![1] bcast_S8320_S1x8320_1 (iotaInDim S8320 32 0))) (broadcastInDim S8320x8320 ![0, 1] bcast_S8320x1_S8320x8320_0_1 (broadcastInDim S8320x1 ![0] bcast_S8320_S8320x1_0 (iotaInDim S8320 32 0)))))
    (subf (addf (mulf (Host.dotGeneral dot_S16x8320x64_S16x8320x64_S16x8320x8320_2_2_1_1_0_0 none q k) (broadcastInDim S16x8320x8320 ![] bcast_S_S16x8320x8320 (constant S_ .f32 0x3E000000#32))) (broadcastInDim S16x8320x8320 ![0, 1, 2] bcast_S16x8320x1_S16x8320x8320_0_1_2 (broadcastInDim S16x8320x1 ![0, 1] bcast_S16x8320_S16x8320x1_0_1 g))) (broadcastInDim S16x8320x8320 ![0, 1, 2] bcast_S16x1x8320_S16x8320x8320_0_1_2 (broadcastInDim S16x1x8320 ![0, 2] bcast_S16x8320_S16x1x8320_0_2 g)))
    (broadcastInDim S16x8320x8320 ![] bcast_S_S16x8320x8320 (id (constant S_ .f32 0xFF800000#32)))
/-- The rows' maxima. -/
def MX (s : FVec Ideal S16x8320x8320 .f32) : FVec Ideal S16x8320x1 .f32 :=
  broadcastInDim S16x8320x1 ![0, 1] bcast_S16x8320_S16x8320x1_0_1 (Host.reduce FloatOps.maximumf s (constant S_ .f32 0xFF800000#32) reducesTo_S16x8320x8320_S16x8320_d2 h_S_)
/-- The exponentials. -/
def EX (s : FVec Ideal S16x8320x8320 .f32) (x : FVec Ideal S16x8320x1 .f32) : FVec Ideal S16x8320x8320 .f32 :=
  Host.exp (subf s (broadcastInDim S16x8320x8320 ![0, 1, 2] bcast_S16x8320x1_S16x8320x8320_0_1_2 x))
/-- The rows' sums. -/
def SU (e : FVec Ideal S16x8320x8320 .f32) : FVec Ideal S16x8320x1 .f32 :=
  broadcastInDim S16x8320x1 ![0, 1] bcast_S16x8320_S16x8320x1_0_1 (Host.reduceAdd e (constant S_ .f32 0x00000000#32) reducesTo_S16x8320x8320_S16x8320_d2 h_S_)
/-- The forward output. -/
def OU (e : FVec Ideal S16x8320x8320 .f32) (l : FVec Ideal S16x8320x1 .f32) (v : FVec Ideal S16x8320x64 .f32) : FVec Ideal S16x8320x64 .f32 :=
  Host.dotGeneral dot_S16x8320x8320_S16x8320x64_S16x8320x64_2_1_1_2_0_0 none (Host.divf e (broadcastInDim S16x8320x8320 ![0, 1, 2] bcast_S16x8320x1_S16x8320x8320_0_1_2 l)) v

/-- Minus the gates in three parts. -/
def GS (g : FVec Ideal S16x8320 .f32) : FVec Ideal S16x8320x3 .f32 :=
  concatenate S16x8320x3 2 [⟨S16x8320x1, (broadcastInDim S16x8320x1 ![0, 1] bcast_S16x8320_S16x8320x1_0_1 (extf .f32 (truncf .bf16 (Host.negf g) bitsLt_bf16_f32) bitsLt_bf16_f32))⟩, ⟨S16x8320x1, (broadcastInDim S16x8320x1 ![0, 1] bcast_S16x8320_S16x8320x1_0_1 (extf .f32 (truncf .bf16 (subf (Host.negf g) (extf .f32 (truncf .bf16 (Host.negf g) bitsLt_bf16_f32) bitsLt_bf16_f32)) bitsLt_bf16_f32) bitsLt_bf16_f32))⟩, ⟨S16x8320x1, (broadcastInDim S16x8320x1 ![0, 1] bcast_S16x8320_S16x8320x1_0_1 (extf .f32 (truncf .bf16 (subf (subf (Host.negf g) (extf .f32 (truncf .bf16 (Host.negf g) bitsLt_bf16_f32) bitsLt_bf16_f32)) (extf .f32 (truncf .bf16 (subf (Host.negf g) (extf .f32 (truncf .bf16 (Host.negf g) bitsLt_bf16_f32) bitsLt_bf16_f32)) bitsLt_bf16_f32) bitsLt_bf16_f32)) bitsLt_bf16_f32) bitsLt_bf16_f32))⟩] concatenates_S16x8320x1_S16x8320x1_S16x8320x1_S16x8320x3_d2
def O3 : FVec Ideal S16x8320x3 .f32 := broadcastInDim S16x8320x3 ![] bcast_S_S16x8320x3 (constant S_ .f32 0x3F800000#32)
def Z61 : FVec Ideal S16x8320x61 .f32 := broadcastInDim S16x8320x61 ![] bcast_S_S16x8320x61 (constant S_ .f32 0x00000000#32)
/-- The keys with the rows that carry the gates and the log-sum-exp. -/
def KA (k : FVec Ideal S16x8320x64 .f32) (g : FVec Ideal S16x8320 .f32) : FVec Ideal S16x8320x128 .bf16 :=
  truncf .bf16 (concatenate S16x8320x128 2 [⟨S16x8320x64, (k)⟩, ⟨S16x8320x3, (O3)⟩, ⟨S16x8320x3, (GS g)⟩, ⟨S16x8320x58, (extractStridedSlice S16x8320x58 ![0, 0, 3] Z61 slices_S16x8320x61_S16x8320x58_0_0_3)⟩] concatenates_S16x8320x64_S16x8320x3_S16x8320x3_S16x8320x58_S16x8320x128_d2) bitsLt_bf16_f32
/-- The values with the rows that carry `delta`. -/
def VA (v : FVec Ideal S16x8320x64 .f32) : FVec Ideal S16x8320x128 .bf16 :=
  truncf .bf16 (concatenate S16x8320x128 2 [⟨S16x8320x64, (v)⟩, ⟨S16x8320x3, (O3)⟩, ⟨S16x8320x61, (Z61)⟩] concatenates_S16x8320x64_S16x8320x3_S16x8320x61_S16x8320x128_d2) bitsLt_bf16_f32
/-- The keys as slabs, with a row of ones. -/
def KT (k : FVec Ideal S16x8320x64 .f32) : FVec Ideal S16x13x80x640 .bf16 :=
  truncf .bf16 (concatenate S16x13x80x640 2 [⟨S16x13x64x640, (transpose S16x13x64x640 [0, 1, 3, 2] (shapeCast S16x13x640x64 k shapeCasts_S16x8320x64_S16x13x640x64) transposes_S16x13x640x64_S16x13x64x640_0_1_3_2)⟩, ⟨S16x13x1x640, (broadcastInDim S16x13x1x640 ![] bcast_S_S16x13x1x640 (constant (F := Ideal) S_ .f32 0x3F800000#32))⟩, ⟨S16x13x15x640, (broadcastInDim S16x13x15x640 ![] bcast_S_S16x13x15x640 (constant (F := Ideal) S_ .f32 0x00000000#32))⟩] concatenates_S16x13x64x640_S16x13x1x640_S16x13x15x640_S16x13x80x640_d2) bitsLt_bf16_f32

variable (m : (ℓ : Loc nD τ sig) → Buf (Elt Ideal) ℓ) (c : Dev nD)

abbrev aq : FVec Ideal S16x8320x64 .f32 := m ((c : Thread nD τ).loc main_arg0)
abbrev ak : FVec Ideal S16x8320x64 .f32 := m ((c : Thread nD τ).loc main_arg1)
abbrev av : FVec Ideal S16x8320x64 .f32 := m ((c : Thread nD τ).loc main_arg2)
abbrev ag : FVec Ideal S16x8320 .f32 := m ((c : Thread nD τ).loc main_arg3)
abbrev act : FVec Ideal S16x8320x64 .f32 := m ((c : Thread nD τ).loc main_arg4)

def hSM : FVec Ideal S16x8320x8320 .f32 := SM (aq m c) (ak m c) (ag m c)
def hMX : FVec Ideal S16x8320x1 .f32 := MX (hSM m c)
def hEX : FVec Ideal S16x8320x8320 .f32 := EX (hSM m c) (hMX m c)
def hSU : FVec Ideal S16x8320x1 .f32 := SU (hEX m c)
def hOU : FVec Ideal S16x8320x64 .f32 := OU (hEX m c) (hSU m c) (av m c)

set_option maxHeartbeats 1600000 in
theorem V_v29 : (V m c main_v29 : FVec Ideal S16x1x8320 .f32) = broadcastInDim S16x1x8320 ![0, 2] bcast_S16x8320_S16x1x8320_0_2
    (shapeCast S16x8320 (addf (hMX m c) (Host.log (hSU m c))) shapeCasts_S16x8320x1_S16x8320) := by
  unfold V V0
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
set_option maxHeartbeats 1600000 in
theorem V_v33 : (V m c main_v33 : FVec Ideal S16x64x8320 .bf16) = truncf .bf16 (transpose S16x64x8320 [0, 2, 1] (hOU m c) transposes_S16x8320x64_S16x64x8320_0_2_1) bitsLt_bf16_f32 := by
  unfold V V0
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
set_option maxHeartbeats 1600000 in
theorem V_v31 : (V m c main_v31 : FVec Ideal S16x64x8320 .bf16) = truncf .bf16 (transpose S16x64x8320 [0, 2, 1] (aq m c) transposes_S16x8320x64_S16x64x8320_0_2_1) bitsLt_bf16_f32 := by
  unfold V V0
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
set_option maxHeartbeats 1600000 in
theorem V_v35 : (V m c main_v35 : FVec Ideal S16x64x8320 .bf16) = truncf .bf16 (transpose S16x64x8320 [0, 2, 1] (act m c) transposes_S16x8320x64_S16x64x8320_0_2_1) bitsLt_bf16_f32 := by
  unfold V V0
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
set_option maxHeartbeats 1600000 in
theorem V_v64 : (V m c main_v64 : FVec Ideal S16x1x8320 .f32) = broadcastInDim S16x1x8320 ![0, 2] bcast_S16x8320_S16x1x8320_0_2 (ag m c) := by
  unfold V V0
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
set_option maxHeartbeats 1600000 in
theorem V_v55 : (V m c main_v55 : FVec Ideal S16x8320x128 .bf16) = KA (ak m c) (ag m c) := by
  unfold V V0
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
set_option maxHeartbeats 1600000 in
theorem V_v57 : (V m c main_v57 : FVec Ideal S16x8320x128 .bf16) = VA (av m c) := by
  unfold V V0
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
set_option maxHeartbeats 1600000 in
theorem V_v63 : (V m c main_v63 : FVec Ideal S16x13x80x640 .bf16) = KT (ak m c) := by
  unfold V V0
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
end Cert.KernelIdeal.Host
-- ==== Proof.HostReal.lean ====
/- The operands the host lines prepare, over the reals. -/
module

public import proofs.«01_k».proof.Proof.Host

@[expose] public section

set_option maxRecDepth 16384
noncomputable section
open Idealize.ShloMosaic Idealize.ShloMosaic.TcCoe Idealize.SL.Sem
namespace Cert.KernelIdeal.Host
open Cert.KernelIdeal Cert.KernelIdeal.Gen Cert.Attn

variable {q k v t : FVec Ideal S16x8320x64 .f32} {g : FVec Ideal S16x8320 .f32} {H : Fin 16 → Head}

theorem SM_at (A : ArgsReal q k v t g H) (h : Fin 16) (x y : Fin 8320) : SM q k g (ix3 h x y) = (H h).sm x y := by
  pointwise [SM, id_eq]
  rw [mask_bit 8320 y.val x.val le_rfl y.isLt x.isLt, ofBits_eighth, ofBits_bot]
  simp only [A.q, A.k, A.g, ← EReal.coe_mul, ← coe_sum, ← EReal.coe_add, ← EReal.coe_sub]
  unfold Head.sm Head.s
  by_cases hc : y ≤ x
  · rw [if_pos hc, if_pos (show y.val ≤ x.val from hc)]; rfl
  · rw [if_neg hc, if_neg (show ¬ y.val ≤ x.val from hc)]; rfl
theorem MX_at (s : FVec Ideal S16x8320x8320 .f32) (h : Fin 16) (x : Fin 8320) (hs : ∀ y : Fin 8320, s (ix3 h x y) = (H h).sm x y) :
    MX s (ix3 h x 0) = (((H h).top x : ℝ) : EReal) := by
  pointwise [MX]
  rw [ofBits_bot]
  simp only [hs]
  exact (H h).top_eq x
theorem EX_at (s : FVec Ideal S16x8320x8320 .f32) (w : FVec Ideal S16x8320x1 .f32) (h : Fin 16) (x y : Fin 8320) (hs : s (ix3 h x y) = (H h).sm x y)
    (hw : w (ix3 h x 0) = (((H h).top x : ℝ) : EReal)) : EX s w (ix3 h x y) = (((H h).e x y : ℝ) : EReal) := by
  pointwise [EX]
  rw [hs, hw]
  exact (H h).exp_sm x y
theorem SU_at (e : FVec Ideal S16x8320x8320 .f32) (h : Fin 16) (x : Fin 8320) (he : ∀ y : Fin 8320, e (ix3 h x y) = (((H h).e x y : ℝ) : EReal)) :
    SU e (ix3 h x 0) = (((H h).l x : ℝ) : EReal) := by
  pointwise [SU]
  simp only [he, ← coe_sum]
  first | rfl | (rw [zero_add]; rfl)
theorem OU_at (A : ArgsReal q k v t g H) (e : FVec Ideal S16x8320x8320 .f32) (l : FVec Ideal S16x8320x1 .f32) (h : Fin 16) (x : Fin 8320) (d : Fin 64)
    (he : ∀ y : Fin 8320, e (ix3 h x y) = (((H h).e x y : ℝ) : EReal)) (hl : l (ix3 h x 0) = (((H h).l x : ℝ) : EReal)) :
    OU e l v (ix3 h x d) = (((H h).o x d : ℝ) : EReal) := by
  pointwise [OU]
  simp only [he, hl, A.v, div_real _ _ ((H h).l_ne x), ← EReal.coe_mul, ← coe_sum]
  rfl
theorem GS_at (A : ArgsReal q k v t g H) (h : Fin 16) (y : Fin 8320) :
    GS g (ix3 h y 0) = ((-(H h).c y : ℝ) : EReal) ∧ GS g (ix3 h y 1) = 0 ∧ GS g (ix3 h y 2) = 0 := by
  have hz : (-(((H h).c y : ℝ) : EReal)) - (-(((H h).c y : ℝ) : EReal)) = 0 := by
    rw [← EReal.coe_neg, ← EReal.coe_sub, sub_self, EReal.coe_zero]
  refine ⟨?_, ?_, ?_⟩
  · pointwise [GS]; rw [A.g, EReal.coe_neg]
  · pointwise [GS]; rw [A.g, hz]
  · pointwise [GS]; rw [A.g, hz, sub_zero]
theorem KA_key (A : ArgsReal q k v t g H) (h : Fin 16) (y : Fin 8320) (d : Fin 64) (hd : d.val < 128) :
    KA k g (ix3 h y ⟨d.val, hd⟩) = (((H h).k y d : ℝ) : EReal) := by
  pointwise [KA]
  exact A.k h y d
theorem KA_rest (A : ArgsReal q k v t g H) (h : Fin 16) (y : Fin 8320) :
    KA k g (ix3 h y 64) = 1 ∧ KA k g (ix3 h y 65) = 1 ∧ KA k g (ix3 h y 66) = 1
      ∧ KA k g (ix3 h y 67) = ((-(H h).c y : ℝ) : EReal) ∧ KA k g (ix3 h y 68) = 0 ∧ KA k g (ix3 h y 69) = 0 := by
  obtain ⟨g0, g1, g2⟩ := GS_at A h y
  refine ⟨?_, ?_, ?_, ?_, ?_, ?_⟩
  · pointwise [KA, O3]
  · pointwise [KA, O3]
  · pointwise [KA, O3]
  · pointwise [KA, O3]; exact g0
  · pointwise [KA, O3]; exact g1
  · pointwise [KA, O3]; exact g2
theorem VA_key (A : ArgsReal q k v t g H) (h : Fin 16) (y : Fin 8320) (d : Fin 64) (hd : d.val < 128) :
    VA v (ix3 h y ⟨d.val, hd⟩) = (((H h).v y d : ℝ) : EReal) := by
  pointwise [VA]
  exact A.v h y d
theorem VA_rest (h : Fin 16) (y : Fin 8320) :
    VA v (ix3 h y 64) = 1 ∧ VA v (ix3 h y 65) = 1 ∧ VA v (ix3 h y 66) = 1 := by
  refine ⟨?_, ?_, ?_⟩
  · pointwise [VA, O3]
  · pointwise [VA, O3]
  · pointwise [VA, O3]
theorem KA_zero (h : Fin 16) (y : Fin 8320) (a : Fin 128) (ha : 70 ≤ a.val) : KA k g (ix3 h y a) = 0 := by
  pointwise [KA, Z61]
  rw [dif_neg (by omega), dif_neg (by omega), dif_neg (by omega)]
theorem VA_zero (h : Fin 16) (y : Fin 8320) (a : Fin 128) (ha : 67 ≤ a.val) : VA v (ix3 h y a) = 0 := by
  pointwise [VA, Z61]
  rw [dif_neg (by omega), dif_neg (by omega)]
theorem KT_at (A : ArgsReal q k v t g H) (h : Fin 16) (j : Fin 13) (e : Fin 80) (κ : Fin 640) :
    KT k (ix4 h j e κ) = (((H h).k1 e (gi j κ) : ℝ) : EReal) := by
  pointwise [KT]
  unfold Head.k1
  by_cases he : e.val < 64
  · rw [dif_pos he, dif_pos he]
    exact A.k h (gi j κ) ⟨e.val, he⟩
  · rw [dif_neg he, dif_neg he]
    by_cases he' : e.val - 64 < 1
    · simp only [he', ↓reduceIte, ↓reduceDIte, EReal.coe_one]
    · simp only [he', ↓reduceIte, ↓reduceDIte, EReal.coe_zero]

/-- The log-sum-exp. -/
theorem LS_at (w l : FVec Ideal S16x8320x1 .f32) (h : Fin 16) (x : Fin 8320) (a b : ℝ) (hb : 0 < b) (hw : w (ix3 h x 0) = ((a : ℝ) : EReal))
    (hl : l (ix3 h x 0) = ((b : ℝ) : EReal)) :
    broadcastInDim S16x1x8320 ![0, 2] bcast_S16x8320_S16x1x8320_0_2 (shapeCast S16x8320 (addf w (Host.log l)) shapeCasts_S16x8320x1_S16x8320) (ix3 h 0 x)
      = ((a + Real.log b : ℝ) : EReal) := by
  pointwise
  rw [hw, hl, Ideal.log_coe, if_neg (not_le.mpr hb), ← EReal.coe_add]

/-! ## The operands themselves -/

variable (m : (ℓ : Loc nD τ sig) → Buf (Elt Ideal) ℓ) (c : Dev nD)

theorem qT_at (A : ArgsReal (aq m c) (ak m c) (av m c) (act m c) (ag m c) H) (h : Fin 16) (d : Fin 64) (x : Fin 8320) :
    (V m c main_v31 : FVec Ideal S16x64x8320 .bf16) (ix3 h d x) = (((H h).q x d : ℝ) : EReal) := by
  rw [V_v31]
  pointwise
  exact A.q h x d
theorem doT_at (A : ArgsReal (aq m c) (ak m c) (av m c) (act m c) (ag m c) H) (h : Fin 16) (d : Fin 64) (x : Fin 8320) :
    (V m c main_v35 : FVec Ideal S16x64x8320 .bf16) (ix3 h d x) = (((H h).ct x d : ℝ) : EReal) := by
  rw [V_v35]
  pointwise
  exact A.t h x d
theorem cq_at (A : ArgsReal (aq m c) (ak m c) (av m c) (act m c) (ag m c) H) (h : Fin 16) (x : Fin 8320) :
    (V m c main_v64 : FVec Ideal S16x1x8320 .f32) (ix3 h 0 x) = (((H h).c x : ℝ) : EReal) := by
  rw [V_v64]
  pointwise
  exact A.g h x
theorem hMX_at (A : ArgsReal (aq m c) (ak m c) (av m c) (act m c) (ag m c) H) (h : Fin 16) (x : Fin 8320) :
    hMX m c (ix3 h x 0) = (((H h).top x : ℝ) : EReal) := MX_at _ h x (SM_at A h x)
theorem hEX_at (A : ArgsReal (aq m c) (ak m c) (av m c) (act m c) (ag m c) H) (h : Fin 16) (x y : Fin 8320) :
    hEX m c (ix3 h x y) = (((H h).e x y : ℝ) : EReal) := EX_at _ _ h x y (SM_at A h x y) (hMX_at m c A h x)
theorem hSU_at (A : ArgsReal (aq m c) (ak m c) (av m c) (act m c) (ag m c) H) (h : Fin 16) (x : Fin 8320) :
    hSU m c (ix3 h x 0) = (((H h).l x : ℝ) : EReal) := SU_at _ h x (hEX_at m c A h x)
theorem hOU_at (A : ArgsReal (aq m c) (ak m c) (av m c) (act m c) (ag m c) H) (h : Fin 16) (x : Fin 8320) (d : Fin 64) :
    hOU m c (ix3 h x d) = (((H h).o x d : ℝ) : EReal) := OU_at A _ _ h x d (hEX_at m c A h x) (hSU_at m c A h x)
theorem oT_at (A : ArgsReal (aq m c) (ak m c) (av m c) (act m c) (ag m c) H) (h : Fin 16) (d : Fin 64) (x : Fin 8320) :
    (V m c main_v33 : FVec Ideal S16x64x8320 .bf16) (ix3 h d x) = (((H h).o x d : ℝ) : EReal) := by
  rw [V_v33]
  pointwise
  exact hOU_at m c A h x d
theorem lse_at (A : ArgsReal (aq m c) (ak m c) (av m c) (act m c) (ag m c) H) (h : Fin 16) (x : Fin 8320) :
    (V m c main_v29 : FVec Ideal S16x1x8320 .f32) (ix3 h 0 x) = (((H h).lse x : ℝ) : EReal) := by
  rw [V_v29]
  exact LS_at _ _ h x _ _ ((H h).l_pos x) (hMX_at m c A h x) (hSU_at m c A h x)

end Cert.KernelIdeal.Host
-- ==== Proof.Ops.lean ====
/- The operands of every grid point, over the reals. -/
module

public import proofs.«01_k».proof.Proof.Pay
public import proofs.«01_k».proof.Proof.HostReal
public import proofs.«01_k».proof.Proof.Run
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Body
open Cert.KernelIdeal Cert.KernelIdeal.Gen Cert.Attn

/-- The key arrays of a head, over the reals. -/
structure KeysReal (K : Keys Ideal) (H : Head) : Prop where
  key : ∀ (y : Fin 8320) (d : Fin 64) (hd : d.val < 128), K.k (ix3 0 y ⟨d.val, hd⟩) = ((H.k y d : ℝ) : EReal)
  rest : ∀ y : Fin 8320, K.k (ix3 0 y 64) = (1 : EReal) ∧ K.k (ix3 0 y 65) = (1 : EReal) ∧ K.k (ix3 0 y 66) = (1 : EReal)
    ∧ K.k (ix3 0 y 67) = ((-H.c y : ℝ) : EReal) ∧ K.k (ix3 0 y 68) = (0 : EReal) ∧ K.k (ix3 0 y 69) = (0 : EReal)
  zero : ∀ (y : Fin 8320) (a : Fin 128), 70 ≤ a.val → K.k (ix3 0 y a) = (0 : EReal)
  vkey : ∀ (y : Fin 8320) (d : Fin 64) (hd : d.val < 128), K.v (ix3 0 y ⟨d.val, hd⟩) = ((H.v y d : ℝ) : EReal)
  vrest : ∀ y : Fin 8320, K.v (ix3 0 y 64) = (1 : EReal) ∧ K.v (ix3 0 y 65) = (1 : EReal) ∧ K.v (ix3 0 y 66) = (1 : EReal)
  vzero : ∀ (y : Fin 8320) (a : Fin 128), 67 ≤ a.val → K.v (ix3 0 y a) = (0 : EReal)
  kT : ∀ (j : Fin 13) (e : Fin 80) (κ : Fin 640), K.kT (ix4 0 j e κ) = ((H.k1 e (gi j κ) : ℝ) : EReal)

/-- The query columns of the score product. -/
theorem qa_at (x2 : FVec Ideal S1x64x640 .bf16) (u w : FVec Ideal S1x1x640 .f32) (r : Fin 640) (a b : ℝ)
    (hu : u (ix3 0 0 r) = ((a : ℝ) : EReal)) (hw : w (ix3 0 0 r) = ((b : ℝ) : EReal)) :
    (∀ (d : Fin 64) (hd : d.val < 128), k0_pay54 (F := Ideal) x2 u w (ix2 ⟨d.val, hd⟩ r) = x2 (ix3 0 d r) * ((1 / 8 : ℝ) : EReal))
      ∧ k0_pay54 (F := Ideal) x2 u w (ix2 64 r) = ((a - b : ℝ) : EReal) ∧ k0_pay54 (F := Ideal) x2 u w (ix2 65 r) = (0 : EReal)
      ∧ k0_pay54 (F := Ideal) x2 u w (ix2 66 r) = (0 : EReal) ∧ k0_pay54 (F := Ideal) x2 u w (ix2 67 r) = (1 : EReal)
      ∧ k0_pay54 (F := Ideal) x2 u w (ix2 68 r) = (1 : EReal) ∧ k0_pay54 (F := Ideal) x2 u w (ix2 69 r) = (1 : EReal) := by
  have hz : ((a : ℝ) : EReal) - ((b : ℝ) : EReal) - (((a : ℝ) : EReal) - ((b : ℝ) : EReal)) = 0 := by
    rw [← EReal.coe_sub, ← EReal.coe_sub, sub_self, EReal.coe_zero]
  refine ⟨fun d hd => ?_, ?_, ?_, ?_, ?_, ?_, ?_⟩
  · pointwise [k0_pay54, k0_pay50, k0_pay53]; rw [ofBits_eighth_bf16]
  · pointwise [k0_pay54, k0_pay50, k0_pay53]; rw [hu, hw, EReal.coe_sub]
  · pointwise [k0_pay54, k0_pay50, k0_pay53]; rw [hu, hw, hz]
  · pointwise [k0_pay54, k0_pay50, k0_pay53]; rw [hu, hw, hz, sub_zero]
  · pointwise [k0_pay54, k0_pay50, k0_pay53]
  · pointwise [k0_pay54, k0_pay50, k0_pay53]
  · pointwise [k0_pay54, k0_pay50, k0_pay53]
/-- The query columns of the `dp - delta` product. -/
theorem da_at (x3 x4 : FVec Ideal S1x64x640 .bf16) (r : Fin 640) (a b : Fin 64 → ℝ)
    (h3 : ∀ d : Fin 64, x3 (ix3 0 d r) = ((a d : ℝ) : EReal)) (h4 : ∀ d : Fin 64, x4 (ix3 0 d r) = ((b d : ℝ) : EReal)) :
    (∀ (d : Fin 64) (hd : d.val < 128), k0_pay56 (F := Ideal) (k0_pay51 x4) (k0_pay52 x4 x3) k0_pay55 (ix2 ⟨d.val, hd⟩ r) = ((b d : ℝ) : EReal))
      ∧ k0_pay56 (F := Ideal) (k0_pay51 x4) (k0_pay52 x4 x3) k0_pay55 (ix2 64 r) = ((-∑ d, b d * a d : ℝ) : EReal)
      ∧ k0_pay56 (F := Ideal) (k0_pay51 x4) (k0_pay52 x4 x3) k0_pay55 (ix2 65 r) = (0 : EReal)
      ∧ k0_pay56 (F := Ideal) (k0_pay51 x4) (k0_pay52 x4 x3) k0_pay55 (ix2 66 r) = (0 : EReal) := by
  have hz : (0 : EReal) - ((∑ d, b d * a d : ℝ) : EReal) - ((0 : EReal) - ((∑ d, b d * a d : ℝ) : EReal)) = 0 := by
    rw [← EReal.coe_zero, ← EReal.coe_sub, ← EReal.coe_sub, sub_self]
  refine ⟨fun d hd => ?_, ?_, ?_, ?_⟩
  · pointwise [k0_pay56, k0_pay51, k0_pay52, k0_pay55]; exact h4 d
  · pointwise [k0_pay56, k0_pay51, k0_pay52, k0_pay55]
    simp only [h3, h4, ← EReal.coe_mul, ← coe_sum]
    rw [← EReal.coe_zero, ← EReal.coe_sub, zero_sub]
  · pointwise [k0_pay56, k0_pay51, k0_pay52, k0_pay55]
    simp only [h3, h4, ← EReal.coe_mul, ← coe_sum, hz]
  · pointwise [k0_pay56, k0_pay51, k0_pay52, k0_pay55]
    simp only [h3, h4, ← EReal.coe_mul, ← coe_sum, hz, sub_zero]

theorem query_real (x2 x3 x4 : FVec Ideal S1x64x640 .bf16) (x5 x6 : FVec Ideal S1x1x640 .f32) (K : Keys Ideal) (H : Head) (i : Fin 13)
    (h2 : ∀ (d : Fin 64) (r : Fin 640), x2 (ix3 0 d r) = ((H.q (gi i r) d : ℝ) : EReal))
    (h3 : ∀ (d : Fin 64) (r : Fin 640), x3 (ix3 0 d r) = ((H.o (gi i r) d : ℝ) : EReal))
    (h4 : ∀ (d : Fin 64) (r : Fin 640), x4 (ix3 0 d r) = ((H.ct (gi i r) d : ℝ) : EReal))
    (h5 : ∀ r : Fin 640, x5 (ix3 0 0 r) = ((H.lse (gi i r) : ℝ) : EReal))
    (h6 : ∀ r : Fin 640, x6 (ix3 0 0 r) = ((H.c (gi i r) : ℝ) : EReal)) (hK : KeysReal K H) :
    TileReal (query x2 x3 x4 x5 x6) K H i where
  score j κ r := by
    obtain ⟨q0, q1, q2, q3, q4, q5, q6⟩ := qa_at x2 x6 x5 r _ _ (h6 r) (h5 r)
    obtain ⟨k1, k2, k3, k4, k5, k6⟩ := hK.rest (gi j κ)
    simp only [rows_at]
    show ∑ a : Fin 128, K.k (ix3 0 (gi j κ) a) * k0_pay54 (F := Ideal) x2 x6 x5 (ix2 a r) = _
    rw [sum128 _ (fun a ha => by rw [hK.zero (gi j κ) a ha, zero_mul])]
    rw [q1, q2, q3, q4, q5, q6, k1, k2, k3, k4, k5, k6]
    simp only [hK.key, q0, h2, ← EReal.coe_mul, ← coe_sum, one_mul, mul_one, add_zero]
    rw [← EReal.coe_add, ← EReal.coe_add]
    refine congrArg _ ?_
    unfold Head.s
    rw [Finset.sum_mul, show (∑ d, H.k (gi j κ) d * (H.q (gi i r) d * (1 / 8))) = ∑ d, H.q (gi i r) d * H.k (gi j κ) d * (1 / 8) from
      Finset.sum_congr rfl fun d _ => by ring]
    ring
  diff j κ r := by
    obtain ⟨q0, q1, q2, q3⟩ := da_at x3 x4 r _ _ (fun d => h3 d r) (fun d => h4 d r)
    obtain ⟨k1, k2, k3⟩ := hK.vrest (gi j κ)
    simp only [rows_at]
    show ∑ a : Fin 128, K.v (ix3 0 (gi j κ) a) * k0_pay56 (F := Ideal) (k0_pay51 x4) (k0_pay52 x4 x3) k0_pay55 (ix2 a r) = _
    rw [sum128 _ (fun a ha => by rw [hK.vzero (gi j κ) a (by omega), zero_mul])]
    rw [q1, q2, q3, k1, k2, k3, hK.vzero (gi j κ) 67 (by decide), hK.vzero (gi j κ) 68 (by decide), hK.vzero (gi j κ) 69 (by decide)]
    simp only [hK.vkey, q0, ← EReal.coe_mul, ← coe_sum, one_mul, zero_mul, mul_zero, add_zero]
    rw [← EReal.coe_add]
    refine congrArg _ ?_
    unfold Head.dp Head.delta
    rw [show (∑ d, H.v (gi j κ) d * H.ct (gi i r) d) = ∑ d, H.ct (gi i r) d * H.v (gi j κ) d from
      Finset.sum_congr rfl fun d _ => mul_comm _ _]
    ring
  q1 e r := by
    show k0_pay57 (F := Ideal) (k0_pay50 x2) k0_pay53 (ix2 e r) = _
    pointwise [k0_pay57, k0_pay50, k0_pay53]
    unfold Head.q1
    by_cases he : e.val < 64
    · rw [dif_pos he, dif_pos he, ofBits_eighth_bf16, EReal.coe_mul]
      exact Ideal.mul_congr (h2 ⟨e.val, he⟩ r) rfl
    · rw [dif_neg he, dif_neg he]
      by_cases he' : e.val - 64 < 1
      · simp only [he', ↓reduceIte, ↓reduceDIte, EReal.coe_one]
      · simp only [he', ↓reduceIte, ↓reduceDIte, EReal.coe_zero]
  dO d r := by
    show k0_pay51 (F := Ideal) x4 (ix2 d r) = _
    pointwise [k0_pay51]
    exact h4 d r
  k1 j e κ := (slabK_at K.kT j e κ).trans (hK.kT j e κ)

/-! ## The blocks of a point -/

/-- The head and the query tile of a point. -/
def hd (t : Fin cfg0.N) : Fin 16 := ⟨t.val / 13, by have := t.isLt; have h : cfg0.N = 208 := N_0; omega⟩
def ti (t : Fin cfg0.N) : Fin 13 := ⟨t.val % 13, by omega⟩

theorem idx_0 : ∀ t : Fin cfg0.N, win0_0.index t = ![t.val / 13, 0, t.val % 13] :=
  (by decide +kernel : ∀ t : Fin grid0.N, _)
theorem idx_1 : ∀ t : Fin cfg0.N, win0_1.index t = ![t.val / 13, 0, t.val % 13] :=
  (by decide +kernel : ∀ t : Fin grid0.N, _)
theorem idx_2 : ∀ t : Fin cfg0.N, win0_2.index t = ![t.val / 13, 0, t.val % 13] :=
  (by decide +kernel : ∀ t : Fin grid0.N, _)
theorem idx_3 : ∀ t : Fin cfg0.N, win0_3.index t = ![t.val / 13, 0, t.val % 13] :=
  (by decide +kernel : ∀ t : Fin grid0.N, _)
theorem idx_4 : ∀ t : Fin cfg0.N, win0_4.index t = ![t.val / 13, 0, t.val % 13] :=
  (by decide +kernel : ∀ t : Fin grid0.N, _)
theorem idx_5 : ∀ t : Fin cfg0.N, win0_5.index t = ![t.val / 13, 0, 0] :=
  (by decide +kernel : ∀ t : Fin grid0.N, _)
theorem idx_6 : ∀ t : Fin cfg0.N, win0_6.index t = ![t.val / 13, 0, 0] :=
  (by decide +kernel : ∀ t : Fin grid0.N, _)
theorem idx_7 : ∀ t : Fin cfg0.N, win0_7.index t = ![t.val / 13, 0, 0, 0] :=
  (by decide +kernel : ∀ t : Fin grid0.N, _)
theorem idx_8 : ∀ t : Fin cfg0.N, win0_8.index t = ![t.val / 13, 0, t.val % 13] :=
  (by decide +kernel : ∀ t : Fin grid0.N, _)
theorem idx_9 : ∀ t : Fin cfg0.N, win0_9.index t = ![t.val / 13, 0, t.val % 13] :=
  (by decide +kernel : ∀ t : Fin grid0.N, _)
theorem idx_10 : ∀ t : Fin cfg0.N, win0_10.index t = ![t.val / 13, 0, 0, 0] :=
  (by decide +kernel : ∀ t : Fin grid0.N, _)
theorem idx_11 : ∀ t : Fin cfg0.N, win0_11.index t = ![t.val / 13, 0, 0, 0] :=
  (by decide +kernel : ∀ t : Fin grid0.N, _)
theorem idx (t : Fin cfg0.N) : win0_0.index t = ![t.val / 13, 0, t.val % 13] ∧ win0_1.index t = ![t.val / 13, 0, t.val % 13] ∧ win0_2.index t = ![t.val / 13, 0, t.val % 13] ∧ win0_3.index t = ![t.val / 13, 0, t.val % 13] ∧ win0_4.index t = ![t.val / 13, 0, t.val % 13] ∧ win0_5.index t = ![t.val / 13, 0, 0] ∧ win0_6.index t = ![t.val / 13, 0, 0] ∧ win0_7.index t = ![t.val / 13, 0, 0, 0] ∧ win0_8.index t = ![t.val / 13, 0, t.val % 13] ∧ win0_9.index t = ![t.val / 13, 0, t.val % 13] ∧ win0_10.index t = ![t.val / 13, 0, 0, 0] ∧ win0_11.index t = ![t.val / 13, 0, 0, 0] :=
  ⟨idx_0 t, idx_1 t, idx_2 t, idx_3 t, idx_4 t, idx_5 t, idx_6 t, idx_7 t, idx_8 t, idx_9 t, idx_10 t, idx_11 t⟩

variable (m : (ℓ : Loc nD τ sig) → Buf (Elt Ideal) ℓ) (c : Dev nD)

theorem read0 (X : Buf (Elt Ideal) ((c : Thread nD τ).loc (Pipeline.arrRef spec0 0))) (t : Fin cfg0.N) (d : Fin 64) (r : Fin 640) :
    (((cfg0.win 0).blk t).view.read (Elt Ideal) X : FVec Ideal S1x64x640 .bf16) (ix3 0 d r) = (X : FVec Ideal S16x64x8320 .bf16) (ix3 (hd t) d (gi (ti t) r)) := by
  blk_ext [idx t, hd, ti, gi]
theorem iblk0 (t : Fin cfg0.N) (d : Fin 64) (r : Fin 640) : (iblk m c 0 t : FVec Ideal S1x64x640 .bf16) (ix3 0 d r) = (V m c main_v31 : FVec Ideal S16x64x8320 .bf16) (ix3 (hd t) d (gi (ti t) r)) :=
  read0 c (V m c main_v31) t d r
theorem read1 (X : Buf (Elt Ideal) ((c : Thread nD τ).loc (Pipeline.arrRef spec0 1))) (t : Fin cfg0.N) (d : Fin 64) (r : Fin 640) :
    (((cfg0.win 1).blk t).view.read (Elt Ideal) X : FVec Ideal S1x64x640 .bf16) (ix3 0 d r) = (X : FVec Ideal S16x64x8320 .bf16) (ix3 (hd t) d (gi (ti t) r)) := by
  blk_ext [idx t, hd, ti, gi]
theorem iblk1 (t : Fin cfg0.N) (d : Fin 64) (r : Fin 640) : (iblk m c 1 t : FVec Ideal S1x64x640 .bf16) (ix3 0 d r) = (V m c main_v33 : FVec Ideal S16x64x8320 .bf16) (ix3 (hd t) d (gi (ti t) r)) :=
  read1 c (V m c main_v33) t d r
theorem read2 (X : Buf (Elt Ideal) ((c : Thread nD τ).loc (Pipeline.arrRef spec0 2))) (t : Fin cfg0.N) (d : Fin 64) (r : Fin 640) :
    (((cfg0.win 2).blk t).view.read (Elt Ideal) X : FVec Ideal S1x64x640 .bf16) (ix3 0 d r) = (X : FVec Ideal S16x64x8320 .bf16) (ix3 (hd t) d (gi (ti t) r)) := by
  blk_ext [idx t, hd, ti, gi]
theorem iblk2 (t : Fin cfg0.N) (d : Fin 64) (r : Fin 640) : (iblk m c 2 t : FVec Ideal S1x64x640 .bf16) (ix3 0 d r) = (V m c main_v35 : FVec Ideal S16x64x8320 .bf16) (ix3 (hd t) d (gi (ti t) r)) :=
  read2 c (V m c main_v35) t d r
theorem read3 (X : Buf (Elt Ideal) ((c : Thread nD τ).loc (Pipeline.arrRef spec0 3))) (t : Fin cfg0.N) (r : Fin 640) :
    (((cfg0.win 3).blk t).view.read (Elt Ideal) X : FVec Ideal S1x1x640 .f32) (ix3 0 0 r) = (X : FVec Ideal S16x1x8320 .f32) (ix3 (hd t) 0 (gi (ti t) r)) := by
  blk_ext [idx t, hd, ti, gi]
theorem iblk3 (t : Fin cfg0.N) (r : Fin 640) : (iblk m c 3 t : FVec Ideal S1x1x640 .f32) (ix3 0 0 r) = (V m c main_v29 : FVec Ideal S16x1x8320 .f32) (ix3 (hd t) 0 (gi (ti t) r)) :=
  read3 c (V m c main_v29) t r
theorem read4 (X : Buf (Elt Ideal) ((c : Thread nD τ).loc (Pipeline.arrRef spec0 4))) (t : Fin cfg0.N) (r : Fin 640) :
    (((cfg0.win 4).blk t).view.read (Elt Ideal) X : FVec Ideal S1x1x640 .f32) (ix3 0 0 r) = (X : FVec Ideal S16x1x8320 .f32) (ix3 (hd t) 0 (gi (ti t) r)) := by
  blk_ext [idx t, hd, ti, gi]
theorem iblk4 (t : Fin cfg0.N) (r : Fin 640) : (iblk m c 4 t : FVec Ideal S1x1x640 .f32) (ix3 0 0 r) = (V m c main_v64 : FVec Ideal S16x1x8320 .f32) (ix3 (hd t) 0 (gi (ti t) r)) :=
  read4 c (V m c main_v64) t r
theorem read5 (X : Buf (Elt Ideal) ((c : Thread nD τ).loc (Pipeline.arrRef spec0 5))) (t : Fin cfg0.N) (y : Fin 8320) (a : Fin 128) :
    (((cfg0.win 5).blk t).view.read (Elt Ideal) X : FVec Ideal S1x8320x128 .bf16) (ix3 0 y a) = (X : FVec Ideal S16x8320x128 .bf16) (ix3 (hd t) y a) := by
  blk_ext [idx t, hd, ti, gi]
theorem iblk5 (t : Fin cfg0.N) (y : Fin 8320) (a : Fin 128) : (iblk m c 5 t : FVec Ideal S1x8320x128 .bf16) (ix3 0 y a) = (V m c main_v55 : FVec Ideal S16x8320x128 .bf16) (ix3 (hd t) y a) :=
  read5 c (V m c main_v55) t y a
theorem read6 (X : Buf (Elt Ideal) ((c : Thread nD τ).loc (Pipeline.arrRef spec0 6))) (t : Fin cfg0.N) (y : Fin 8320) (a : Fin 128) :
    (((cfg0.win 6).blk t).view.read (Elt Ideal) X : FVec Ideal S1x8320x128 .bf16) (ix3 0 y a) = (X : FVec Ideal S16x8320x128 .bf16) (ix3 (hd t) y a) := by
  blk_ext [idx t, hd, ti, gi]
theorem iblk6 (t : Fin cfg0.N) (y : Fin 8320) (a : Fin 128) : (iblk m c 6 t : FVec Ideal S1x8320x128 .bf16) (ix3 0 y a) = (V m c main_v57 : FVec Ideal S16x8320x128 .bf16) (ix3 (hd t) y a) :=
  read6 c (V m c main_v57) t y a
theorem read7 (X : Buf (Elt Ideal) ((c : Thread nD τ).loc (Pipeline.arrRef spec0 7))) (t : Fin cfg0.N) (j : Fin 13) (e : Fin 80) (κ : Fin 640) :
    (((cfg0.win 7).blk t).view.read (Elt Ideal) X : FVec Ideal S1x13x80x640 .bf16) (ix4 0 j e κ) = (X : FVec Ideal S16x13x80x640 .bf16) (ix4 (hd t) j e κ) := by
  blk_ext [idx t, hd, ti, gi]
theorem iblk7 (t : Fin cfg0.N) (j : Fin 13) (e : Fin 80) (κ : Fin 640) : (iblk m c 7 t : FVec Ideal S1x13x80x640 .bf16) (ix4 0 j e κ) = (V m c main_v63 : FVec Ideal S16x13x80x640 .bf16) (ix4 (hd t) j e κ) :=
  read7 c (V m c main_v63) t j e κ

end Cert.KernelIdeal.Body
-- ==== Proof.Arr.lean ====
/- The four arrays the kernel leaves, over the reals. -/
module

public import proofs.«01_k».proof.Proof.Ops

@[expose] public section

set_option maxRecDepth 16384
noncomputable section
open Idealize.ShloMosaic Idealize.ShloMosaic.TcCoe Idealize.SL.Sem
open Idealize.ShloMosaic.Pipeline (Dat)
namespace Cert.KernelIdeal.Body
open Cert.KernelIdeal Cert.KernelIdeal.Gen Cert.Attn Cert.KernelIdeal.Host

variable (m : (ℓ : Loc nD τ sig) → Buf (Elt Ideal) ℓ) (c : Dev nD) {H : Fin 16 → Head}

/-! ## A point -/

theorem key_at (t : Fin cfg0.N) (y : Fin 8320) (a : Fin 128) : (keysAt m c t).k (ix3 0 y a) = KA (ak m c) (ag m c) (ix3 (hd t) y a) :=
  (iblk5 m c t y a).trans (congrFun (V_v55 m c) _)
theorem val_at (t : Fin cfg0.N) (y : Fin 8320) (a : Fin 128) : (keysAt m c t).v (ix3 0 y a) = VA (av m c) (ix3 (hd t) y a) :=
  (iblk6 m c t y a).trans (congrFun (V_v57 m c) _)
theorem keyT_at (t : Fin cfg0.N) (j : Fin 13) (e : Fin 80) (κ : Fin 640) :
    (keysAt m c t).kT (ix4 0 j e κ) = KT (ak m c) (ix4 (hd t) j e κ) :=
  (iblk7 m c t j e κ).trans (congrFun (V_v63 m c) _)

theorem keys_of (K : Keys Ideal) {q k v t : FVec Ideal S16x8320x64 .bf16} {g : FVec Ideal S16x8320 .f32} (A : ArgsReal q k v t g H) (h : Fin 16)
    (hk : ∀ (y : Fin 8320) (a : Fin 128), K.k (ix3 0 y a) = KA k g (ix3 h y a))
    (hv : ∀ (y : Fin 8320) (a : Fin 128), K.v (ix3 0 y a) = VA v (ix3 h y a))
    (hT : ∀ (j : Fin 13) (e : Fin 80) (κ : Fin 640), K.kT (ix4 0 j e κ) = KT k (ix4 h j e κ)) : KeysReal K (H h) where
  key y d hd' := (hk y _).trans (KA_key A h y d hd')
  rest y := by
    obtain ⟨r0, r1, r2, r3, r4, r5⟩ := KA_rest A h y
    exact ⟨(hk y 64).trans r0, (hk y 65).trans r1, (hk y 66).trans r2, (hk y 67).trans r3, (hk y 68).trans r4, (hk y 69).trans r5⟩
  zero y a ha := (hk y a).trans (KA_zero h y a ha)
  vkey y d hd' := (hv y _).trans (VA_key A h y d hd')
  vrest y := by
    obtain ⟨r0, r1, r2⟩ := VA_rest (v := v) h y
    exact ⟨(hv y 64).trans r0, (hv y 65).trans r1, (hv y 66).trans r2⟩
  vzero y a ha := (hv y a).trans (VA_zero h y a ha)
  kT j e κ := (hT j e κ).trans (KT_at A h j e κ)
theorem keys_real (A : ArgsReal (aq m c) (ak m c) (av m c) (act m c) (ag m c) H) (t : Fin cfg0.N) : KeysReal (keysAt m c t) (H (hd t)) :=
  keys_of (keysAt m c t) A (hd t) (key_at m c t) (val_at m c t) (keyT_at m c t)

theorem coord_ti (t : Fin cfg0.N) : (grid0.coords t 1 : Fin 13) = ti t := Fin.ext (coord1 t)

theorem tile_at (A : ArgsReal (aq m c) (ak m c) (av m c) (act m c) (ag m c) H) (t : Fin cfg0.N) :
    TileReal (qryAt m c t) (keysAt m c t) (H (hd t)) (ti t) :=
  query_real (iblk m c 0 t) (iblk m c 1 t) (iblk m c 2 t) (iblk m c 3 t) (iblk m c 4 t) (keysAt m c t) (H (hd t)) (ti t)
    (fun d r => (iblk0 m c t d r).trans (qT_at m c A _ d _)) (fun d r => (iblk1 m c t d r).trans (oT_at m c A _ d _))
    (fun d r => (iblk2 m c t d r).trans (doT_at m c A _ d _)) (fun r => (iblk3 m c t r).trans (lse_at m c A _ _))
    (fun r => (iblk4 m c t r).trans (cq_at m c A _ _)) (keys_real m c A t)

/-! ## The slabs -/

/-- What the two slab arrays hold before the query tile `n` of a head. -/
structure SlabsReal (s : FVec Ideal S1x13x80x640 .f32 × FVec Ideal S1x13x64x640 .f32) (H : Head) (n : ℕ) : Prop where
  dk : ∀ (j : Fin 13) (e : Fin 80) (κ : Fin 640), s.1 (ix4 0 j e κ) = ((sumTo (fun i => partDk H i j e κ) n : ℝ) : EReal)
  dv : ∀ (j : Fin 13) (d : Fin 64) (κ : Fin 640), s.2 (ix4 0 j d κ) = ((sumTo (fun i => partDv H i j d κ) n : ℝ) : EReal)

theorem slabs_zero (H : Head) : SlabsReal (k0_pay48 (F := Ideal), k0_pay49 (F := Ideal)) H 0 where
  dk j e κ := by
    show k0_pay48 (F := Ideal) (ix4 0 j e κ) = _
    pointwise [k0_pay48]
    simp only [sumTo, Finset.range_zero, Finset.sum_empty, EReal.coe_zero]
  dv j e κ := by
    show k0_pay49 (F := Ideal) (ix4 0 j e κ) = _
    pointwise [k0_pay49]
    simp only [sumTo, Finset.range_zero, Finset.sum_empty, EReal.coe_zero]

theorem st_real (A : ArgsReal (aq m c) (ak m c) (av m c) (act m c) (ag m c) H) (t : Fin cfg0.N)
    (h : SlabsReal (slabsIn m c t.val) (H (hd t)) (t.val % 13)) :
    SlabsReal ((stAt m c t).dk, (stAt m c t).dv) (H (hd t)) (t.val % 13 + 1) := by
  have hs := tile_real (tile_at m c A t) _ _ h.dk h.dv
  rw [← coord_ti t] at hs
  have hlt : t.val % 13 < 13 := Nat.mod_lt _ (by decide)
  refine ⟨fun j e κ => (hs.dk j e κ).trans ?_, fun j e κ => (hs.dv j e κ).trans ?_⟩
  · rw [sumTo_succ _ _ hlt, coord_ti]; rfl
  · rw [sumTo_succ _ _ hlt, coord_ti]; rfl

theorem slabs_real (A : ArgsReal (aq m c) (ak m c) (av m c) (act m c) (ag m c) H) (n : ℕ) :
    ∀ t : Fin cfg0.N, t.val = n → SlabsReal (slabsIn m c t.val) (H (hd t)) (t.val % 13) := by
  induction n with
  | zero =>
    intro t ht
    rw [slabsIn_first m c t.val (by rw [ht]), ht]
    exact slabs_zero _
  | succ n ih =>
    intro t ht
    by_cases h : t.val % 13 = 0
    · rw [slabsIn_first m c t.val h, h]; exact slabs_zero _
    · rw [slabsIn_later m c t h]
      have h1 : t.val - 1 < cfg0.N := lt_of_le_of_lt (Nat.sub_le _ _) t.isLt
      have hp := st_real m c A ⟨t.val - 1, h1⟩ (ih ⟨t.val - 1, h1⟩ (by show t.val - 1 = n; omega))
      have hh : hd ⟨t.val - 1, h1⟩ = hd t := Fin.ext (by show (t.val - 1) / 13 = t.val / 13; omega)
      have hm : (t.val - 1) % 13 + 1 = t.val % 13 := by omega
      rw [hh] at hp
      change SlabsReal _ _ ((t.val - 1) % 13 + 1) at hp
      rw [hm] at hp
      exact hp

theorem st_at (A : ArgsReal (aq m c) (ak m c) (av m c) (act m c) (ag m c) H) (t : Fin cfg0.N) :
    SlabsReal ((stAt m c t).dk, (stAt m c t).dv) (H (hd t)) (t.val % 13 + 1) :=
  st_real m c A t (slabs_real m c A t.val t rfl)

/-! ## Sums over the tiles -/

theorem sum_gi (f : Fin 8320 → ℝ) : ∑ y, f y = ∑ j : Fin 13, ∑ κ : Fin 640, f (gi j κ) := Fin.sum_univ_tiles 13 640 rfl f
theorem k1_key (H : Head) (d : Fin 64) (hd' : d.val < 80) (y : Fin 8320) : H.k1 ⟨d.val, hd'⟩ y = H.k y d := dif_pos d.isLt
theorem k1_one (H : Head) (y : Fin 8320) : H.k1 64 y = 1 := rfl
theorem q1_key (H : Head) (d : Fin 64) (hd' : d.val < 80) (x : Fin 8320) : H.q1 ⟨d.val, hd'⟩ x = H.q x d * (1 / 8) := dif_pos d.isLt
theorem q1_one (H : Head) (x : Fin 8320) : H.q1 64 x = 1 := rfl

theorem sum_partDq (H : Head) (i : Fin 13) (d : Fin 64) (hd' : d.val < 80) (r : Fin 640) :
    (∑ j, partDq H i j ⟨d.val, hd'⟩ r) * (1 / 8) = H.dq (gi i r) d := by
  unfold Head.dq partDq
  rw [sum_gi]
  simp only [k1_key, mul_comm]
theorem sum_partDcq (H : Head) (i : Fin 13) (r : Fin 640) : (∑ j, partDq H i j 64 r) = ∑ y, H.ds (gi i r) y := by
  unfold partDq
  rw [sum_gi]
  simp only [k1_one, one_mul]
theorem sum_partDk (H : Head) (j : Fin 13) (d : Fin 64) (hd' : d.val < 80) (κ : Fin 640) :
    (∑ i, partDk H i j ⟨d.val, hd'⟩ κ) = H.dk (gi j κ) d := by
  unfold Head.dk partDk
  rw [sum_gi, Finset.sum_mul]
  refine Finset.sum_congr rfl fun i _ => ?_
  rw [Finset.sum_mul]
  refine Finset.sum_congr rfl fun r _ => ?_
  rw [q1_key]; ring
theorem sum_partDck (H : Head) (j : Fin 13) (κ : Fin 640) : (∑ i, partDk H i j 64 κ) = ∑ x, H.ds x (gi j κ) := by
  unfold partDk
  rw [sum_gi]
  simp only [q1_one, one_mul]
theorem sum_partDv (H : Head) (j : Fin 13) (d : Fin 64) (κ : Fin 640) : (∑ i, partDv H i j d κ) = H.dv (gi j κ) d := by
  unfold Head.dv partDv
  rw [sum_gi]

/-! ## The arrays -/

def G8 (H : Fin 16 → Head) : FVec Ideal S16x64x8320 .bf16 := fun y => (((H (y 0)).dq (y 2) (y 1) : ℝ) : EReal)
def G9 (H : Fin 16 → Head) : FVec Ideal S16x1x8320 .f32 := fun y => ((∑ z, (H (y 0)).ds (y 2) z : ℝ) : EReal)
def G10 (H : Fin 16 → Head) : FVec Ideal S16x13x80x640 .f32 := fun y => ((∑ i, partDk (H (y 0)) i (y 1) (y 2) (y 3) : ℝ) : EReal)
def G11 (H : Fin 16 → Head) : FVec Ideal S16x13x64x640 .f32 := fun y => ((∑ i, partDv (H (y 0)) i (y 1) (y 2) (y 3) : ℝ) : EReal)

theorem dq_at (A : ArgsReal (aq m c) (ak m c) (av m c) (act m c) (ag m c) H) (t : Fin cfg0.N) (d : Fin 64) (r : Fin 640) :
    dqAt m c t (ix3 0 d r) = G8 H (ix3 (hd t) d (gi (ti t) r)) := by
  unfold dqAt
  rw [coord_ti]
  exact (outDq_real (tile_at m c A t) _ _ (slabs_real m c A t.val t rfl).dk (slabs_real m c A t.val t rfl).dv d r).trans
    (congrArg _ (sum_partDq (H (hd t)) (ti t) d _ r))
theorem dcq_at (A : ArgsReal (aq m c) (ak m c) (av m c) (act m c) (ag m c) H) (t : Fin cfg0.N) (r : Fin 640) :
    dcqAt m c t (ix3 0 0 r) = G9 H (ix3 (hd t) 0 (gi (ti t) r)) := by
  unfold dcqAt
  rw [coord_ti]
  exact (outDcq_real (tile_at m c A t) _ _ (slabs_real m c A t.val t rfl).dk (slabs_real m c A t.val t rfl).dv r).trans
    (congrArg _ (sum_partDcq (H (hd t)) (ti t) r))

theorem emb8 (t : Fin cfg0.N) (y0 : Fin 1) (y1 : Fin 64) (y2 : Fin 640) :
    ((View.whole main_v65_0).slice (win0_8.rect t)).emb (ix3 y0 y1 y2) = ix3 (hd t) y1 (gi (ti t) y2) := by
  blk_ext [idx t, hd, ti, gi]
theorem arr8 (A : ArgsReal (aq m c) (ak m c) (av m c) (act m c) (ag m c) H) : (dats m 0 c).arrAt 8 (cfgs 0).N = G8 H := by
  refine (dats m 0 c).arrAt_eq_of_covers 8 _ (by decide +kernel) fun t hf y => ?_
  blk_simp
  rw [after_8]
  idx_vars y
  obtain rfl : y0 = 0 := Subsingleton.elim _ _
  exact (dq_at m c A t y1 y2).trans (congrArg (G8 H) (emb8 t 0 y1 y2)).symm
theorem emb9 (t : Fin cfg0.N) (y0 : Fin 1) (y1 : Fin 1) (y2 : Fin 640) :
    ((View.whole main_v65_1).slice (win0_9.rect t)).emb (ix3 y0 y1 y2) = ix3 (hd t) 0 (gi (ti t) y2) := by
  blk_ext [idx t, hd, ti, gi]
theorem arr9 (A : ArgsReal (aq m c) (ak m c) (av m c) (act m c) (ag m c) H) : (dats m 0 c).arrAt 9 (cfgs 0).N = G9 H := by
  refine (dats m 0 c).arrAt_eq_of_covers 9 _ (by decide +kernel) fun t hf y => ?_
  blk_simp
  rw [after_9]
  idx_vars y
  obtain rfl : y0 = 0 := Subsingleton.elim _ _
  obtain rfl : y1 = 0 := Subsingleton.elim _ _
  exact (dcq_at m c A t y2).trans (congrArg (G9 H) (emb9 t 0 0 y2)).symm
theorem emb10 (t : Fin cfg0.N) (y0 : Fin 1) (y1 : Fin 13) (y2 : Fin 80) (y3 : Fin 640) :
    ((View.whole main_v65_2).slice (win0_10.rect t)).emb (ix4 y0 y1 y2 y3) = ix4 (hd t) y1 y2 y3 := by
  blk_ext [idx t, hd, ti, gi]
theorem arr10 (A : ArgsReal (aq m c) (ak m c) (av m c) (act m c) (ag m c) H) : (dats m 0 c).arrAt 10 (cfgs 0).N = G10 H := by
  refine (dats m 0 c).arrAt_eq_of_covers 10 _ (by decide +kernel) fun t hf y => ?_
  have ht : t.val % 13 = 12 := (flush0_10 t).mp hf
  blk_simp
  rw [after_10]
  idx_vars y
  obtain rfl : y0 = 0 := Subsingleton.elim _ _
  have h := (st_at m c A t).dk y1 y2 y3
  rw [ht] at h
  exact (h.trans (congrArg _ (sumTo_all _))).trans (congrArg (G10 H) (emb10 t 0 y1 y2 y3)).symm
theorem emb11 (t : Fin cfg0.N) (y0 : Fin 1) (y1 : Fin 13) (y2 : Fin 64) (y3 : Fin 640) :
    ((View.whole main_v65_3).slice (win0_11.rect t)).emb (ix4 y0 y1 y2 y3) = ix4 (hd t) y1 y2 y3 := by
  blk_ext [idx t, hd, ti, gi]
theorem arr11 (A : ArgsReal (aq m c) (ak m c) (av m c) (act m c) (ag m c) H) : (dats m 0 c).arrAt 11 (cfgs 0).N = G11 H := by
  refine (dats m 0 c).arrAt_eq_of_covers 11 _ (by decide +kernel) fun t hf y => ?_
  have ht : t.val % 13 = 12 := (flush0_11 t).mp hf
  blk_simp
  rw [after_11]
  idx_vars y
  obtain rfl : y0 = 0 := Subsingleton.elim _ _
  have h := (st_at m c A t).dv y1 y2 y3
  rw [ht] at h
  exact (h.trans (congrArg _ (sumTo_all _))).trans (congrArg (G11 H) (emb11 t 0 y1 y2 y3)).symm

end Cert.KernelIdeal.Body
-- ==== Proof.Tail.lean ====
/- The kernel's results, over the reals. -/
module

public import proofs.«01_k».proof.Proof.Arr
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.KernelIdeal.Body
open Cert.KernelIdeal Cert.KernelIdeal.Gen Cert.Attn Cert.KernelIdeal.Host

/-! ## The host lines after the call -/

def outQ (x : FVec Ideal S16x64x8320 .bf16) : FVec Ideal S16x8320x64 .f32 :=
  extf .f32 (transpose S16x8320x64 [0, 2, 1] x transposes_S16x64x8320_S16x8320x64_0_2_1) bitsLt_bf16_f32
def outK (x : FVec Ideal S16x13x80x640 .f32) : FVec Ideal S16x8320x64 .f32 :=
  shapeCast S16x8320x64 (transpose S16x13x640x64 [0, 1, 3, 2] (extractStridedSlice S16x13x64x640 ![0, 0, 0, 0] x slices_S16x13x80x640_S16x13x64x640_0_0_0_0) transposes_S16x13x64x640_S16x13x640x64_0_1_3_2) shapeCasts_S16x13x640x64_S16x8320x64
def outV (x : FVec Ideal S16x13x64x640 .f32) : FVec Ideal S16x8320x64 .f32 :=
  shapeCast S16x8320x64 (transpose S16x13x640x64 [0, 1, 3, 2] x transposes_S16x13x64x640_S16x13x640x64_0_1_3_2) shapeCasts_S16x13x640x64_S16x8320x64
def outC (x : FVec Ideal S16x1x8320 .f32) (y : FVec Ideal S16x13x80x640 .f32) : FVec Ideal S16x8320 .f32 :=
  subf (shapeCast S16x8320 x shapeCasts_S16x1x8320_S16x8320)
    (shapeCast S16x8320 (shapeCast S16x13x640 (extractStridedSlice S16x13x1x640 ![0, 0, 64, 0] y slices_S16x13x80x640_S16x13x1x640_0_0_64_0) shapeCasts_S16x13x1x640_S16x13x640) shapeCasts_S16x13x640_S16x8320)

section
variable (Z : Valuation τ sig (Elt Ideal))
theorem tail_q : (StableHlo.after (List.flatten [hostOps1]) Z (Proc.devRef .tc main_v67) : FVec Ideal S16x8320x64 .f32)
    = outQ (Z (Proc.devRef .tc main_v65_0)) := by
  simp only [hostOps1, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem tail_k : (StableHlo.after (List.flatten [hostOps1]) Z (Proc.devRef .tc main_v70) : FVec Ideal S16x8320x64 .f32)
    = outK (Z (Proc.devRef .tc main_v65_2)) := by
  simp only [hostOps1, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem tail_v : (StableHlo.after (List.flatten [hostOps1]) Z (Proc.devRef .tc main_v72) : FVec Ideal S16x8320x64 .f32)
    = outV (Z (Proc.devRef .tc main_v65_3)) := by
  simp only [hostOps1, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem tail_c : (StableHlo.after (List.flatten [hostOps1]) Z (Proc.devRef .tc main_v77) : FVec Ideal S16x8320 .f32)
    = outC (Z (Proc.devRef .tc main_v65_1)) (Z (Proc.devRef .tc main_v65_2)) := by
  simp only [hostOps1, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
end

/-! ## Their values -/

variable {H : Fin 16 → Head}
/-- A position is its tile and its place in the tile. -/
theorem gi_divmod (y : Fin 8320) (h1 : y.val / 640 < 13) (h2 : y.val % 640 < 640) : gi ⟨y.val / 640, h1⟩ ⟨y.val % 640, h2⟩ = y :=
  Fin.ext (by show y.val / 640 * 640 + y.val % 640 = y.val; omega)

theorem outQ_at (h : Fin 16) (x : Fin 8320) (d : Fin 64) : outQ (G8 H) (ix3 h x d) = (((H h).dq x d : ℝ) : EReal) := by
  pointwise [outQ]
  rfl
theorem outK_at (h : Fin 16) (y : Fin 8320) (d : Fin 64) : outK (G10 H) (ix3 h y d) = (((H h).dk y d : ℝ) : EReal) := by
  have h1 : y.val / 640 < 13 := by omega
  have h2 : y.val % 640 < 640 := Nat.mod_lt _ (by decide)
  pointwise [outK]
  refine (congrArg (fun a : ℝ => (a : EReal)) (sum_partDk (H h) ⟨y.val / 640, h1⟩ d (by omega) ⟨y.val % 640, h2⟩)).trans ?_
  rw [gi_divmod]
theorem outV_at (h : Fin 16) (y : Fin 8320) (d : Fin 64) : outV (G11 H) (ix3 h y d) = (((H h).dv y d : ℝ) : EReal) := by
  have h1 : y.val / 640 < 13 := by omega
  have h2 : y.val % 640 < 640 := Nat.mod_lt _ (by decide)
  pointwise [outV]
  refine (congrArg (fun a : ℝ => (a : EReal)) (sum_partDv (H h) ⟨y.val / 640, h1⟩ d ⟨y.val % 640, h2⟩)).trans ?_
  rw [gi_divmod]
theorem outC_at (h : Fin 16) (z : Fin 8320) : outC (G9 H) (G10 H) (ix2 h z) = (((H h).dc z : ℝ) : EReal) := by
  have h1 : z.val / 640 < 13 := by omega
  have h2 : z.val % 640 < 640 := Nat.mod_lt _ (by decide)
  have hk : G10 H (ix4 h ⟨z.val / 640, h1⟩ 64 ⟨z.val % 640, h2⟩) = ((∑ x, (H h).ds x z : ℝ) : EReal) :=
    (congrArg (fun a : ℝ => (a : EReal)) (sum_partDck (H h) ⟨z.val / 640, h1⟩ ⟨z.val % 640, h2⟩)).trans (by rw [gi_divmod])
  pointwise [outC]
  refine (congrArg₂ (fun a b : EReal => a - b) (show G9 H (ix3 h 0 z) = ((∑ y, (H h).ds z y : ℝ) : EReal) from rfl) hk).trans ?_
  rw [← EReal.coe_sub]
  rfl

variable (m : (ℓ : Loc nD τ sig) → Buf (Elt Ideal) ℓ) (c : Dev nD)

/-- What the device's buffers hold when the host lines after the call start. -/
abbrev Z1 : Valuation τ sig (Elt Ideal) := Pipeline.withArrays spec0 c (V0 m c) fun w => (dats m 0 c).arrAt w (cfgs 0).N
theorem Z_arr (w : Fin cfg0.W) : Z1 m c (Proc.devRef .tc (Pipeline.arrRef spec0 w)) = (dats m 0 c).arrAt w (cfgs 0).N :=
  Pipeline.withArrays_arr spec0 launch0.win.arr_inj c (V0 m c) _ w

theorem W_q (A : ArgsReal (aq m c) (ak m c) (av m c) (act m c) (ag m c) H) :
    (Pipeline.afterTail₀ cfgs (dats m) 0 (V0 m) [hostOps1] c main_v67 : FVec Ideal S16x8320x64 .f32) = outQ (G8 H) :=
  (tail_q (Z1 m c)).trans (congrArg outQ ((Z_arr m c 8).trans (arr8 m c A)))
theorem W_k (A : ArgsReal (aq m c) (ak m c) (av m c) (act m c) (ag m c) H) :
    (Pipeline.afterTail₀ cfgs (dats m) 0 (V0 m) [hostOps1] c main_v70 : FVec Ideal S16x8320x64 .f32) = outK (G10 H) :=
  (tail_k (Z1 m c)).trans (congrArg outK ((Z_arr m c 10).trans (arr10 m c A)))
theorem W_v (A : ArgsReal (aq m c) (ak m c) (av m c) (act m c) (ag m c) H) :
    (Pipeline.afterTail₀ cfgs (dats m) 0 (V0 m) [hostOps1] c main_v72 : FVec Ideal S16x8320x64 .f32) = outV (G11 H) :=
  (tail_v (Z1 m c)).trans (congrArg outV ((Z_arr m c 11).trans (arr11 m c A)))
theorem W_c (A : ArgsReal (aq m c) (ak m c) (av m c) (act m c) (ag m c) H) :
    (Pipeline.afterTail₀ cfgs (dats m) 0 (V0 m) [hostOps1] c main_v77 : FVec Ideal S16x8320 .f32) = outC (G9 H) (G10 H) :=
  (tail_c (Z1 m c)).trans (congrArg₂ outC ((Z_arr m c 9).trans (arr9 m c A)) ((Z_arr m c 10).trans (arr10 m c A)))

end Cert.KernelIdeal.Body
-- ==== Proof.RefVal.lean ====
/- The reference's results, over the reals. -/
module

public import proofs.«01_k».proof.Proof.Gen.ReferenceIdeal.Run
public import proofs.«01_k».proof.Proof.Real
public import Idealize.ShloMosaic.Lib.Pointwise

@[expose] public section

set_option maxRecDepth 16384
noncomputable section
open Idealize.ShloMosaic Idealize.ShloMosaic.TcCoe Idealize.SL.Sem
namespace Cert.ReferenceIdeal.Val
open Cert.ReferenceIdeal Cert.ReferenceIdeal.Gen Cert.ReferenceIdeal.Value Cert.Attn

/-- The causal mask. -/
def MK  : IVec S16x8320x8320 1 :=
  broadcastInDim S16x8320x8320 ![1, 2] bcast_S8320x8320_S16x8320x8320_1_2 (cmpi .sle (broadcastInDim S8320x8320 ![0, 1] bcast_S1x8320_S8320x8320_0_1 (broadcastInDim S1x8320 ![1] bcast_S8320_S1x8320_1 (iotaInDim S8320 32 0))) (broadcastInDim S8320x8320 ![0, 1] bcast_S8320x1_S8320x8320_0_1 (broadcastInDim S8320x1 ![0] bcast_S8320_S8320x1_0 (iotaInDim S8320 32 0))))
/-- The masked scores. -/
def SM (q k : FVec Ideal S16x8320x64 .f32) (g : FVec Ideal S16x8320 .f32) : FVec Ideal S16x8320x8320 .f32 :=
  select MK (subf (addf (mulf (Host.dotGeneral dot_S16x8320x64_S16x8320x64_S16x8320x8320_2_2_1_1_0_0 none q k) (broadcastInDim S16x8320x8320 ![] bcast_S_S16x8320x8320 (constant S_ .f32 0x3E000000#32))) (broadcastInDim S16x8320x8320 ![0, 1, 2] bcast_S16x8320x1_S16x8320x8320_0_1_2 (broadcastInDim S16x8320x1 ![0, 1] bcast_S16x8320_S16x8320x1_0_1 g))) (broadcastInDim S16x8320x8320 ![0, 1, 2] bcast_S16x1x8320_S16x8320x8320_0_1_2 (broadcastInDim S16x1x8320 ![0, 2] bcast_S16x8320_S16x1x8320_0_2 g))) (broadcastInDim S16x8320x8320 ![] bcast_S_S16x8320x8320 (id (constant S_ .f32 0xFF800000#32)))
/-- The rows' maxima. -/
def MR (SM : FVec Ideal S16x8320x8320 .f32) : FVec Ideal S16x8320 .f32 :=
  Host.reduce FloatOps.maximumf SM (constant S_ .f32 0xFF800000#32) reducesTo_S16x8320x8320_S16x8320_d2 h_S_
/-- The rows' maxima, at least minus infinity. -/
def MX (MR : FVec Ideal S16x8320 .f32) : FVec Ideal S16x8320 .f32 :=
  maximumf (broadcastInDim S16x8320 ![] bcast_S_S16x8320 (constant S_ .f32 0xFF800000#32)) MR
/-- The exponentials. -/
def EX (SM : FVec Ideal S16x8320x8320 .f32) (MX : FVec Ideal S16x8320 .f32) : FVec Ideal S16x8320x8320 .f32 :=
  Host.exp (subf SM (broadcastInDim S16x8320x8320 ![0, 1, 2] bcast_S16x8320x1_S16x8320x8320_0_1_2 (broadcastInDim S16x8320x1 ![0, 1] bcast_S16x8320_S16x8320x1_0_1 MX)))
/-- The rows' sums. -/
def SU (EX : FVec Ideal S16x8320x8320 .f32) : FVec Ideal S16x8320 .f32 :=
  Host.reduceAdd EX (constant S_ .f32 0x00000000#32) reducesTo_S16x8320x8320_S16x8320_d2 h_S_
/-- The cotangent of the probabilities. -/
def DP (t v : FVec Ideal S16x8320x64 .f32) : FVec Ideal S16x8320x8320 .f32 :=
  Host.dotGeneral dot_S16x8320x64_S16x8320x64_S16x8320x8320_2_2_1_1_0_0 none t v
/-- The part of the scores' cotangent that comes back through the rows' sums. -/
def IN (DP EX : FVec Ideal S16x8320x8320 .f32) (SU : FVec Ideal S16x8320 .f32) : FVec Ideal S16x8320 .f32 :=
  Host.reduceAdd (Host.negf (shapeCast S16x8320x1 (Host.reduceAdd (mulf (mulf DP (broadcastInDim S16x8320x8320 ![0, 1, 2] bcast_S16x8320x1_S16x8320x8320_0_1_2 (Host.divf (broadcastInDim S16x8320x1 ![] bcast_S_S16x8320x1 (constant S_ .f32 0x3F800000#32)) (mulf (broadcastInDim S16x8320x1 ![0, 1] bcast_S16x8320_S16x8320x1_0_1 SU) (broadcastInDim S16x8320x1 ![0, 1] bcast_S16x8320_S16x8320x1_0_1 SU))))) EX) (constant S_ .f32 0x00000000#32) reducesTo_S16x8320x8320_S16x8320_d2 h_S_) shapeCasts_S16x8320_S16x8320x1)) (constant S_ .f32 0x00000000#32) reducesTo_S16x8320x1_S16x8320_d2 h_S_
/-- The cotangent of the scores. -/
def DS (DP EX : FVec Ideal S16x8320x8320 .f32) (SU IN : FVec Ideal S16x8320 .f32) : FVec Ideal S16x8320x8320 .f32 :=
  select MK (mulf (addf (Host.divf DP (broadcastInDim S16x8320x8320 ![0, 1, 2] bcast_S16x8320x1_S16x8320x8320_0_1_2 (broadcastInDim S16x8320x1 ![0, 1] bcast_S16x8320_S16x8320x1_0_1 SU))) (broadcastInDim S16x8320x8320 ![0, 1] bcast_S16x8320_S16x8320x8320_0_1 IN)) EX) (broadcastInDim S16x8320x8320 ![] bcast_S_S16x8320x8320 (constant S_ .f32 0x00000000#32))
/-- The gradient of the queries. -/
def DQ (DS : FVec Ideal S16x8320x8320 .f32) (k : FVec Ideal S16x8320x64 .f32) : FVec Ideal S16x8320x64 .f32 :=
  Host.dotGeneral dot_S16x8320x8320_S16x8320x64_S16x8320x64_2_1_1_2_0_0 none (mulf DS (broadcastInDim S16x8320x8320 ![] bcast_S_S16x8320x8320 (constant S_ .f32 0x3E000000#32))) k
/-- The gradient of the keys. -/
def DK (DS : FVec Ideal S16x8320x8320 .f32) (q : FVec Ideal S16x8320x64 .f32) : FVec Ideal S16x8320x64 .f32 :=
  Host.dotGeneral dot_S16x8320x8320_S16x8320x64_S16x8320x64_1_1_2_2_0_0 none (mulf DS (broadcastInDim S16x8320x8320 ![] bcast_S_S16x8320x8320 (constant S_ .f32 0x3E000000#32))) q
/-- The gradient of the values. -/
def DV (EX : FVec Ideal S16x8320x8320 .f32) (SU : FVec Ideal S16x8320 .f32) (t : FVec Ideal S16x8320x64 .f32) : FVec Ideal S16x8320x64 .f32 :=
  transpose S16x8320x64 [0, 2, 1] (Host.dotGeneral dot_S16x8320x64_S16x8320x8320_S16x64x8320_1_1_2_2_0_0 none t (Host.divf EX (broadcastInDim S16x8320x8320 ![0, 1, 2] bcast_S16x8320x1_S16x8320x8320_0_1_2 (broadcastInDim S16x8320x1 ![0, 1] bcast_S16x8320_S16x8320x1_0_1 SU)))) transposes_S16x64x8320_S16x8320x64_0_2_1
/-- The gradient of the gates. -/
def DC (DS : FVec Ideal S16x8320x8320 .f32) : FVec Ideal S16x8320 .f32 :=
  addf (Host.reduceAdd (shapeCast S16x1x8320 (Host.reduceAdd (Host.negf DS) (constant S_ .f32 0x00000000#32) reducesTo_S16x8320x8320_S16x8320_d1 h_S_) shapeCasts_S16x8320_S16x1x8320) (constant S_ .f32 0x00000000#32) reducesTo_S16x1x8320_S16x8320_d1 h_S_) (Host.reduceAdd (shapeCast S16x8320x1 (Host.reduceAdd DS (constant S_ .f32 0x00000000#32) reducesTo_S16x8320x8320_S16x8320_d2 h_S_) shapeCasts_S16x8320_S16x8320x1) (constant S_ .f32 0x00000000#32) reducesTo_S16x8320x1_S16x8320_d2 h_S_)

section
variable {q k v t : FVec Ideal S16x8320x64 .f32} {g : FVec Ideal S16x8320 .f32} {H : Fin 16 → Head}

theorem SM_at (A : ArgsReal q k v t g H) (h : Fin 16) (x y : Fin 8320) : SM q k g (ix3 h x y) = (H h).sm x y := by
  pointwise [SM, MK, id_eq]
  rw [mask_bit 8320 y.val x.val le_rfl y.isLt x.isLt, ofBits_eighth, ofBits_bot]
  simp only [A.q, A.k, A.g, ← EReal.coe_mul, ← coe_sum, ← EReal.coe_add, ← EReal.coe_sub]
  unfold Head.sm Head.s
  by_cases hyx : y.val ≤ x.val
  · rw [if_pos hyx, if_pos (show y ≤ x from hyx)]; rfl
  · rw [if_neg hyx, if_neg (show ¬ y ≤ x from hyx)]; rfl
theorem MR_at (s : FVec Ideal S16x8320x8320 .f32) (h : Fin 16) (x : Fin 8320) (hs : ∀ y : Fin 8320, s (ix3 h x y) = (H h).sm x y) :
    MR s (ix2 h x) = (((H h).top x : ℝ) : EReal) := by
  pointwise [MR]
  rw [ofBits_bot]
  simp only [hs]
  exact (H h).top_eq x
theorem MX_at (w : FVec Ideal S16x8320 .f32) (h : Fin 16) (x : Fin 8320) (a : ℝ) (hw : w (ix2 h x) = ((a : ℝ) : EReal)) :
    MX w (ix2 h x) = ((a : ℝ) : EReal) := by
  pointwise [MX]
  rw [ofBits_bot, hw]
  exact max_eq_right bot_le
theorem EX_at (s : FVec Ideal S16x8320x8320 .f32) (w : FVec Ideal S16x8320 .f32) (h : Fin 16) (x y : Fin 8320) (hs : s (ix3 h x y) = (H h).sm x y)
    (hw : w (ix2 h x) = (((H h).top x : ℝ) : EReal)) : EX s w (ix3 h x y) = (((H h).e x y : ℝ) : EReal) := by
  pointwise [EX]
  rw [hs, hw]
  exact (H h).exp_sm x y
theorem SU_at (e : FVec Ideal S16x8320x8320 .f32) (h : Fin 16) (x : Fin 8320) (he : ∀ y : Fin 8320, e (ix3 h x y) = (((H h).e x y : ℝ) : EReal)) :
    SU e (ix2 h x) = (((H h).l x : ℝ) : EReal) := by
  pointwise [SU]
  simp only [he, ← coe_sum]
  first | rfl | (rw [zero_add]; rfl)
theorem DP_at (A : ArgsReal q k v t g H) (h : Fin 16) (x y : Fin 8320) : DP t v (ix3 h x y) = (((H h).dp x y : ℝ) : EReal) := by
  pointwise [DP]
  simp only [A.t, A.v, ← EReal.coe_mul, ← coe_sum]
  rfl
theorem IN_at (d e : FVec Ideal S16x8320x8320 .f32) (l : FVec Ideal S16x8320 .f32) (h : Fin 16) (x : Fin 8320)
    (hd : ∀ y : Fin 8320, d (ix3 h x y) = (((H h).dp x y : ℝ) : EReal)) (he : ∀ y : Fin 8320, e (ix3 h x y) = (((H h).e x y : ℝ) : EReal))
    (hl : l (ix2 h x) = (((H h).l x : ℝ) : EReal)) :
    IN d e l (ix2 h x) = ((-((H h).delta x / (H h).l x) : ℝ) : EReal) := by
  pointwise [IN]
  have hll : (H h).l x * (H h).l x ≠ 0 := mul_ne_zero ((H h).l_ne x) ((H h).l_ne x)
  simp only [hd, he, hl, ← EReal.coe_mul, ← EReal.coe_one, div_real _ _ hll, ← coe_sum, ← EReal.coe_neg, Finset.univ_unique, Finset.sum_singleton]
  refine congrArg _ (congrArg _ ?_)
  rw [(H h).delta_eq x, Finset.sum_div]
  unfold Head.p
  exact Finset.sum_congr rfl fun y _ => by ring
theorem DS_at (d e : FVec Ideal S16x8320x8320 .f32) (l n : FVec Ideal S16x8320 .f32) (h : Fin 16) (x y : Fin 8320)
    (hd : d (ix3 h x y) = (((H h).dp x y : ℝ) : EReal)) (he : e (ix3 h x y) = (((H h).e x y : ℝ) : EReal))
    (hl : l (ix2 h x) = (((H h).l x : ℝ) : EReal)) (hn : n (ix2 h x) = ((-((H h).delta x / (H h).l x) : ℝ) : EReal)) :
    DS d e l n (ix3 h x y) = (((H h).ds x y : ℝ) : EReal) := by
  pointwise [DS, MK]
  rw [mask_bit 8320 y.val x.val le_rfl y.isLt x.isLt, hd, he, hl, hn, div_real _ _ ((H h).l_ne x)]
  have hl0 := (H h).l_ne x
  by_cases hyx : y.val ≤ x.val
  · rw [if_pos hyx]
    simp only [← EReal.coe_mul, ← EReal.coe_add]
    refine (congrArg (fun a : ℝ => (a : EReal)) ?_ : ((_ : ℝ) : EReal) = ((_ : ℝ) : EReal))
    unfold Head.ds Head.p
    field_simp
    ring
  · simp only [if_neg hyx]
    rw [(H h).ds_above x y hyx]
    rfl
theorem DQ_at (A : ArgsReal q k v t g H) (s : FVec Ideal S16x8320x8320 .f32) (h : Fin 16) (x : Fin 8320) (d : Fin 64)
    (hs : ∀ y : Fin 8320, s (ix3 h x y) = (((H h).ds x y : ℝ) : EReal)) : DQ s k (ix3 h x d) = (((H h).dq x d : ℝ) : EReal) := by
  pointwise [DQ]
  rw [ofBits_eighth]
  simp only [hs, A.k, ← EReal.coe_mul, ← coe_sum]
  refine congrArg _ ?_
  unfold Head.dq
  rw [Finset.sum_mul]
  exact Finset.sum_congr rfl fun y _ => by ring
theorem DK_at (A : ArgsReal q k v t g H) (s : FVec Ideal S16x8320x8320 .f32) (h : Fin 16) (y : Fin 8320) (d : Fin 64)
    (hs : ∀ x : Fin 8320, s (ix3 h x y) = (((H h).ds x y : ℝ) : EReal)) : DK s q (ix3 h y d) = (((H h).dk y d : ℝ) : EReal) := by
  pointwise [DK]
  rw [ofBits_eighth]
  simp only [hs, A.q, ← EReal.coe_mul, ← coe_sum]
  refine congrArg _ ?_
  unfold Head.dk
  rw [Finset.sum_mul]
  exact Finset.sum_congr rfl fun y _ => by ring
theorem DV_at (A : ArgsReal q k v t g H) (e : FVec Ideal S16x8320x8320 .f32) (l : FVec Ideal S16x8320 .f32) (h : Fin 16) (y : Fin 8320) (d : Fin 64)
    (he : ∀ x : Fin 8320, e (ix3 h x y) = (((H h).e x y : ℝ) : EReal)) (hl : ∀ x : Fin 8320, l (ix2 h x) = (((H h).l x : ℝ) : EReal)) :
    DV e l t (ix3 h y d) = (((H h).dv y d : ℝ) : EReal) := by
  pointwise [DV]
  simp only [he, hl, A.t, div_real _ _ ((H h).l_ne _), ← EReal.coe_mul, ← coe_sum]
  rfl
theorem DC_at (s : FVec Ideal S16x8320x8320 .f32) (h : Fin 16) (z : Fin 8320)
    (hs : ∀ x y : Fin 8320, s (ix3 h x y) = (((H h).ds x y : ℝ) : EReal)) : DC s (ix2 h z) = (((H h).dc z : ℝ) : EReal) := by
  pointwise [DC]
  simp only [hs, ← EReal.coe_neg, ← coe_sum, Finset.univ_unique, Finset.sum_singleton]
  rw [← EReal.coe_add]
  refine congrArg _ ?_
  unfold Head.dc
  rw [Finset.sum_neg_distrib]
  ring
end

variable (m : (ℓ : Loc nD τ sig) → Buf (Elt Ideal) ℓ) (c : Dev nD)
abbrev aq : FVec Ideal S16x8320x64 .f32 := m ((c : Thread nD τ).loc main_arg0)
abbrev ak : FVec Ideal S16x8320x64 .f32 := m ((c : Thread nD τ).loc main_arg1)
abbrev av : FVec Ideal S16x8320x64 .f32 := m ((c : Thread nD τ).loc main_arg2)
abbrev ag : FVec Ideal S16x8320 .f32 := m ((c : Thread nD τ).loc main_arg3)
abbrev act : FVec Ideal S16x8320x64 .f32 := m ((c : Thread nD τ).loc main_arg4)
def rSM : FVec Ideal S16x8320x8320 .f32 := SM (aq m c) (ak m c) (ag m c)
def rEX : FVec Ideal S16x8320x8320 .f32 := EX (rSM m c) (MX (MR (rSM m c)))
def rSU : FVec Ideal S16x8320 .f32 := SU (rEX m c)
def rDP : FVec Ideal S16x8320x8320 .f32 := DP (act m c) (av m c)
def rDS : FVec Ideal S16x8320x8320 .f32 := DS (rDP m c) (rEX m c) (rSU m c) (IN (rDP m c) (rEX m c) (rSU m c))

theorem res_dq : (res_main_v72 m c : FVec Ideal S16x8320x64 .f32) = DQ (rDS m c) (ak m c) := by unfold res_main_v72; rfl
theorem res_dk : (res_main_v71 m c : FVec Ideal S16x8320x64 .f32) = DK (rDS m c) (aq m c) := by unfold res_main_v71; rfl
theorem res_dv : (res_main_v46 m c : FVec Ideal S16x8320x64 .f32) = DV (rEX m c) (rSU m c) (act m c) := by unfold res_main_v46; rfl
theorem res_dc : (res_main_v68 m c : FVec Ideal S16x8320 .f32) = DC (rDS m c) := by unfold res_main_v68; rfl

variable {H : Fin 16 → Head}
theorem rEX_at (A : ArgsReal (aq m c) (ak m c) (av m c) (act m c) (ag m c) H) (h : Fin 16) (x y : Fin 8320) :
    rEX m c (ix3 h x y) = (((H h).e x y : ℝ) : EReal) := EX_at _ _ h x y (SM_at A h x y) (MX_at _ h x _ (MR_at _ h x (SM_at A h x)))
theorem rSU_at (A : ArgsReal (aq m c) (ak m c) (av m c) (act m c) (ag m c) H) (h : Fin 16) (x : Fin 8320) :
    rSU m c (ix2 h x) = (((H h).l x : ℝ) : EReal) := SU_at _ h x (rEX_at m c A h x)
theorem rDS_at (A : ArgsReal (aq m c) (ak m c) (av m c) (act m c) (ag m c) H) (h : Fin 16) (x y : Fin 8320) :
    rDS m c (ix3 h x y) = (((H h).ds x y : ℝ) : EReal) :=
  DS_at _ _ _ _ h x y (DP_at A h x y) (rEX_at m c A h x y) (rSU_at m c A h x)
    (IN_at _ _ _ h x (DP_at A h x) (rEX_at m c A h x) (rSU_at m c A h x))
theorem dq_at (A : ArgsReal (aq m c) (ak m c) (av m c) (act m c) (ag m c) H) (h : Fin 16) (x : Fin 8320) (d : Fin 64) :
    (res_main_v72 m c : FVec Ideal S16x8320x64 .f32) (ix3 h x d) = (((H h).dq x d : ℝ) : EReal) :=
  (congrFun (res_dq m c) _).trans (DQ_at A _ h x d (rDS_at m c A h x))
theorem dk_at (A : ArgsReal (aq m c) (ak m c) (av m c) (act m c) (ag m c) H) (h : Fin 16) (x : Fin 8320) (d : Fin 64) :
    (res_main_v71 m c : FVec Ideal S16x8320x64 .f32) (ix3 h x d) = (((H h).dk x d : ℝ) : EReal) :=
  (congrFun (res_dk m c) _).trans (DK_at A _ h x d fun y => rDS_at m c A h y x)
theorem dv_at (A : ArgsReal (aq m c) (ak m c) (av m c) (act m c) (ag m c) H) (h : Fin 16) (x : Fin 8320) (d : Fin 64) :
    (res_main_v46 m c : FVec Ideal S16x8320x64 .f32) (ix3 h x d) = (((H h).dv x d : ℝ) : EReal) :=
  (congrFun (res_dv m c) _).trans (DV_at A _ _ h x d (fun y => rEX_at m c A h y x) (rSU_at m c A h))
theorem dc_at (A : ArgsReal (aq m c) (ak m c) (av m c) (act m c) (ag m c) H) (h : Fin 16) (z : Fin 8320) :
    (res_main_v68 m c : FVec Ideal S16x8320 .f32) (ix2 h z) = (((H h).dc z : ℝ) : EReal) :=
  (congrFun (res_dc m c) _).trans (DC_at _ h z (rDS_at m c A h))

end Cert.ReferenceIdeal.Val
-- ==== Proof.Alg.lean ====
/- The kernel and the reference agree, over the extended reals, from finite arguments. -/
module

public import proofs.«01_k».proof.Defs
public import proofs.«01_k».proof.Proof.Gen.Pre_finite
public import proofs.«01_k».proof.Proof.Tail
public import proofs.«01_k».proof.Proof.RefVal

@[expose] public section

set_option maxRecDepth 16384

noncomputable section

namespace Cert.Proof

open Idealize.ShloMosaic Idealize.SL.Sem Idealize.ShloMosaic.TcCoe Cert.Attn

/-- A number below plus infinity in absolute value is real. -/
theorem real_of_abs (x : EReal) (h : Ideal.cmp .olt (max x (-x)) (Ideal.ofBits .f32 0x7F800000#32) = 1#1) : x = ((x.toReal : ℝ) : EReal) := by
  have hi : Ideal.ofBits .f32 0x7F800000#32 = ⊤ := by simp [Ideal.ofBits, Ideal.ieee]
  have hlt := (Ideal.cmp_olt_eq_one _ _).mp h
  rw [hi] at hlt
  refine (EReal.coe_toReal ?_ ?_).symm
  · rintro rfl; exact absurd hlt (by simp)
  · rintro rfl; exact absurd hlt (by simp)

section
variable (q k v t : FVec Ideal Cert.Pre_finite.S16x8320x64 .f32) (g : FVec Ideal Cert.Pre_finite.S16x8320 .f32)

/-- The heads of the arguments. -/
def heads (h : Fin 16) : Head where
  q x d := (q (ix3 h x d)).toReal
  k x d := (k (ix3 h x d)).toReal
  v x d := (v (ix3 h x d)).toReal
  ct x d := (t (ix3 h x d)).toReal
  c x := (g (ix2 h x)).toReal

theorem heads_real (h : (Cert.Pre_finite.fn (F := Ideal) q k v g t).1 = (fun _ => 1#1) ∧ (Cert.Pre_finite.fn (F := Ideal) q k v g t).2.1 = (fun _ => 1#1)
    ∧ (Cert.Pre_finite.fn (F := Ideal) q k v g t).2.2.1 = (fun _ => 1#1) ∧ (Cert.Pre_finite.fn (F := Ideal) q k v g t).2.2.2.1 = (fun _ => 1#1)
    ∧ (Cert.Pre_finite.fn (F := Ideal) q k v g t).2.2.2.2 = (fun _ => 1#1)) : ArgsReal q k v t g (heads q k v t g) where
  q a x d := real_of_abs _ (congrFun h.1 (ix3 a x d))
  k a x d := real_of_abs _ (congrFun h.2.1 (ix3 a x d))
  v a x d := real_of_abs _ (congrFun h.2.2.1 (ix3 a x d))
  t a x d := real_of_abs _ (congrFun h.2.2.2.2 (ix3 a x d))
  g a x := real_of_abs _ (congrFun h.2.2.2.1 (ix2 a x))
end

/-- Two arrays that agree at every index. -/
theorem ext3 {X Y : FVec Ideal Cert.Pre_finite.S16x8320x64 .f32} (h : ∀ (a : Fin 16) (x : Fin 8320) (d : Fin 64), X (ix3 a x d) = Y (ix3 a x d)) : X = Y := by
  funext i
  rw [show i = ix3 (i 0) (i 1) (i 2) from eq_ix3 i]
  exact h _ _ _
theorem ext2 {X Y : FVec Ideal Cert.Pre_finite.S16x8320 .f32} (h : ∀ (a : Fin 16) (x : Fin 8320), X (ix2 a x) = Y (ix2 a x)) : X = Y := by
  funext i
  rw [show i = ix2 (i 0) (i 1) from eq_ix2 i]
  exact h _ _

section
open Cert.KernelIdeal Cert.KernelIdeal.Gen Cert.KernelIdeal.Body Cert.KernelIdeal.Host

/-- What the kernel leaves. -/
theorem kernel_run (m : (ℓ : Loc nD τ sig) → Buf (Elt Ideal) ℓ) (ρ : Dev nD → PrngReg) (H : Dev nD → Fin 16 → Head)
    (A : ∀ c, ArgsReal (aq m c) (ak m c) (av m c) (act m c) (ag m c) (H c)) :
    θ_run defs (onTc (τ := τ) (main (F := Ideal))) ⟨m, fun _ => 0, ρ⟩ (fun r => ∀ c : Dev nD,
      r.2.mem ((c.tc : Thread nD τ).loc main_v67) = outQ (G8 (H c)) ∧ r.2.mem ((c.tc : Thread nD τ).loc main_v70) = outK (G10 (H c))
      ∧ r.2.mem ((c.tc : Thread nD τ).loc main_v72) = outV (G11 (H c)) ∧ r.2.mem ((c.tc : Thread nD τ).loc main_v77) = outC (G9 (H c)) (G10 (H c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 _ (Pipeline.mem_restRefs_of main_v67 (by decide) (by decide))).trans (W_q m c (A c)),
      ((h.1 c).2 _ (Pipeline.mem_restRefs_of main_v70 (by decide) (by decide))).trans (W_k m c (A c)),
      ((h.1 c).2 _ (Pipeline.mem_restRefs_of main_v72 (by decide) (by decide))).trans (W_v m c (A c)),
      ((h.1 c).2 _ (Pipeline.mem_restRefs_of main_v77 (by decide) (by decide))).trans (W_c m c (A c)),
      ((h.1 c).2 _ (Pipeline.mem_restRefs_of main_arg0 (by decide) (by decide))).trans (W_main_arg0 m (dats m) c),
      ((h.1 c).2 _ (Pipeline.mem_restRefs_of main_arg1 (by decide) (by decide))).trans (W_main_arg1 m (dats m) c),
      ((h.1 c).2 _ (Pipeline.mem_restRefs_of main_arg2 (by decide) (by decide))).trans (W_main_arg2 m (dats m) c),
      ((h.1 c).2 _ (Pipeline.mem_restRefs_of main_arg3 (by decide) (by decide))).trans (W_main_arg3 m (dats m) c),
      ((h.1 c).2 _ (Pipeline.mem_restRefs_of main_arg4 (by decide) (by decide))).trans (W_main_arg4 m (dats m) c)⟩)
    (run_main m ρ)
end

section
open Cert.ReferenceIdeal Cert.ReferenceIdeal.Val Cert.ReferenceIdeal.Value
variable (m : (ℓ : Loc nD τ sig) → Buf (Elt Ideal) ℓ) (c : Dev nD) {H : Fin 16 → Head}
    (A : ArgsReal (aq m c) (ak m c) (av m c) (act m c) (ag m c) H)
include A
theorem ref_q : (res_main_v72 m c : FVec Ideal Cert.Pre_finite.S16x8320x64 .f32) = Cert.KernelIdeal.Body.outQ (Cert.KernelIdeal.Body.G8 H) :=
  ext3 fun a x d => (dq_at m c A a x d).trans (Cert.KernelIdeal.Body.outQ_at a x d).symm
theorem ref_k : (res_main_v71 m c : FVec Ideal Cert.Pre_finite.S16x8320x64 .f32) = Cert.KernelIdeal.Body.outK (Cert.KernelIdeal.Body.G10 H) :=
  ext3 fun a x d => (dk_at m c A a x d).trans (Cert.KernelIdeal.Body.outK_at a x d).symm
theorem ref_v : (res_main_v46 m c : FVec Ideal Cert.Pre_finite.S16x8320x64 .f32) = Cert.KernelIdeal.Body.outV (Cert.KernelIdeal.Body.G11 H) :=
  ext3 fun a x d => (dv_at m c A a x d).trans (Cert.KernelIdeal.Body.outV_at a x d).symm
theorem ref_c : (res_main_v68 m c : FVec Ideal Cert.Pre_finite.S16x8320 .f32) = Cert.KernelIdeal.Body.outC (Cert.KernelIdeal.Body.G9 H) (Cert.KernelIdeal.Body.G10 H) :=
  ext2 fun a x => (dc_at m c A a x).trans (Cert.KernelIdeal.Body.outC_at a x).symm
end

/-- From finite arguments the kernel's four results are the reference's. -/
theorem algebraic : Cert.algebraic_KernelIdeal_ReferenceIdeal_pre_finite := fun m g m' g' hpre hargs => by
  let H : Dev Cert.KernelIdeal.nD → Fin 16 → Head := fun c => heads (Cert.KernelIdeal.Host.aq m c) (Cert.KernelIdeal.Host.ak m c)
    (Cert.KernelIdeal.Host.av m c) (Cert.KernelIdeal.Host.act m c) (Cert.KernelIdeal.Host.ag m c)
  have A : ∀ c, ArgsReal (Cert.KernelIdeal.Host.aq m c) (Cert.KernelIdeal.Host.ak m c) (Cert.KernelIdeal.Host.av m c)
      (Cert.KernelIdeal.Host.act m c) (Cert.KernelIdeal.Host.ag m c) (H c) := fun c => heads_real _ _ _ _ _ (hpre c)
  have A' : ∀ c, ArgsReal (Cert.ReferenceIdeal.Val.aq m' c) (Cert.ReferenceIdeal.Val.ak m' c) (Cert.ReferenceIdeal.Val.av m' c)
      (Cert.ReferenceIdeal.Val.act m' c) (Cert.ReferenceIdeal.Val.ag m' c) (H c) := fun c => by
    have h := A c
    obtain ⟨e0, e1, e2, e3, e4⟩ := hargs c
    exact ⟨fun a x d => (congrFun e0 _).trans (h.q a x d), fun a x d => (congrFun e1 _).trans (h.k a x d), fun a x d => (congrFun e2 _).trans (h.v a x d),
      fun a x d => (congrFun e4 _).trans (h.t a x d), fun a x => (congrFun e3 _).trans (h.g a x)⟩
  refine ⟨_, _, _, _, kernel_run m g H A, (θ_run Cert.ReferenceIdeal.defs _ _).mono (fun r h c => ?_) (Cert.ReferenceIdeal.Value.run (F := Ideal) m' g')⟩
  obtain ⟨h0, h1, h2, h3, h4⟩ := h c
  exact ⟨h0.trans (ref_q m' c (A' c)), h1.trans (ref_k m' c (A' c)), h2.trans (ref_v m' c (A' c)), h3.trans (ref_c m' c (A' c)), h4⟩

end Cert.Proof

end
-- ==== Proof.Dact.lean ====
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Claim

@[expose] public section

/-! The gradient of the activations of a feed-forward layer: the product of the cotangent with the transposed weights, a block of 640 rows per
grid point. -/

set_option maxRecDepth 16384

noncomputable section

open Idealize.ShloMosaic Idealize.ShloMosaic.TcCoe Idealize.SL.Sem
open Idealize.ShloMosaic.Pipeline (Dat)

namespace Cert.Kernel2Ideal.Dact

open Cert.Kernel2Ideal Cert.Kernel2Ideal.Gen

variable (m : (ℓ : Loc nD τ sig) → Buf (Elt Ideal) ℓ)

/-- The reference's result. -/
abbrev want (W : FVec Ideal S2816x1024 .f32) (Z : FVec Ideal S8320x1024 .f32) : FVec Ideal S8320x2816 .bf16 :=
  truncf .bf16 (Host.dotGeneral Cert.Reference2Ideal.dot_S8320x1024_S2816x1024_S8320x2816_1_1_0_0_n_n none Z W) Cert.Reference2Ideal.Gen.bitsLt_bf16_f32

/-- Grid point `t` takes row block `t` of the cotangent and writes row block `t`. -/
theorem places : ∀ t : Fin cfg0.N, win0_0.index t = ![t.val, 0] ∧ win0_1.index t = ![0, 0] ∧ win0_2.index t = ![t.val, 0] :=
  (by decide +kernel : ∀ t : Fin grid0.N, _)

/-- A stored element is the reference's. -/
theorem stored (c : Dev nD) (t : Fin cfg0.N) (y) : k0_pay1 (iblk m c 0 t) (iblk m c 1 t) y
    = want (m ((c : Thread nD τ).loc main_arg1)) (m ((c : Thread nD τ).loc main_arg2)) (((cfg0.win 2).blk t).view.emb y) := by
  pointwise [k0_pay1, want]
  blk_point [iblk, places t]

/-- The array after the run. -/
theorem whole (c : Dev nD) : (dats m 0 c).arrAt 2 (cfgs 0).N
    = want (m ((c : Thread nD τ).loc main_arg1)) (m ((c : Thread nD τ).loc main_arg2)) := by
  refine (dats m 0 c).arrAt_eq_of_covers 2 _ (by decide +kernel) fun t _ y => ?_
  blk_simp
  rw [after0_2]
  frame_out
  exact stored m c t y

end Cert.Kernel2Ideal.Dact

namespace Cert.Proof

theorem algebraic2 : Cert.algebraic_Kernel2Ideal_Reference2Ideal := by
  pair_intro
  · run_from Cert.Kernel2Ideal.Gen.run_main m g
  · run_from Cert.Reference2Ideal.Value.run m' g'
    exact (Cert.Kernel2Ideal.Dact.whole m c).symm

end Cert.Proof

end
-- ==== Proof.Dout.lean ====
module

public import proofs.«01_k».proof.Defs
public import proofs.«01_k».proof.Proof.Gen.Kernel3Ideal.Frame
public import proofs.«01_k».proof.Proof.Gen.Reference3Ideal.Run
public import Idealize.ShloMosaic.Lib.Pipeline.ValueKit
public import Idealize.ShloMosaic.Lib.Claim

@[expose] public section

/-! The gradient of the outer weights of a feed-forward layer: a product over the 8320 rows, accumulated over five blocks of rows. -/

set_option maxRecDepth 16384

noncomputable section

open Idealize.ShloMosaic Idealize.ShloMosaic.TcCoe Idealize.SL.Sem
open Idealize.ShloMosaic.Pipeline (Dat)

namespace Cert.Kernel3Ideal.Dout

open Cert.Kernel3Ideal Cert.Kernel3Ideal.Gen

variable (m : (ℓ : Loc nD τ sig) → Buf (Elt Ideal) ℓ)

/-- The reference's result. -/
abbrev want (A : FVec Ideal S8320x2816 .f32) (Z : FVec Ideal S8320x1024 .f32) : FVec Ideal S2816x1024 .f32 :=
  transpose Cert.Reference3Ideal.S2816x1024 [1, 0] (Host.dotGeneral Cert.Reference3Ideal.dot_S8320x1024_S8320x2816_S1024x2816_0_0_1_1_n_n none Z A) Cert.Reference3Ideal.Gen.transposes_S1024x2816_S2816x1024_1_0

/-- The blocks of a grid point: the row block counts fastest. -/
theorem places : ∀ t : Fin cfg0.N, win0_0.index t = ![t.val % 5, t.val / 5] ∧ win0_1.index t = ![t.val % 5, 0] ∧ win0_2.index t = ![t.val / 5, 0] :=
  (by decide +kernel : ∀ t : Fin grid0.N, _)

/-- The part of one block of rows. -/
theorem first (x0 : FVec Ideal S1664x1408 .bf16) (x1 : FVec Ideal S1664x1024 .bf16) (j) :
    k0_pay1 (F := Ideal) x0 x1 j = ∑ k : Fin 1664, x0 (ix2 k (j 0)) * x1 (ix2 k (j 1)) := by
  pointwise [k0_pay1]

theorem next (x0 : FVec Ideal S1664x1408 .bf16) (x1 : FVec Ideal S1664x1024 .bf16) (acc : FVec Ideal S1408x1024 .f32) (j) :
    k0_pay2 (F := Ideal) x0 x1 acc j = acc j + ∑ k : Fin 1664, x0 (ix2 k (j 0)) * x1 (ix2 k (j 1)) := by
  pointwise [k0_pay2, k0_pay1]

theorem want_at (A : FVec Ideal S8320x2816 .f32) (Z : FVec Ideal S8320x1024 .f32) (j) :
    want A Z j = ∑ l : Fin 8320, A (ix2 l (j 0)) * Z (ix2 l (j 1)) := by
  pointwise [want]
  exact Finset.sum_congr rfl fun l _ => mul_comm _ _

/-- The array after the run. -/
theorem whole (c : Dev nD) : (dats m 0 c).arrAt 2 (cfgs 0).N
    = want (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 5 (fun _ => 0) _
    (fun t h j => by rw [outsAt0_A m c t h (by omega)]; frame_out; rw [first]; exact (zero_add _).symm)
    (fun t h j => by rw [outsAt0_B m c t h (by omega)]; frame_out; rw [next])
    t ((flush0_2 t).mp hf) _, zero_add, want_at]
  refine Fin.sum_mul_add_congr fun s k hl => ?_
  blk_point [iblk, places t, places ⟨_, Pipeline.run_point_lt_of_flush t ((flush0_2 t).mp hf) s⟩]

end Cert.Kernel3Ideal.Dout

namespace Cert.Proof

theorem algebraic3 : Cert.algebraic_Kernel3Ideal_Reference3Ideal := by
  pair_intro
  · run_from Cert.Kernel3Ideal.Gen.run_main m g
  · run_from Cert.Reference3Ideal.Value.run m' g'
    exact (Cert.Kernel3Ideal.Dout.whole m c).symm

end Cert.Proof

end
-- ==== Proof.Din.lean ====
module

public import proofs.«01_k».proof.Defs
public import proofs.«01_k».proof.Proof.Gen.Kernel4Ideal.Frame
public import proofs.«01_k».proof.Proof.Gen.Reference4Ideal.Run
public import Idealize.ShloMosaic.Lib.Pipeline.ValueKit
public import Idealize.ShloMosaic.Lib.Claim

@[expose] public section

/-! The gradient of the inner weights of a feed-forward layer: a product over the 8320 rows, accumulated over two blocks of rows. -/

set_option maxRecDepth 16384

noncomputable section

open Idealize.ShloMosaic Idealize.ShloMosaic.TcCoe Idealize.SL.Sem
open Idealize.ShloMosaic.Pipeline (Dat)

namespace Cert.Kernel4Ideal.Din

open Cert.Kernel4Ideal Cert.Kernel4Ideal.Gen

variable (m : (ℓ : Loc nD τ sig) → Buf (Elt Ideal) ℓ)

/-- The reference's result. -/
abbrev want (A : FVec Ideal S8320x1024 .f32) (Z : FVec Ideal S8320x5632 .f32) : FVec Ideal S1024x5632 .f32 :=
  transpose Cert.Reference4Ideal.S1024x5632 [1, 0] (Host.dotGeneral Cert.Reference4Ideal.dot_S8320x5632_S8320x1024_S5632x1024_0_0_1_1_n_n none Z A) Cert.Reference4Ideal.Gen.transposes_S5632x1024_S1024x5632_1_0

/-- The blocks of a grid point: the row block counts fastest. -/
theorem places : ∀ t : Fin cfg0.N, win0_0.index t = ![t.val % 2, 0] ∧ win0_1.index t = ![t.val % 2, t.val / 2] ∧ win0_2.index t = ![0, t.val / 2] :=
  (by decide +kernel : ∀ t : Fin grid0.N, _)

/-- The part of one block of rows. -/
theorem first (x0 : FVec Ideal S4160x1024 .bf16) (x1 : FVec Ideal S4160x512 .bf16) (j) :
    k0_pay1 (F := Ideal) x0 x1 j = ∑ k : Fin 4160, x0 (ix2 k (j 0)) * x1 (ix2 k (j 1)) := by
  pointwise [k0_pay1]

theorem next (x0 : FVec Ideal S4160x1024 .bf16) (x1 : FVec Ideal S4160x512 .bf16) (acc : FVec Ideal S1024x512 .f32) (j) :
    k0_pay2 (F := Ideal) x0 x1 acc j = acc j + ∑ k : Fin 4160, x0 (ix2 k (j 0)) * x1 (ix2 k (j 1)) := by
  pointwise [k0_pay2, k0_pay1]

theorem want_at (A : FVec Ideal S8320x1024 .f32) (Z : FVec Ideal S8320x5632 .f32) (j) :
    want A Z j = ∑ l : Fin 8320, A (ix2 l (j 0)) * Z (ix2 l (j 1)) := by
  pointwise [want]
  exact Finset.sum_congr rfl fun l _ => mul_comm _ _

/-- The array after the run. -/
theorem whole (c : Dev nD) : (dats m 0 c).arrAt 2 (cfgs 0).N
    = want (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first]; exact (zero_add _).symm)
    (fun t h j => by rw [outsAt0_B m c t h (by omega)]; frame_out; rw [next])
    t ((flush0_2 t).mp hf) _, zero_add, want_at]
  refine Fin.sum_mul_add_congr fun s k hl => ?_
  blk_point [iblk, places t, places ⟨_, Pipeline.run_point_lt_of_flush t ((flush0_2 t).mp hf) s⟩]

end Cert.Kernel4Ideal.Din

namespace Cert.Proof

theorem algebraic4 : Cert.algebraic_Kernel4Ideal_Reference4Ideal := by
  pair_intro
  · run_from Cert.Kernel4Ideal.Gen.run_main m g
  · run_from Cert.Reference4Ideal.Value.run m' g'
    exact (Cert.Kernel4Ideal.Din.whole m c).symm

end Cert.Proof

end
-- ==== Proof.Norm.lean ====
/- The gradient of a layer norm at one row of 1024 numbers: as the kernel writes it, as the differentiated forward pass
   writes it, and that the two agree on real numbers. -/
module

public import proofs.«01_k».proof.Proof.Real

@[expose] public section

set_option maxRecDepth 16384
noncomputable section
open Idealize.ShloMosaic
namespace Cert.Norm

/-- The width of a row. -/
abbrev width : EReal := Ideal.ofBits .f32 0x44800000#32
/-- What is added to the variance. -/
abbrev eps : EReal := Ideal.ofBits .f32 0x3727C5AC#32
abbrev half : EReal := Ideal.ofBits .f32 0xBF000000#32

def mean (x : Fin 1024 → EReal) : EReal := Ideal.div (∑ k, x k) width
/-- The centred row. -/
def xc (x : Fin 1024 → EReal) (j : Fin 1024) : EReal := x j - mean x
def var (x : Fin 1024 → EReal) : EReal := mean (fun k => xc x k * xc x k) + eps
def rstd (x : Fin 1024 → EReal) : EReal := Ideal.rsqrt (var x)
/-- The normalised row. -/
def xhat (x : Fin 1024 → EReal) (j : Fin 1024) : EReal := xc x j * rstd x

theorem mul_both {a a' b b' : EReal} (h : a = a') (h' : b = b') : a * b = a' * b' := h ▸ h' ▸ rfl

/-- The layer norm of a row with gain `g` and offset `b`. -/
def lnF (x g b : Fin 1024 → EReal) (j : Fin 1024) : EReal := xhat x j * g j + b j

/-- The kernel's gradient: `x` is the row, `y` the cotangent of the normalised row. -/
def dzK (x y : Fin 1024 → EReal) (j : Fin 1024) : EReal :=
  rstd x * (y j - mean y - xhat x j * mean fun k => y k * xhat x k)

/-- Half the cotangent of the variance, over the width. -/
def dvar (x y : Fin 1024 → EReal) : EReal :=
  Ideal.div ((∑ k, xc x k * y k) * (half * Ideal.div (rstd x) (var x))) width
/-- The cotangent of the centred row. -/
def dxc (x y : Fin 1024 → EReal) (j : Fin 1024) : EReal :=
  y j * rstd x + xc x j * dvar x y + dvar x y * xc x j
/-- The differentiated forward pass. -/
def dzR (x y : Fin 1024 → EReal) (j : Fin 1024) : EReal := dxc x y j + mean fun k => -dxc x y k

/-! ## Over the reals -/

theorem width_real : width = ((1024 : ℝ) : EReal) := by
  simp [width, Ideal.ofBits, Ideal.ieee, -EReal.coe_mul]; norm_num
theorem half_real : half = ((-(1 / 2) : ℝ) : EReal) := by
  simp [half, Ideal.ofBits, Ideal.ieee, -EReal.coe_mul]; norm_num
theorem eps_real : ∃ e : ℝ, 0 < e ∧ eps = (e : EReal) := by
  refine ⟨10995116 / 2 ^ 40, by norm_num, ?_⟩
  simp [eps, Ideal.ofBits, Ideal.ieee, -EReal.coe_mul]; norm_num

theorem mean_real (a : Fin 1024 → ℝ) : mean (fun k => (a k : EReal)) = (((∑ k, a k) / 1024 : ℝ) : EReal) := by
  unfold mean
  rw [width_real, ← Cert.Attn.coe_sum, Cert.Attn.div_real _ _ (by norm_num)]

theorem dz_eq (a b : Fin 1024 → ℝ) (j : Fin 1024) :
    dzK (fun k => (a k : EReal)) (fun k => (b k : EReal)) j = dzR (fun k => (a k : EReal)) (fun k => (b k : EReal)) j := by
  obtain ⟨e, he, hee⟩ := eps_real
  obtain ⟨u, hu⟩ : ∃ u : Fin 1024 → ℝ, u = fun k => a k - (∑ i, a i) / 1024 := ⟨_, rfl⟩
  have hxc : xc (fun k => (a k : EReal)) = fun k => (u k : EReal) := by
    funext k; unfold xc; rw [mean_real, hu, EReal.coe_sub]
  have hsum : ∑ k, u k = 0 := by
    rw [hu, Finset.sum_sub_distrib, Finset.sum_const, Finset.card_univ, Fintype.card_fin, nsmul_eq_mul]
    push_cast; ring
  obtain ⟨v, hv⟩ : ∃ v : ℝ, v = (∑ k, u k * u k) / 1024 + e := ⟨_, rfl⟩
  have hvp : 0 < v := by
    rw [hv]; exact add_pos_of_nonneg_of_pos (div_nonneg (Finset.sum_nonneg fun k _ => mul_self_nonneg _) (by norm_num)) he
  have hvar : var (fun k => (a k : EReal)) = (v : EReal) := by
    unfold var
    rw [hxc, hee, hv, EReal.coe_add, ← mean_real]
    simp only [EReal.coe_mul]
  obtain ⟨r, hr⟩ : ∃ r : ℝ, r = (Real.sqrt v)⁻¹ := ⟨_, rfl⟩
  have hrstd : rstd (fun k => (a k : EReal)) = (r : EReal) := by
    unfold rstd
    rw [hvar, Ideal.rsqrt_coe, if_neg (not_lt.mpr hvp.le), if_neg hvp.ne', hr]
  have hrv : r / v = r * r * r := by
    have h : r * r = 1 / v := by rw [hr, ← mul_inv, Real.mul_self_sqrt hvp.le, one_div]
    rw [h]; ring
  have hxh : xhat (fun k => (a k : EReal)) = fun k => ((u k * r : ℝ) : EReal) := by
    funext k; unfold xhat; rw [hxc, hrstd, EReal.coe_mul]
  obtain ⟨w, hw⟩ : ∃ w : ℝ, w = ∑ k, u k * b k := ⟨_, rfl⟩
  have hdvar : dvar (fun k => (a k : EReal)) (fun k => (b k : EReal)) = ((w * (-(1 / 2) * (r / v)) / 1024 : ℝ) : EReal) := by
    unfold dvar
    rw [hxc, hrstd, hvar, half_real, width_real, Cert.Attn.div_real _ _ hvp.ne', ← EReal.coe_mul]
    simp only [← EReal.coe_mul, ← Cert.Attn.coe_sum]
    rw [← hw, Cert.Attn.div_real _ _ (by norm_num)]
  have hdxc : dxc (fun k => (a k : EReal)) (fun k => (b k : EReal)) = fun k => ((b k * r - u k * (r * r * r * w / 1024) : ℝ) : EReal) := by
    funext k
    unfold dxc
    rw [hdvar, hrstd, hxc, hrv]
    simp only [← EReal.coe_mul, ← EReal.coe_add]
    exact congrArg _ (by ring)
  unfold dzK dzR
  rw [hdxc, hrstd, hxh]
  simp only [← EReal.coe_mul, ← EReal.coe_neg]
  rw [mean_real, mean_real, mean_real]
  simp only [← EReal.coe_mul, ← EReal.coe_sub, ← EReal.coe_add]
  refine congrArg _ ?_
  have h1 : ∑ k, b k * (u k * r) = r * w := by
    rw [hw, Finset.mul_sum]; exact Finset.sum_congr rfl fun k _ => by ring
  have h2 : ∑ k, -(b k * r - u k * (r * r * r * w / 1024)) = -(r * ∑ k, b k) := by
    simp only [Finset.sum_neg_distrib, Finset.sum_sub_distrib, ← Finset.sum_mul, hsum]
    ring
  rw [h1, h2]
  ring

end Cert.Norm

end
-- ==== Proof.Lnref.lean ====
/- The gradient of a feed-forward layer's normalised input and of the layer norm before it: what is to be computed, and
   that the reference computes it. -/
module

public import proofs.«01_k».proof.Proof.Norm
public import proofs.«01_k».proof.Proof.Gen.Reference5Ideal.Run
public import Idealize.ShloMosaic.Lib.Pipeline.ValueKit

@[expose] public section

set_option maxRecDepth 65536
noncomputable section
open Idealize.ShloMosaic Idealize.ShloMosaic.TcCoe Idealize.SL.Sem
namespace Cert.Norm

section
variable (z nx : FVec Ideal ⟨2, ![8320, 1024]⟩ .f32) (g : FVec Ideal ⟨1, ![1024]⟩ .f32)
  {n : ℕ} (w : FVec Ideal ⟨2, ![1024, n]⟩ .f32) (du : FVec Ideal ⟨2, ![8320, n]⟩ .f32)

/-- The cotangent of the normalised input: the product's part and the skip connection's. -/
def dh (x : Fin 8320) (j : Fin 1024) : EReal :=
  (∑ l : Fin n, (du (ix2 x l) : EReal) * (w (ix2 j l) : EReal)) + Ideal.ofBits .f32 0x3FB504F3#32 * (nx (ix2 x j) : EReal)
/-- A row of the layer norm's input. -/
def row (x : Fin 8320) (j : Fin 1024) : EReal := z (ix2 x j)
/-- The cotangent of the normalised row before the gain. -/
def dy (x : Fin 8320) (j : Fin 1024) : EReal := dh nx w du x j * (g (ix1 j) : EReal)

/-- The gradient of the layer norm's input as the differentiated forward pass writes it, and as the kernel does; the
gradients of the gain and of the offset. -/
def wantR (i : Shape.Idx ⟨2, ![8320, 1024]⟩) : EReal := dzR (row z (i 0)) (dy nx g w du (i 0)) (i 1)
def wantK (i : Shape.Idx ⟨2, ![8320, 1024]⟩) : EReal := dzK (row z (i 0)) (dy nx g w du (i 0)) (i 1)
def wantG (k : Fin 1024) : EReal := ∑ x : Fin 8320, dh nx w du x k * xhat (row z x) k
def wantB (k : Fin 1024) : EReal := ∑ x : Fin 8320, dh nx w du x k
end

end Cert.Norm

namespace Cert.Reference5Ideal.Val
open Cert.Reference5Ideal Cert.Reference5Ideal.Gen Cert.Reference5Ideal.Value Cert.Norm

/-- Two arrays that agree at every index. -/
theorem ext2 {φ : FTy} {X Y : FVec Ideal S8320x1024 φ} (h : ∀ (x : Fin 8320) (j : Fin 1024), X (ix2 x j) = Y (ix2 x j)) : X = Y := by
  funext i
  rw [show i = ix2 (i 0) (i 1) from eq_ix2 i]
  exact h _ _

section
variable (m : (ℓ : Loc nD τ sig) → Buf (Elt Ideal) ℓ) (c : Dev nD)
abbrev az : FVec Ideal S8320x1024 .f32 := m ((c.tc : Thread nD τ).loc main_arg0)
abbrev ag : FVec Ideal S1024 .f32 := m ((c.tc : Thread nD τ).loc main_arg1)
abbrev aw : FVec Ideal S1024x5632 .f32 := m ((c.tc : Thread nD τ).loc main_arg3)
abbrev anx : FVec Ideal S8320x1024 .f32 := m ((c.tc : Thread nD τ).loc main_arg4)
abbrev adu : FVec Ideal S8320x5632 .f32 := m ((c.tc : Thread nD τ).loc main_arg5)

set_option maxHeartbeats 4000000 in
theorem dz_at (x : Fin 8320) (j : Fin 1024) : (res_main_v62 (F := Ideal) m c : FVec Ideal S8320x1024 .f32) (ix2 x j)
    = wantR (az m c) (anx m c) (ag m c) (aw m c) (adu m c) (ix2 x j) := by
  unfold res_main_v62
  pointwise
  simp only [Fin.sum_univ_one]
  simp only [wantR, dzR, dxc, dvar, xc, var, rstd, mean, dh, dy, row]
  rfl

set_option maxHeartbeats 4000000 in
theorem dzb_at (x : Fin 8320) (j : Fin 1024) : (res_main_v63 (F := Ideal) m c : FVec Ideal S8320x1024 .bf16) (ix2 x j)
    = wantR (az m c) (anx m c) (ag m c) (aw m c) (adu m c) (ix2 x j) := by
  unfold res_main_v63
  pointwise
  simp only [Fin.sum_univ_one]
  simp only [wantR, dzR, dxc, dvar, xc, var, rstd, mean, dh, dy, row]
  rfl
end

set_option maxHeartbeats 4000000 in
/-- What the reference leaves. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = (fun i => wantR (az m c) (anx m c) (ag m c) (aw m c) (adu m c) i : FVec Ideal S8320x1024 .f32)
      ∧ r.2.mem ((c.tc : Thread nD τ).loc main_v63) = (fun i => wantR (az m c) (anx m c) (ag m c) (aw m c) (adu m c) i : FVec Ideal S8320x1024 .bf16)
      ∧ r.2.mem ((c.tc : Thread nD τ).loc main_v64) = (fun j => wantG (az m c) (anx m c) (aw m c) (adu m c) (j 1) : FVec Ideal S1x1024 .f32)
      ∧ r.2.mem ((c.tc : Thread nD τ).loc main_v65) = (fun j => wantB (anx m c) (aw m c) (adu m c) (j 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c).1.trans (ext2 (φ := .f32) fun x j => dz_at m c x j), (h c).2.1.trans (ext2 (φ := .bf16) fun x j => dzb_at m c x j),
      (h c).2.2.1.trans (by
        funext j
        pointwise
        simp only [Fin.sum_univ_one]
        simp only [wantG, xhat, xc, var, rstd, mean, dh, row]
        refine Finset.sum_congr rfl fun x _ => mul_comm _ _),
      (h c).2.2.2.1.trans (by
        funext j
        pointwise
        simp only [Fin.sum_univ_one]
        simp only [wantB, dh]),
      (h c).2.2.2.2⟩)
    (run (F := Ideal) m ρ)
end Cert.Reference5Ideal.Val

end
-- ==== Proof.Lnk.lean ====
/- The gradient of a feed-forward layer's normalised input and of the layer norm before it: the kernel. -/
module

public import proofs.«01_k».proof.Defs
public import proofs.«01_k».proof.Proof.Lnref
public import proofs.«01_k».proof.Proof.Gen.Kernel5Ideal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Ln

open Cert.Kernel5Ideal Cert.Kernel5Ideal.Gen Cert.Norm

/-! ## The body's words at an index -/

theorem pay4_at (x0 : FVec Ideal S640x2816 .bf16) (x1 : FVec Ideal S1024x2816 .bf16) (j) :
    k0_pay4 (F := Ideal) x0 x1 j = ∑ l : Fin 2816, x0 (ix2 (j 0) l) * x1 (ix2 (j 1) l) := by
  pointwise [k0_pay4, k0_pay1]

theorem pay5_at (x0 : FVec Ideal S640x2816 .bf16) (x1 : FVec Ideal S1024x2816 .bf16) (acc : FVec Ideal S640x1024 .f32) (j) :
    k0_pay5 (F := Ideal) x0 x1 acc j = acc j + ∑ l : Fin 2816, x0 (ix2 (j 0) l) * x1 (ix2 (j 1) l) := by
  pointwise [k0_pay5, k0_pay1]

theorem pay9_at (acc nx : FVec Ideal S640x1024 .f32) (j) :
    k0_pay9 (F := Ideal) acc nx j = acc j + Ideal.ofBits .f32 0x3FB504F3#32 * nx j := by
  pointwise [k0_pay9]

theorem pay12_at (z : FVec Ideal S640x1024 .f32) (r : Fin 640) (k : Fin 1024) :
    k0_pay12 (F := Ideal) z (ix2 r k) = xhat (fun k' => z (ix2 r k')) k := by
  pointwise [k0_pay12, k0_pay11, k0_pay10]
  simp only [xhat, xc, rstd, var, mean]

theorem pay13_at (acc nx z : FVec Ideal S640x1024 .f32) (g : FVec Ideal S1x1024 .f32) (r : Fin 640) (k : Fin 1024) :
    k0_pay13 (F := Ideal) acc nx z g (ix2 r k)
      = dzK (fun k' => z (ix2 r k')) (fun k' => k0_pay9 (F := Ideal) acc nx (ix2 r k') * g (ix2 0 k')) k := by
  pointwise [k0_pay13, k0_pay12, k0_pay11, k0_pay10]
  simp only [dzK, xhat, xc, rstd, var, mean]

theorem pay7_at (d xh : FVec Ideal S640x1024 .f32) (p : FVec Ideal S1x1024 .f32) (j) :
    k0_pay7 (F := Ideal) d xh p j = p j + ∑ r : Fin 640, d (ix2 r (j 1)) * xh (ix2 r (j 1)) := by
  pointwise [k0_pay7]

theorem pay8_at (d : FVec Ideal S640x1024 .f32) (p : FVec Ideal S1x1024 .f32) (j) :
    k0_pay8 (F := Ideal) d p j = p j + ∑ r : Fin 640, d (ix2 r (j 1)) := by
  pointwise [k0_pay8]

/-! ## The blocks -/

variable (m : (ℓ : Loc nD τ sig) → Buf (Elt Ideal) ℓ) (c : Dev nD)

abbrev az : FVec Ideal S8320x1024 .f32 := m ((c : Thread nD τ).loc main_arg0)
abbrev ag : FVec Ideal S1024 .f32 := m ((c : Thread nD τ).loc main_arg1)
abbrev aw : FVec Ideal S1024x5632 .f32 := m ((c : Thread nD τ).loc main_arg3)
abbrev anx : FVec Ideal S8320x1024 .f32 := m ((c : Thread nD τ).loc main_arg4)
abbrev adu : FVec Ideal S8320x5632 .f32 := m ((c : Thread nD τ).loc main_arg5)

theorem places : ∀ t : Fin cfg0.N, win0_0.index t = ![t.val / 2, t.val % 2] ∧ win0_1.index t = ![0, t.val % 2] ∧ win0_2.index t = ![t.val / 2, 0]
    ∧ win0_3.index t = ![t.val / 2, 0] ∧ win0_4.index t = ![0, 0] ∧ win0_5.index t = ![t.val / 2, 0] ∧ win0_6.index t = ![t.val / 2, 0]
    ∧ win0_7.index t = ![0, 0] ∧ win0_8.index t = ![0, 0] :=
  (by decide +kernel : ∀ t : Fin grid0.N, _)

/-- The row of the whole array that row `r` of a point's block is. -/
def rowOf (t : Fin cfg0.N) (r : Fin 640) : Fin 8320 :=
  ⟨t.val / 2 * 640 + r.val, by have h : t.val < 26 := lt_of_lt_of_eq t.isLt N_0; omega⟩
/-- The lane of the contracted axis that lane `l` of a point's block is. -/
def laneOf (t : Fin cfg0.N) (l : Fin 2816) : Fin 5632 := ⟨t.val % 2 * 2816 + l.val, by omega⟩

theorem blk0 (t : Fin cfg0.N) (r : Fin 640) (l : Fin 2816) :
    (iblk m c 0 t : FVec Ideal S640x2816 .bf16) (ix2 r l) = adu m c (ix2 (rowOf t r) (laneOf t l)) := by
  blk_point [iblk, places t, rowOf, laneOf]
theorem blk1 (t : Fin cfg0.N) (k : Fin 1024) (l : Fin 2816) :
    (iblk m c 1 t : FVec Ideal S1024x2816 .bf16) (ix2 k l) = aw m c (ix2 k (laneOf t l)) := by
  blk_point [iblk, places t, laneOf]
theorem blk2 (t : Fin cfg0.N) (r : Fin 640) (k : Fin 1024) :
    (iblk m c 2 t : FVec Ideal S640x1024 .f32) (ix2 r k) = anx m c (ix2 (rowOf t r) k) := by
  blk_point [iblk, places t, rowOf]
theorem blk3 (t : Fin cfg0.N) (r : Fin 640) (k : Fin 1024) :
    (iblk m c 3 t : FVec Ideal S640x1024 .f32) (ix2 r k) = az m c (ix2 (rowOf t r) k) := by
  blk_point [iblk, places t, rowOf]
theorem blk4 (t : Fin cfg0.N) (k : Fin 1024) :
    (iblk m c 4 t : FVec Ideal S1x1024 .f32) (ix2 0 k) = ag m c (ix1 k) := by
  blk_point [iblk, places t]

/-! ## What the points leave -/

/-- The accumulator after an even point. -/
theorem scratch_even (t : Fin cfg0.N) (h : t.val % 2 = 0) :
    (outsAt0 m c t.val t.isLt).2.2.2.2 = k0_pay4 (iblk m c 0 t) (iblk m c 1 t) := by
  by_cases h0 : t.val % 26 = 0
  · rw [outsAt0_A m c t h0 h (by omega) (by omega)]; frame_out
  · rw [outsAt0_C m c t h0 h (by omega) (by omega)]; frame_out

/-- The point before. -/
def prev (t : Fin cfg0.N) : Fin cfg0.N := ⟨t.val - 1, Nat.lt_of_le_of_lt (Nat.sub_le _ _) t.isLt⟩

/-- The accumulator after an odd point, the even point's and its own. -/
def accOf (t : Fin cfg0.N) : FVec Ideal S640x1024 .f32 :=
  k0_pay5 (F := Ideal) (iblk m c 0 t) (iblk m c 1 t) (k0_pay4 (F := Ideal) (iblk m c 0 (prev t)) (iblk m c 1 (prev t)))

theorem before (t : Fin cfg0.N) (h : t.val % 2 = 1) :
    (outsAt0 m c (t.val - 1) (Nat.lt_of_le_of_lt (Nat.sub_le _ _) t.isLt)).2.2.2.2 = k0_pay4 (iblk m c 0 (prev t)) (iblk m c 1 (prev t)) :=
  scratch_even m c (prev t) (show (t.val - 1) % 2 = 0 by omega)

theorem dh_at (t : Fin cfg0.N) (h : t.val % 2 = 1) (r : Fin 640) (k : Fin 1024) :
    k0_pay9 (F := Ideal) (accOf m c t) (iblk m c 2 t) (ix2 r k) = dh (anx m c) (aw m c) (adu m c) (rowOf t r) k := by
  rw [pay9_at, blk2, accOf, pay5_at, pay4_at]
  unfold dh
  refine congrArg (· + _) ?_
  refine Eq.trans ?_ (Fin.sum_mul_add_fin 2 2816 _)
  rw [Fin.sum_univ_two]
  refine congrArg₂ (· + ·) (Finset.sum_congr rfl fun l _ => ?_) (Finset.sum_congr rfl fun l _ => ?_)
  · have e := blk0 m c (prev t) r l
    have e' := blk1 m c (prev t) k l
    have hr : rowOf (prev t) r = rowOf t r := Fin.ext (show (t.val - 1) / 2 * 640 + r.val = t.val / 2 * 640 + r.val by omega)
    have hl : laneOf (prev t) l = ⟨(0 : Fin 2).val * 2816 + l.val, by omega⟩ := Fin.ext (show (t.val - 1) % 2 * 2816 + l.val = 0 * 2816 + l.val by omega)
    rw [hr, hl] at e
    rw [hl] at e'
    exact congrArg₂ (· * ·) e e'
  · have e := blk0 m c t r l
    have e' := blk1 m c t k l
    have hl : laneOf t l = ⟨(1 : Fin 2).val * 2816 + l.val, by omega⟩ := Fin.ext (show t.val % 2 * 2816 + l.val = 1 * 2816 + l.val by omega)
    rw [hl] at e e'
    exact congrArg₂ (· * ·) e e'

theorem xhat_at (t : Fin cfg0.N) (r : Fin 640) (k : Fin 1024) :
    k0_pay12 (F := Ideal) (iblk m c 3 t) (ix2 r k) = xhat (row (az m c) (rowOf t r)) k := by
  rw [pay12_at]
  exact congrArg (fun f => xhat f k) (funext fun k' => blk3 m c t r k')

theorem dz_at (t : Fin cfg0.N) (h : t.val % 2 = 1) (r : Fin 640) (k : Fin 1024) :
    k0_pay13 (F := Ideal) (accOf m c t) (iblk m c 2 t) (iblk m c 3 t) (iblk m c 4 t) (ix2 r k)
      = dzK (row (az m c) (rowOf t r)) (dy (anx m c) (ag m c) (aw m c) (adu m c) (rowOf t r)) k := by
  rw [pay13_at]
  exact congrArg₂ (fun f e => dzK f e k) (funext fun k' => blk3 m c t r k')
    (funext fun k' => congrArg₂ (· * ·) (dh_at m c t h r k') (blk4 m c t k'))

/-! ## The arrays after the run -/

/-- Where a point's block of a result lies. -/
theorem emb5 (t : Fin cfg0.N) (r : Fin 640) (k : Fin 1024) : (((cfg0.win 5).blk t).view.emb (ix2 r k) : S8320x1024.Idx) = ix2 (rowOf t r) k := by
  blk_ext [places t, rowOf]
theorem emb6 (t : Fin cfg0.N) (r : Fin 640) (k : Fin 1024) : (((cfg0.win 6).blk t).view.emb (ix2 r k) : S8320x1024.Idx) = ix2 (rowOf t r) k := by
  blk_ext [places t, rowOf]

theorem stored5 (t : Fin cfg0.N) (h : t.val % 2 = 1) (y : S640x1024.Idx) :
    k0_pay13 (F := Ideal) (accOf m c t) (iblk m c 2 t) (iblk m c 3 t) (iblk m c 4 t) y
      = wantK (az m c) (anx m c) (ag m c) (aw m c) (adu m c) (((cfg0.win 5).blk t).view.emb y) := by
  obtain ⟨r, k, rfl⟩ : ∃ r k, y = ix2 r k := ⟨y 0, y 1, eq_ix2 y⟩
  rw [dz_at m c t h r k]
  exact (congrArg (wantK (az m c) (anx m c) (ag m c) (aw m c) (adu m c)) (emb5 t r k)).symm

theorem stored6 (t : Fin cfg0.N) (h : t.val % 2 = 1) (y : S640x1024.Idx) :
    k0_pay6 (F := Ideal) (k0_pay13 (F := Ideal) (accOf m c t) (iblk m c 2 t) (iblk m c 3 t) (iblk m c 4 t)) y
      = wantK (az m c) (anx m c) (ag m c) (aw m c) (adu m c) (((cfg0.win 6).blk t).view.emb y) := by
  obtain ⟨r, k, rfl⟩ : ∃ r k, y = ix2 r k := ⟨y 0, y 1, eq_ix2 y⟩
  refine Eq.trans (b := k0_pay13 (F := Ideal) (accOf m c t) (iblk m c 2 t) (iblk m c 3 t) (iblk m c 4 t) (ix2 r k)) ?_ ?_
  · pointwise [k0_pay6]
  rw [dz_at m c t h r k]
  exact (congrArg (wantK (az m c) (anx m c) (ag m c) (aw m c) (adu m c)) (emb6 t r k)).symm

/-- What an odd point leaves in the two row blocks. -/
theorem after5 (t : Fin cfg0.N) (h : t.val % 2 = 1) : (outsAt0 m c t.val t.isLt).1
    = k0_pay13 (F := Ideal) (accOf m c t) (iblk m c 2 t) (iblk m c 3 t) (iblk m c 4 t) := by
  rw [outsAt0_B m c t (by omega) (by omega) h h]
  frame_out
  rw [before m c t h, read_unread_whole, accOf]
theorem after6 (t : Fin cfg0.N) (h : t.val % 2 = 1) : (outsAt0 m c t.val t.isLt).2.1
    = k0_pay6 (F := Ideal) (k0_pay13 (F := Ideal) (accOf m c t) (iblk m c 2 t) (iblk m c 3 t) (iblk m c 4 t)) := by
  rw [outsAt0_B m c t (by omega) (by omega) h h]
  frame_out
  rw [before m c t h, read_unread_whole, accOf]

theorem whole5 : (dats m 0 c).arrAt 5 (cfgs 0).N = wantK (az m c) (anx m c) (ag m c) (aw m c) (adu m c) := by
  refine (dats m 0 c).arrAt_eq_of_covers 5 _ (by decide +kernel) fun t hf y => ?_
  have h := (flush0_5 t).mp hf
  blk_simp
  rw [after0_5, after5 m c t h]
  exact stored5 m c t h y

theorem whole6 : (dats m 0 c).arrAt 6 (cfgs 0).N = wantK (az m c) (anx m c) (ag m c) (aw m c) (adu m c) := by
  refine (dats m 0 c).arrAt_eq_of_covers 6 _ (by decide +kernel) fun t hf y => ?_
  have h := (flush0_6 t).mp hf
  blk_simp
  rw [after0_6, after6 m c t h]
  exact stored6 m c t h y

/-- Of the 26 points the odd ones add the rows of their block. -/
def term (f : Fin 8320 → EReal) (t : Fin cfg0.N) : EReal := if t.val % 2 = 1 then ∑ r : Fin 640, f (rowOf t r) else 0

theorem term_even (f : Fin 8320 → EReal) (t : Fin cfg0.N) (h : t.val % 2 = 0) : term f t = 0 := by
  unfold term; rw [if_neg (by omega)]
theorem term_odd (f : Fin 8320 → EReal) (t : Fin cfg0.N) (h : t.val % 2 = 1) : term f t = ∑ r : Fin 640, f (rowOf t r) := by
  unfold term; rw [if_pos h]

/-- The rows of block `a`. -/
def rowsOf (f : Fin 8320 → EReal) (a : Fin 13) (s : Fin 2) : EReal :=
  if s.val = 1 then ∑ r : Fin 640, f ⟨a.val * 640 + r.val, by omega⟩ else 0

theorem sum_term (f : Fin 8320 → EReal) : ∑ t : Fin cfg0.N, term f t = ∑ x, f x := by
  have h : ∑ t : Fin cfg0.N, term f t = ∑ a : Fin 13, ∑ s : Fin 2, rowsOf f a s :=
    Fin.sum_divmod_congr (fun t ha hs => by unfold term rowsOf rowOf; rfl) N_0
  have h' := Fin.sum_mul_add_fin (L := 8320) 13 640 f
  rw [h, ← h']
  refine Finset.sum_congr rfl fun a _ => ?_
  rw [Fin.sum_univ_two]
  exact zero_add _

theorem zero7 (j) : k0_pay2 (F := Ideal) j = 0 := by pointwise [k0_pay2]
theorem zero8 (j) : k0_pay3 (F := Ideal) j = 0 := by pointwise [k0_pay3]

theorem first7 (t : Fin cfg0.N) (h : t.val % 26 = 0) (j : S1x1024.Idx) : (outsAt0 m c t.val t.isLt).2.2.1 j = (0 : EReal) := by
  rw [outsAt0_A m c t h (by omega) (by omega) (by omega)]; frame_out
  exact zero7 j
theorem first8 (t : Fin cfg0.N) (h : t.val % 26 = 0) (j : S1x1024.Idx) : (outsAt0 m c t.val t.isLt).2.2.2.1 j = (0 : EReal) := by
  rw [outsAt0_A m c t h (by omega) (by omega) (by omega)]; frame_out
  exact zero8 j

/-- What the point before left. -/
abbrev prevOuts (t : Fin cfg0.N) := outsAt0 m c (t.val - 1) (Nat.lt_of_le_of_lt (Nat.sub_le _ _) t.isLt)

theorem kept7 (t : Fin cfg0.N) (h : t.val % 2 = 0) (h0 : ¬t.val % 26 = 0) (j : S1x1024.Idx) :
    (outsAt0 m c t.val t.isLt).2.2.1 j = (prevOuts m c t).2.2.1 j := by
  rw [outsAt0_C m c t h0 h (by omega) (by omega)]; rfl
theorem kept8 (t : Fin cfg0.N) (h : t.val % 2 = 0) (h0 : ¬t.val % 26 = 0) (j : S1x1024.Idx) :
    (outsAt0 m c t.val t.isLt).2.2.2.1 j = (prevOuts m c t).2.2.2.1 j := by
  rw [outsAt0_C m c t h0 h (by omega) (by omega)]; rfl

theorem added7 (t : Fin cfg0.N) (h : t.val % 2 = 1) (j : S1x1024.Idx) : (outsAt0 m c t.val t.isLt).2.2.1 j
    = ((prevOuts m c t).2.2.1 j + ∑ r : Fin 640, dh (anx m c) (aw m c) (adu m c) (rowOf t r) (j 1) * xhat (row (az m c) (rowOf t r)) (j 1) : EReal) := by
  have e : (outsAt0 m c t.val t.isLt).2.2.1
      = k0_pay7 (F := Ideal) (k0_pay9 (F := Ideal) (accOf m c t) (iblk m c 2 t)) (k0_pay12 (F := Ideal) (iblk m c 3 t)) (prevOuts m c t).2.2.1 := by
    rw [outsAt0_B m c t (by omega) (by omega) h h]
    frame_out
    rw [before m c t h]
    rw [read_unread_whole, accOf]
  rw [e, pay7_at]
  exact congrArg _ (Finset.sum_congr rfl fun r _ => congrArg₂ (· * ·) (dh_at m c t h r (j 1)) (xhat_at m c t r (j 1)))
theorem added8 (t : Fin cfg0.N) (h : t.val % 2 = 1) (j : S1x1024.Idx) : (outsAt0 m c t.val t.isLt).2.2.2.1 j
    = ((prevOuts m c t).2.2.2.1 j + ∑ r : Fin 640, dh (anx m c) (aw m c) (adu m c) (rowOf t r) (j 1) : EReal) := by
  have e : (outsAt0 m c t.val t.isLt).2.2.2.1
      = k0_pay8 (F := Ideal) (k0_pay9 (F := Ideal) (accOf m c t) (iblk m c 2 t)) (prevOuts m c t).2.2.2.1 := by
    rw [outsAt0_B m c t (by omega) (by omega) h h]
    frame_out
    rw [before m c t h]
    rw [read_unread_whole, accOf]
  rw [e, pay8_at]
  exact congrArg _ (Finset.sum_congr rfl fun r _ => dh_at m c t h r (j 1))

theorem after7 (t : Fin cfg0.N) (ht : t.val + 1 = cfg0.N) (j : S1x1024.Idx) : (outsAt0 m c t.val t.isLt).2.2.1 j
    = wantG (az m c) (anx m c) (aw m c) (adu m c) (j 1) := by
  have key := Pipeline.eq_sum_fin_of_reset_step_apply_last (M := EReal) (fun n h => (outsAt0 m c n h).2.2.1) 26 (fun _ => (0 : EReal))
    (fun t j => term (fun x => dh (anx m c) (aw m c) (adu m c) x (j 1) * xhat (row (az m c) x) (j 1)) t)
    (fun t h j => (first7 m c t h j).trans (by rw [term_even _ t (by omega), zero_add]))
    (fun t h j => by
      rcases Nat.mod_two_eq_zero_or_one t.val with h2 | h2
      · rw [term_even _ t h2, add_zero]; exact kept7 m c t h2 h j
      · rw [term_odd _ t h2]; exact added7 m c t h2 j) (le_of_eq N_0) t ht j
  rw [zero_add, sum_term] at key
  exact key
theorem after8 (t : Fin cfg0.N) (ht : t.val + 1 = cfg0.N) (j : S1x1024.Idx) : (outsAt0 m c t.val t.isLt).2.2.2.1 j
    = wantB (anx m c) (aw m c) (adu m c) (j 1) := by
  have key := Pipeline.eq_sum_fin_of_reset_step_apply_last (M := EReal) (fun n h => (outsAt0 m c n h).2.2.2.1) 26 (fun _ => (0 : EReal))
    (fun t j => term (fun x => dh (anx m c) (aw m c) (adu m c) x (j 1)) t)
    (fun t h j => (first8 m c t h j).trans (by rw [term_even _ t (by omega), zero_add]))
    (fun t h j => by
      rcases Nat.mod_two_eq_zero_or_one t.val with h2 | h2
      · rw [term_even _ t h2, add_zero]; exact kept8 m c t h2 h j
      · rw [term_odd _ t h2]; exact added8 m c t h2 j) (le_of_eq N_0) t ht j
  rw [zero_add, sum_term] at key
  exact key

theorem last (t : Fin cfg0.N) (h : t.val % 26 = 25) : t.val + 1 = cfg0.N := by
  have h' : t.val < 26 := lt_of_lt_of_eq t.isLt N_0
  exact (show t.val + 1 = 26 by omega).trans N_0.symm

theorem emb7 (t : Fin cfg0.N) (k : Fin 1024) : (((cfg0.win 7).blk t).view.emb (ix2 0 k) : S1x1024.Idx) = ix2 0 k := by
  blk_ext [places t]
theorem emb8 (t : Fin cfg0.N) (k : Fin 1024) : (((cfg0.win 8).blk t).view.emb (ix2 0 k) : S1x1024.Idx) = ix2 0 k := by
  blk_ext [places t]

/-- An index of the one row. -/
theorem one_row (y : S1x1024.Idx) : ∃ k : Fin 1024, y = ix2 0 k :=
  ⟨y 1, (eq_ix2 y).trans (congrArg (fun a => ix2 a (y 1)) (Subsingleton.elim (α := Fin 1) (y 0) 0))⟩

theorem whole7 : (dats m 0 c).arrAt 7 (cfgs 0).N = (fun j => wantG (az m c) (anx m c) (aw m c) (adu m c) (j 1) : FVec Ideal S1x1024 .f32) := by
  refine (dats m 0 c).arrAt_eq_of_covers 7 _ (by decide +kernel) fun t hf y => ?_
  have h := (flush0_7 t).mp hf
  blk_simp
  rw [after0_7]
  obtain ⟨k, rfl⟩ := one_row y
  exact (after7 m c t (last t h) (ix2 0 k)).trans (congrArg (fun i : S1x1024.Idx => wantG (az m c) (anx m c) (aw m c) (adu m c) (i 1)) (emb7 t k)).symm

theorem whole8 : (dats m 0 c).arrAt 8 (cfgs 0).N = (fun j => wantB (anx m c) (aw m c) (adu m c) (j 1) : FVec Ideal S1x1024 .f32) := by
  refine (dats m 0 c).arrAt_eq_of_covers 8 _ (by decide +kernel) fun t hf y => ?_
  have h := (flush0_8 t).mp hf
  blk_simp
  rw [after0_8]
  obtain ⟨k, rfl⟩ := one_row y
  exact (after8 m c t (last t h) (ix2 0 k)).trans (congrArg (fun i : S1x1024.Idx => wantB (anx m c) (aw m c) (adu m c) (i 1)) (emb8 t k)).symm

end Cert.Kernel5Ideal.Ln

end
-- ==== Proof.Ln.lean ====
/- The gradient of a feed-forward layer's normalised input and of the layer norm before it: the kernel and the reference
   agree, over the extended reals, from finite arguments. -/
module

public import proofs.«01_k».proof.Proof.Alg
public import proofs.«01_k».proof.Proof.Lnk
public import proofs.«01_k».proof.Proof.Gen.Pre_finite5

@[expose] public section

set_option maxRecDepth 16384

noncomputable section

open Idealize.ShloMosaic Idealize.ShloMosaic.TcCoe Idealize.SL.Sem
open Idealize.ShloMosaic.Pipeline (Dat)

namespace Cert.Norm

/-- The factor of the skip connection is a real number. -/
theorem skip_real : ∃ e : ℝ, Ideal.ofBits .f32 0x3FB504F3#32 = (e : EReal) := by
  refine ⟨11863283 / 2 ^ 23, ?_⟩
  simp [Ideal.ofBits, Ideal.ieee, -EReal.coe_mul]; norm_num

section
variable (z nx : FVec Ideal ⟨2, ![8320, 1024]⟩ .f32) (g : FVec Ideal ⟨1, ![1024]⟩ .f32)
  {n : ℕ} (w : FVec Ideal ⟨2, ![1024, n]⟩ .f32) (du : FVec Ideal ⟨2, ![8320, n]⟩ .f32)

/-- The arguments are real numbers. -/
structure Reals : Prop where
  z x k : (z (ix2 x k) : EReal) = (((z (ix2 x k) : EReal).toReal : ℝ) : EReal)
  nx x k : (nx (ix2 x k) : EReal) = (((nx (ix2 x k) : EReal).toReal : ℝ) : EReal)
  g k : (g (ix1 k) : EReal) = (((g (ix1 k) : EReal).toReal : ℝ) : EReal)
  w k l : (w (ix2 k l) : EReal) = (((w (ix2 k l) : EReal).toReal : ℝ) : EReal)
  du x l : (du (ix2 x l) : EReal) = (((du (ix2 x l) : EReal).toReal : ℝ) : EReal)

variable {z nx g w du}

theorem row_real (A : Reals z nx g w du) (x : Fin 8320) : ∃ a : Fin 1024 → ℝ, row z x = fun k => (a k : EReal) :=
  ⟨fun k => (z (ix2 x k) : EReal).toReal, funext fun k => A.z x k⟩

theorem dy_real (A : Reals z nx g w du) (x : Fin 8320) : ∃ b : Fin 1024 → ℝ, dy nx g w du x = fun k => (b k : EReal) := by
  obtain ⟨e, he⟩ := skip_real
  refine ⟨fun k => ((∑ l : Fin n, (du (ix2 x l) : EReal).toReal * (w (ix2 k l) : EReal).toReal) + e * (nx (ix2 x k) : EReal).toReal)
    * (g (ix1 k) : EReal).toReal, funext fun k => ?_⟩
  unfold dy dh
  rw [he, EReal.coe_mul, EReal.coe_add, Cert.Attn.coe_sum, EReal.coe_mul, ← A.g k, ← A.nx x k]
  refine congrArg (fun s : EReal => (s + _) * _) (Finset.sum_congr rfl fun l _ => ?_)
  rw [EReal.coe_mul, ← A.du x l, ← A.w k l]

/-- On real arguments the two forms agree. -/
theorem want_eq (A : Reals z nx g w du) (i : Shape.Idx ⟨2, ![8320, 1024]⟩) :
    wantK z nx g w du i = wantR z nx g w du i := by
  unfold wantK wantR
  obtain ⟨a, ha⟩ := row_real A (i 0)
  obtain ⟨b, hb⟩ := dy_real A (i 0)
  rw [ha, hb]
  exact dz_eq a b (i 1)
end

end Cert.Norm

namespace Cert.Proof

open Cert.Norm

section
open Cert.Pre_finite5

/-- Finite arguments are real numbers. -/
theorem reals5 (z : FVec Ideal S8320x1024 .f32) (g b : FVec Ideal S1024 .f32) (w : FVec Ideal S1024x5632 .f32) (nx : FVec Ideal S8320x1024 .f32)
    (du : FVec Ideal S8320x5632 .f32)
    (h : (Cert.Pre_finite5.fn (F := Ideal) z g b w nx du).1 = (fun _ => 1#1) ∧ (Cert.Pre_finite5.fn (F := Ideal) z g b w nx du).2.1 = (fun _ => 1#1)
    ∧ (Cert.Pre_finite5.fn (F := Ideal) z g b w nx du).2.2.1 = (fun _ => 1#1) ∧ (Cert.Pre_finite5.fn (F := Ideal) z g b w nx du).2.2.2.1 = (fun _ => 1#1)
    ∧ (Cert.Pre_finite5.fn (F := Ideal) z g b w nx du).2.2.2.2 = (fun _ => 1#1)) : Reals z nx g w du where
  z x k := real_of_abs _ (congrFun h.1 (ix2 x k))
  g k := real_of_abs _ (congrFun h.2.1 (ix1 k))
  w k l := real_of_abs _ (congrFun h.2.2.1 (ix2 k l))
  nx x k := real_of_abs _ (congrFun h.2.2.2.1 (ix2 x k))
  du x l := real_of_abs _ (congrFun h.2.2.2.2 (ix2 x l))
end

/-- From finite arguments the four results of the call are the reference's. -/
theorem algebraic5 : Cert.algebraic_Kernel5Ideal_Reference5Ideal_pre_finite5 := by
  pair_intro
  · run_from Cert.Kernel5Ideal.Gen.run_main m g
  · run_from Cert.Reference5Ideal.Val.run_val m' g'
    · exact (funext fun i => (want_eq (reals5 _ _ _ _ _ _ (hpre c)) i).symm).trans (Cert.Kernel5Ideal.Ln.whole5 m c).symm
    · exact (funext fun i => (want_eq (reals5 _ _ _ _ _ _ (hpre c)) i).symm).trans (Cert.Kernel5Ideal.Ln.whole6 m c).symm
    · exact (Cert.Kernel5Ideal.Ln.whole7 m c).symm
    · exact (Cert.Kernel5Ideal.Ln.whole8 m c).symm

end Cert.Proof

end
-- ==== Proof.Up.lean ====
/- The up-projection of a feed-forward layer: the kernel and the reference agree over the extended reals. -/
module

public import proofs.«01_k».proof.Defs
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import Idealize.ShloMosaic.Lib.Pipeline.ValueKit
public import Idealize.ShloMosaic.Lib.Pipeline.ReadBack
public import Idealize.ShloMosaic.Lib.Claim

@[expose] public section

/-! The up-projection of a feed-forward layer: the product of the layer's input with the inner weights, a block of 640 rows and 2816 columns per
grid point. -/

set_option maxRecDepth 16384

noncomputable section

open Idealize.ShloMosaic Idealize.ShloMosaic.TcCoe Idealize.SL.Sem
open Idealize.ShloMosaic.Pipeline (Dat)

namespace Cert.Kernel6Ideal.Up

open Cert.Kernel6Ideal Cert.Kernel6Ideal.Gen

variable (m : (ℓ : Loc nD τ sig) → Buf (Elt Ideal) ℓ)

/-- The reference's result. -/
abbrev want (A : FVec Ideal S8320x1024 .f32) (W : FVec Ideal S1024x5632 .f32) : FVec Ideal S8320x5632 .bf16 :=
  truncf .bf16 (Host.dotGeneral Cert.Reference6Ideal.dot_S8320x1024_S1024x5632_S8320x5632_1_0_0_1_n_n none A W) Cert.Reference6Ideal.Gen.bitsLt_bf16_f32

/-- The blocks of a grid point: the column block counts fastest. -/
theorem places : ∀ t : Fin cfg0.N, win0_0.index t = ![t.val / 2, 0] ∧ win0_1.index t = ![0, t.val % 2] ∧ win0_2.index t = ![t.val / 2, t.val % 2] :=
  (by decide +kernel : ∀ t : Fin grid0.N, _)

/-- A stored element is the reference's. -/
theorem stored (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, places t]

/-- The array after the run. -/
theorem whole (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.Kernel6Ideal.Up

namespace Cert.Proof

theorem algebraic6 : Cert.algebraic_Kernel6Ideal_Reference6Ideal := by
  pair_intro
  · run_from Cert.Kernel6Ideal.Gen.run_main m g
  · run_from Cert.Reference6Ideal.Value.run m' g'
    exact (Cert.Kernel6Ideal.Up.whole m c).symm

end Cert.Proof

end
-- ==== Proof.Dqkv.lean ====
/- The gradient of the attention's key, value, query and gate weights: the kernel and the reference agree over the extended reals. -/
module

public import proofs.«01_k».proof.Defs
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import Idealize.ShloMosaic.Lib.Pipeline.ValueKit
public import Idealize.ShloMosaic.Lib.Pipeline.ReadBack
public import Idealize.ShloMosaic.Lib.Claim

@[expose] public section

/-! The gradient of the attention's key, value, query and gate weights: the product of the transposed layer input with the cotangent, 640 columns at a time,
summed over two blocks of 4160 rows. -/

set_option maxRecDepth 16384

noncomputable section

open Idealize.ShloMosaic Idealize.ShloMosaic.TcCoe Idealize.SL.Sem
open Idealize.ShloMosaic.Pipeline (Dat)

namespace Cert.Kernel7Ideal.Dqkv

open Cert.Kernel7Ideal Cert.Kernel7Ideal.Gen

variable (m : (ℓ : Loc nD τ sig) → Buf (Elt Ideal) ℓ)

/-- The reference's result. -/
abbrev want (A : FVec Ideal S8320x1024 .f32) (Z : FVec Ideal S8320x3200 .f32) : FVec Ideal S1024x3200 .f32 :=
  transpose Cert.Reference7Ideal.S1024x3200 [1, 0] (Host.dotGeneral Cert.Reference7Ideal.dot_S8320x3200_S8320x1024_S3200x1024_0_0_1_1_n_n none Z A) Cert.Reference7Ideal.Gen.transposes_S3200x1024_S1024x3200_1_0

/-- The blocks of a grid point: the row block counts fastest. -/
theorem places : ∀ t : Fin cfg0.N, win0_0.index t = ![t.val % 2, 0] ∧ win0_1.index t = ![t.val % 2, t.val / 2] ∧ win0_2.index t = ![0, t.val / 2] :=
  (by decide +kernel : ∀ t : Fin grid0.N, _)

/-- The part of one block of rows. -/
theorem first (x0 : FVec Ideal S4160x1024 .bf16) (x1 : FVec Ideal S4160x640 .bf16) (j) :
    k0_pay1 (F := Ideal) x0 x1 j = ∑ k : Fin 4160, x0 (ix2 k (j 0)) * x1 (ix2 k (j 1)) := by
  pointwise [k0_pay1]

theorem next (x0 : FVec Ideal S4160x1024 .bf16) (x1 : FVec Ideal S4160x640 .bf16) (acc : FVec Ideal S1024x640 .f32) (j) :
    k0_pay2 (F := Ideal) x0 x1 acc j = acc j + ∑ k : Fin 4160, x0 (ix2 k (j 0)) * x1 (ix2 k (j 1)) := by
  pointwise [k0_pay2, k0_pay1]

theorem want_at (A : FVec Ideal S8320x1024 .f32) (Z : FVec Ideal S8320x3200 .f32) (j) :
    want A Z j = ∑ l : Fin 8320, A (ix2 l (j 0)) * Z (ix2 l (j 1)) := by
  pointwise [want]
  exact Finset.sum_congr rfl fun l _ => mul_comm _ _

/-- The array after the run. -/
theorem whole (c : Dev nD) : (dats m 0 c).arrAt 2 (cfgs 0).N
    = want (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first]; exact (zero_add _).symm)
    (fun t h j => by rw [outsAt0_B m c t h (by omega)]; frame_out; rw [next])
    t ((flush0_2 t).mp hf) _, zero_add, want_at]
  refine Fin.sum_mul_add_congr fun s k hl => ?_
  blk_point [iblk, places t, places ⟨_, Pipeline.run_point_lt_of_flush t ((flush0_2 t).mp hf) s⟩]

end Cert.Kernel7Ideal.Dqkv

namespace Cert.Proof

theorem algebraic7 : Cert.algebraic_Kernel7Ideal_Reference7Ideal := by
  pair_intro
  · run_from Cert.Kernel7Ideal.Gen.run_main m g
  · run_from Cert.Reference7Ideal.Value.run m' g'
    exact (Cert.Kernel7Ideal.Dqkv.whole m c).symm

end Cert.Proof

end
-- ==== Proof.Qkv.lean ====
/- The projections to the attention's keys, values and queries: the kernel and the reference agree over the extended reals. -/
module

public import proofs.«01_k».proof.Defs
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import Idealize.ShloMosaic.Lib.Pipeline.ValueKit
public import Idealize.ShloMosaic.Lib.Pipeline.ReadBack
public import Idealize.ShloMosaic.Lib.Claim

@[expose] public section

/-! The projections to the attention's keys, values and queries: the product of the layer's input with the three weights side by side, a block of 640
rows and 1024 columns per grid point. -/

set_option maxRecDepth 16384

noncomputable section

open Idealize.ShloMosaic Idealize.ShloMosaic.TcCoe Idealize.SL.Sem
open Idealize.ShloMosaic.Pipeline (Dat)

namespace Cert.Kernel8Ideal.Qkv

open Cert.Kernel8Ideal Cert.Kernel8Ideal.Gen

variable (m : (ℓ : Loc nD τ sig) → Buf (Elt Ideal) ℓ)

/-- The reference's result. -/
abbrev want (A : FVec Ideal S8320x1024 .f32) (W : FVec Ideal S1024x3072 .f32) : FVec Ideal S8320x3072 .bf16 :=
  truncf .bf16 (Host.dotGeneral Cert.Reference8Ideal.dot_S8320x1024_S1024x3072_S8320x3072_1_0_0_1_n_n none A W) Cert.Reference8Ideal.Gen.bitsLt_bf16_f32

/-- The blocks of a grid point: the column block counts fastest. -/
theorem places : ∀ t : Fin cfg0.N, win0_0.index t = ![t.val / 3, 0] ∧ win0_1.index t = ![0, t.val % 3] ∧ win0_2.index t = ![t.val / 3, t.val % 3] :=
  (by decide +kernel : ∀ t : Fin grid0.N, _)

/-- A stored element is the reference's. -/
theorem stored (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, places t]

/-- The array after the run. -/
theorem whole (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.Kernel8Ideal.Qkv

namespace Cert.Proof

theorem algebraic8 : Cert.algebraic_Kernel8Ideal_Reference8Ideal := by
  pair_intro
  · run_from Cert.Kernel8Ideal.Gen.run_main m g
  · run_from Cert.Reference8Ideal.Value.run m' g'
    exact (Cert.Kernel8Ideal.Qkv.whole m c).symm

end Cert.Proof

end
-- ==== Proof.Do.lean ====
/- The gradient of the attention's output: the kernel and the reference agree over the extended reals. -/
module

public import proofs.«01_k».proof.Defs
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import Idealize.ShloMosaic.Lib.Pipeline.ValueKit
public import Idealize.ShloMosaic.Lib.Pipeline.ReadBack
public import Idealize.ShloMosaic.Lib.Claim

@[expose] public section

/-! The gradient of the attention's output: the product of the output weights with the transposed cotangent, a block of 512 rows and 640 columns per
grid point. -/

set_option maxRecDepth 16384

noncomputable section

open Idealize.ShloMosaic Idealize.ShloMosaic.TcCoe Idealize.SL.Sem
open Idealize.ShloMosaic.Pipeline (Dat)

namespace Cert.Kernel9Ideal.Do

open Cert.Kernel9Ideal Cert.Kernel9Ideal.Gen

variable (m : (ℓ : Loc nD τ sig) → Buf (Elt Ideal) ℓ)

/-- The reference's result. -/
abbrev want (W : FVec Ideal S1024x1024 .f32) (Z : FVec Ideal S8320x1024 .f32) : FVec Ideal S1024x8320 .bf16 :=
  truncf .bf16 (transpose Cert.Reference9Ideal.S1024x8320 [1, 0] (Host.dotGeneral Cert.Reference9Ideal.dot_S8320x1024_S1024x1024_S8320x1024_1_1_0_0_n_n none Z W)
    Cert.Reference9Ideal.Gen.transposes_S8320x1024_S1024x8320_1_0) Cert.Reference9Ideal.Gen.bitsLt_bf16_f32

/-- The blocks of a grid point: the column block counts fastest. -/
theorem places : ∀ t : Fin cfg0.N, win0_0.index t = ![t.val / 13, 0] ∧ win0_1.index t = ![t.val % 13, 0] ∧ win0_2.index t = ![t.val / 13, t.val % 13] :=
  (by decide +kernel : ∀ t : Fin grid0.N, _)

theorem want_at (W : FVec Ideal S1024x1024 .f32) (Z : FVec Ideal S8320x1024 .f32) (j) :
    want W Z j = ∑ l : Fin 1024, W (ix2 (j 0) l) * Z (ix2 (j 1) l) := by
  pointwise [want]
  exact Finset.sum_congr rfl fun l _ => mul_comm _ _

/-- A stored element is the reference's. -/
theorem stored (c : Dev nD) (t : Fin cfg0.N) (y) : k0_pay1 (iblk m c 0 t) (iblk m c 1 t) y
    = want (m ((c : Thread nD τ).loc main_arg1)) (m ((c : Thread nD τ).loc main_arg2)) (((cfg0.win 2).blk t).view.emb y) := by
  rw [want_at]
  pointwise [k0_pay1]
  blk_point [iblk, places t]

/-- The array after the run. -/
theorem whole (c : Dev nD) : (dats m 0 c).arrAt 2 (cfgs 0).N
    = want (m ((c : Thread nD τ).loc main_arg1)) (m ((c : Thread nD τ).loc main_arg2)) := by
  refine (dats m 0 c).arrAt_eq_of_covers 2 _ (by decide +kernel) fun t _ y => ?_
  blk_simp
  rw [after0_2]
  frame_out
  exact stored m c t y

end Cert.Kernel9Ideal.Do

namespace Cert.Proof

theorem algebraic9 : Cert.algebraic_Kernel9Ideal_Reference9Ideal := by
  pair_intro
  · run_from Cert.Kernel9Ideal.Gen.run_main m g
  · run_from Cert.Reference9Ideal.Value.run m' g'
    exact (Cert.Kernel9Ideal.Do.whole m c).symm

end Cert.Proof

end
-- ==== Proof.Dwo.lean ====
/- The gradient of the attention's output weights: the kernel and the reference agree over the extended reals. -/
module

public import proofs.«01_k».proof.Defs
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import Idealize.ShloMosaic.Lib.Pipeline.ValueKit
public import Idealize.ShloMosaic.Lib.Pipeline.ReadBack
public import Idealize.ShloMosaic.Lib.Claim

@[expose] public section

/-! The gradient of the attention's output weights: the product of the attention's transposed output with the cotangent, 512 rows at a time, summed over
thirteen blocks of 640 in a buffer of its own. -/

set_option maxRecDepth 16384

noncomputable section

open Idealize.ShloMosaic Idealize.ShloMosaic.TcCoe Idealize.SL.Sem
open Idealize.ShloMosaic.Pipeline (Dat)

namespace Cert.Kernel10Ideal.Dwo

open Cert.Kernel10Ideal Cert.Kernel10Ideal.Gen

variable (m : (ℓ : Loc nD τ sig) → Buf (Elt Ideal) ℓ)

/-- The reference's result. -/
abbrev want (O : FVec Ideal S1024x8320 .f32) (Z : FVec Ideal S8320x1024 .f32) : FVec Ideal S1024x1024 .f32 :=
  transpose Cert.Reference10Ideal.S1024x1024 [1, 0] (Host.dotGeneral Cert.Reference10Ideal.dot_S8320x1024_S8320x1024_S1024x1024_0_0_1_1_n_n none Z
    (transpose Cert.Reference10Ideal.S8320x1024 [1, 0] O Cert.Reference10Ideal.Gen.transposes_S1024x8320_S8320x1024_1_0)) Cert.Reference10Ideal.Gen.transposes_S1024x1024_S1024x1024_1_0

/-- The blocks of a grid point: the block of the summed axis counts fastest. -/
theorem places : ∀ t : Fin cfg0.N, win0_0.index t = ![t.val / 13, t.val % 13] ∧ win0_1.index t = ![t.val % 13, 0] ∧ win0_2.index t = ![t.val / 13, 0] :=
  (by decide +kernel : ∀ t : Fin grid0.N, _)

/-- The part of one block. -/
theorem first (x0 : FVec Ideal S512x640 .bf16) (x1 : FVec Ideal S640x1024 .bf16) (j) :
    k0_pay2 (F := Ideal) x0 x1 j = ∑ k : Fin 640, x0 (ix2 (j 0) k) * x1 (ix2 k (j 1)) := by
  pointwise [k0_pay2, k0_pay1]

theorem next (x0 : FVec Ideal S512x640 .bf16) (x1 : FVec Ideal S640x1024 .bf16) (acc : FVec Ideal S512x1024 .f32) (j) :
    k0_pay3 (F := Ideal) x0 x1 acc j = acc j + ∑ k : Fin 640, x0 (ix2 (j 0) k) * x1 (ix2 k (j 1)) := by
  pointwise [k0_pay3, k0_pay1]

theorem want_at (O : FVec Ideal S1024x8320 .f32) (Z : FVec Ideal S8320x1024 .f32) (j) :
    want O Z j = ∑ l : Fin 8320, O (ix2 (j 0) l) * Z (ix2 l (j 1)) := by
  pointwise [want]
  exact Finset.sum_congr rfl fun l _ => mul_comm _ _

/-- The last point of a run writes the buffer back. -/
theorem written (c : Dev nD) (t : Fin cfg0.N) (h : t.val % 13 = 12) : (outsAt0 m c t.val t.isLt).1 = (outsAt0 m c t.val t.isLt).2 := by
  rw [outsAt0_C m c t (by omega) (by omega) h]
  frame_out

theorem begun (c : Dev nD) (t : Fin cfg0.N) (h : t.val % 13 = 0) :
    (outsAt0 m c t.val t.isLt).2 = k0_pay2 (iblk m c 0 t) (iblk m c 1 t) := by
  rw [outsAt0_A m c t h (by omega) (by omega)]
  frame_out

theorem added (c : Dev nD) (t : Fin cfg0.N) (h : ¬t.val % 13 = 0) : (outsAt0 m c t.val t.isLt).2
    = k0_pay3 (iblk m c 0 t) (iblk m c 1 t) (outsAt0 m c (t.val - 1) (Nat.lt_of_le_of_lt (Nat.sub_le _ _) t.isLt)).2 := by
  by_cases h2 : t.val % 13 = 12
  · rw [outsAt0_C m c t h (by omega) h2]
    frame_out
    rw [read_unread_whole]
  · rw [outsAt0_B m c t h (by omega) h2]
    frame_out
    rw [read_unread_whole]

/-- The array after the run. -/
theorem whole (c : Dev nD) : (dats m 0 c).arrAt 2 (cfgs 0).N
    = want (m ((c : Thread nD τ).loc main_arg0)) (m ((c : Thread nD τ).loc main_arg2)) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 13 (fun _ => 0) _
    (fun t h j => by rw [begun m c t h, first]; exact (zero_add _).symm)
    (fun t h j => by rw [added m c t h, next])
    t ((flush0_2 t).mp hf) _, zero_add, want_at]
  refine Fin.sum_mul_add_congr fun s k hl => ?_
  blk_point [iblk, places t, places ⟨_, Pipeline.run_point_lt_of_flush t ((flush0_2 t).mp hf) s⟩]

end Cert.Kernel10Ideal.Dwo

namespace Cert.Proof

theorem algebraic10 : Cert.algebraic_Kernel10Ideal_Reference10Ideal := by
  pair_intro
  · run_from Cert.Kernel10Ideal.Gen.run_main m g
  · run_from Cert.Reference10Ideal.Value.run m' g'
    exact (Cert.Kernel10Ideal.Dwo.whole m c).symm

end Cert.Proof

end
-- ==== Proof.Lnaref.lean ====
/- The gradient of an attention layer's normalised input and of the layer norm before it: the reference computes it. -/
module

public import proofs.«01_k».proof.Proof.Lnref
public import proofs.«01_k».proof.Proof.Gen.Reference11Ideal.Run
public import Idealize.ShloMosaic.Lib.Pipeline.ValueKit

@[expose] public section

set_option maxRecDepth 65536
noncomputable section
open Idealize.ShloMosaic Idealize.ShloMosaic.TcCoe Idealize.SL.Sem
namespace Cert.Reference11Ideal.Val
open Cert.Reference11Ideal Cert.Reference11Ideal.Gen Cert.Reference11Ideal.Value Cert.Norm
open Cert.Reference5Ideal.Val (ext2)

section
variable (m : (ℓ : Loc nD τ sig) → Buf (Elt Ideal) ℓ) (c : Dev nD)
abbrev az : FVec Ideal S8320x1024 .f32 := m ((c.tc : Thread nD τ).loc main_arg0)
abbrev ag : FVec Ideal S1024 .f32 := m ((c.tc : Thread nD τ).loc main_arg1)
abbrev aw : FVec Ideal S1024x3200 .f32 := m ((c.tc : Thread nD τ).loc main_arg3)
abbrev anx : FVec Ideal S8320x1024 .f32 := m ((c.tc : Thread nD τ).loc main_arg4)
abbrev adu : FVec Ideal S8320x3200 .f32 := m ((c.tc : Thread nD τ).loc main_arg5)

set_option maxHeartbeats 4000000 in
theorem dz_at (x : Fin 8320) (j : Fin 1024) : (res_main_v62 (F := Ideal) m c : FVec Ideal S8320x1024 .f32) (ix2 x j)
    = wantR (az m c) (anx m c) (ag m c) (aw m c) (adu m c) (ix2 x j) := by
  unfold res_main_v62
  pointwise
  simp only [Fin.sum_univ_one]
  simp only [wantR, dzR, dxc, dvar, xc, var, rstd, mean, dh, dy, row]
  rfl

set_option maxHeartbeats 4000000 in
theorem dzb_at (x : Fin 8320) (j : Fin 1024) : (res_main_v63 (F := Ideal) m c : FVec Ideal S8320x1024 .bf16) (ix2 x j)
    = wantR (az m c) (anx m c) (ag m c) (aw m c) (adu m c) (ix2 x j) := by
  unfold res_main_v63
  pointwise
  simp only [Fin.sum_univ_one]
  simp only [wantR, dzR, dxc, dvar, xc, var, rstd, mean, dh, dy, row]
  rfl
end

set_option maxHeartbeats 4000000 in
/-- What the reference leaves. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = (fun i => wantR (az m c) (anx m c) (ag m c) (aw m c) (adu m c) i : FVec Ideal S8320x1024 .f32)
      ∧ r.2.mem ((c.tc : Thread nD τ).loc main_v63) = (fun i => wantR (az m c) (anx m c) (ag m c) (aw m c) (adu m c) i : FVec Ideal S8320x1024 .bf16)
      ∧ r.2.mem ((c.tc : Thread nD τ).loc main_v64) = (fun j => wantG (az m c) (anx m c) (aw m c) (adu m c) (j 1) : FVec Ideal S1x1024 .f32)
      ∧ r.2.mem ((c.tc : Thread nD τ).loc main_v65) = (fun j => wantB (anx m c) (aw m c) (adu m c) (j 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c).1.trans (ext2 (φ := .f32) fun x j => dz_at m c x j), (h c).2.1.trans (ext2 (φ := .bf16) fun x j => dzb_at m c x j),
      (h c).2.2.1.trans (by
        funext j
        pointwise
        simp only [Fin.sum_univ_one]
        simp only [wantG, xhat, xc, var, rstd, mean, dh, row]
        refine Finset.sum_congr rfl fun x _ => mul_comm _ _),
      (h c).2.2.2.1.trans (by
        funext j
        pointwise
        simp only [Fin.sum_univ_one]
        simp only [wantB, dh]),
      (h c).2.2.2.2⟩)
    (run (F := Ideal) m ρ)
end Cert.Reference11Ideal.Val

end
-- ==== Proof.Lna.lean ====
/- The gradient of an attention layer's normalised input and of the layer norm before it: the kernel over the extended
   reals, and that it agrees with the reference from finite arguments. -/
module

public import proofs.«01_k».proof.Proof.Ln
public import proofs.«01_k».proof.Proof.Lnaref
public import proofs.«01_k».proof.Proof.Gen.Kernel11Ideal.Frame
public import proofs.«01_k».proof.Proof.Gen.Pre_finite11
public import Idealize.ShloMosaic.Lib.Pipeline.ValueKit
public import Idealize.ShloMosaic.Lib.Pipeline.ReadBack

@[expose] public section

/-! A grid point takes a block of 640 rows: its product with the weights, the skip connection's part, the layer norm's
gradient; the sums for the gain and the offset are added up over the 13 points. -/

set_option maxRecDepth 65536
noncomputable section
open Idealize.ShloMosaic Idealize.ShloMosaic.TcCoe Idealize.SL.Sem
open Idealize.ShloMosaic.Pipeline (Dat)
namespace Cert.Kernel11Ideal.Lna
open Cert.Kernel11Ideal Cert.Kernel11Ideal.Gen Cert.Norm

/-! ## The body's words at an index -/

theorem pay7_at (x0 : FVec Ideal S640x3200 .bf16) (x1 : FVec Ideal S1024x3200 .bf16) (nx : FVec Ideal S640x1024 .f32) (r : Fin 640) (k : Fin 1024) :
    k0_pay7 (F := Ideal) x0 x1 nx (ix2 r k)
      = (∑ l : Fin 3200, x0 (ix2 r l) * x1 (ix2 k l)) + Ideal.ofBits .f32 0x3FB504F3#32 * nx (ix2 r k) := by
  pointwise [k0_pay7]

theorem pay10_at (z : FVec Ideal S640x1024 .f32) (r : Fin 640) (k : Fin 1024) :
    k0_pay10 (F := Ideal) z (ix2 r k) = xhat (fun k' => z (ix2 r k')) k := by
  pointwise [k0_pay10, k0_pay9, k0_pay8]
  simp only [xhat, xc, rstd, var, mean]

/-- The gradient a point stores, from its blocks. -/
abbrev grad (x0 : FVec Ideal S640x3200 .bf16) (x1 : FVec Ideal S1024x3200 .bf16) (nx z : FVec Ideal S640x1024 .f32) (g : FVec Ideal S1x1024 .f32) :
    FVec Ideal S640x1024 .f32 :=
  k0_pay1 (F := Ideal) (k0_pay9 (F := Ideal) z) (k0_pay10 (F := Ideal) z) (k0_pay11 (F := Ideal) x0 x1 nx g) (k0_pay12 (F := Ideal) x0 x1 nx g)

set_option maxHeartbeats 1000000 in
theorem grad_at (x0 : FVec Ideal S640x3200 .bf16) (x1 : FVec Ideal S1024x3200 .bf16) (nx z : FVec Ideal S640x1024 .f32) (g : FVec Ideal S1x1024 .f32)
    (r : Fin 640) (k : Fin 1024) : grad x0 x1 nx z g (ix2 r k)
      = dzK (fun k' => z (ix2 r k')) (fun k' => k0_pay7 (F := Ideal) x0 x1 nx (ix2 r k') * g (ix2 0 k')) k := by
  pointwise [grad, k0_pay1, k0_pay12, k0_pay11, k0_pay10, k0_pay9, k0_pay8]
  simp only [dzK, xhat, xc, rstd, var, mean]

theorem pay3_at (d xh : FVec Ideal S640x1024 .f32) (p : FVec Ideal S1x1024 .f32) (j) :
    k0_pay3 (F := Ideal) d xh p j = p j + ∑ r : Fin 640, d (ix2 r (j 1)) * xh (ix2 r (j 1)) := by
  pointwise [k0_pay3]

theorem pay4_at (d : FVec Ideal S640x1024 .f32) (p : FVec Ideal S1x1024 .f32) (j) :
    k0_pay4 (F := Ideal) d p j = p j + ∑ r : Fin 640, d (ix2 r (j 1)) := by
  pointwise [k0_pay4]

theorem zero7 (j) : k0_pay5 (F := Ideal) j = 0 := by pointwise [k0_pay5]
theorem zero8 (j) : k0_pay6 (F := Ideal) j = 0 := by pointwise [k0_pay6]

/-! ## The blocks -/

variable (m : (ℓ : Loc nD τ sig) → Buf (Elt Ideal) ℓ) (c : Dev nD)

abbrev az : FVec Ideal S8320x1024 .f32 := m ((c : Thread nD τ).loc main_arg0)
abbrev ag : FVec Ideal S1024 .f32 := m ((c : Thread nD τ).loc main_arg1)
abbrev aw : FVec Ideal S1024x3200 .f32 := m ((c : Thread nD τ).loc main_arg3)
abbrev anx : FVec Ideal S8320x1024 .f32 := m ((c : Thread nD τ).loc main_arg4)
abbrev adu : FVec Ideal S8320x3200 .f32 := m ((c : Thread nD τ).loc main_arg5)

theorem places : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- The row of the whole array that row `r` of a point's block is. -/
def rowOf (t : Fin cfg0.N) (r : Fin 640) : Fin 8320 :=
  ⟨t.val * 640 + r.val, by have h : t.val < 13 := lt_of_lt_of_eq t.isLt N_0; omega⟩

theorem blk0 (t : Fin cfg0.N) (r : Fin 640) (l : Fin 3200) :
    (iblk m c 0 t : FVec Ideal S640x3200 .bf16) (ix2 r l) = adu m c (ix2 (rowOf t r) l) := by
  blk_point [iblk, places t, rowOf]
theorem blk1 (t : Fin cfg0.N) (k : Fin 1024) (l : Fin 3200) :
    (iblk m c 1 t : FVec Ideal S1024x3200 .bf16) (ix2 k l) = aw m c (ix2 k l) := by
  blk_point [iblk, places t]
theorem blk2 (t : Fin cfg0.N) (r : Fin 640) (k : Fin 1024) :
    (iblk m c 2 t : FVec Ideal S640x1024 .f32) (ix2 r k) = anx m c (ix2 (rowOf t r) k) := by
  blk_point [iblk, places t, rowOf]
theorem blk3 (t : Fin cfg0.N) (r : Fin 640) (k : Fin 1024) :
    (iblk m c 3 t : FVec Ideal S640x1024 .f32) (ix2 r k) = az m c (ix2 (rowOf t r) k) := by
  blk_point [iblk, places t, rowOf]
theorem blk4 (t : Fin cfg0.N) (k : Fin 1024) :
    (iblk m c 4 t : FVec Ideal S1x1024 .f32) (ix2 0 k) = ag m c (ix1 k) := by
  blk_point [iblk, places t]

/-! ## What the points leave -/

theorem dh_at (t : Fin cfg0.N) (r : Fin 640) (k : Fin 1024) :
    k0_pay7 (F := Ideal) (iblk m c 0 t) (iblk m c 1 t) (iblk m c 2 t) (ix2 r k) = dh (anx m c) (aw m c) (adu m c) (rowOf t r) k := by
  rw [pay7_at, blk2]
  unfold dh
  exact congrArg (· + _) (Finset.sum_congr rfl fun l _ => mul_both (blk0 m c t r l) (blk1 m c t k l))

theorem xhat_at (t : Fin cfg0.N) (r : Fin 640) (k : Fin 1024) :
    k0_pay10 (F := Ideal) (iblk m c 3 t) (ix2 r k) = xhat (row (az m c) (rowOf t r)) k := by
  rw [pay10_at]
  exact congrArg (fun f => xhat f k) (funext fun k' => blk3 m c t r k')

/-- The gradient a point stores. -/
abbrev gradOf (t : Fin cfg0.N) : FVec Ideal S640x1024 .f32 := grad (iblk m c 0 t) (iblk m c 1 t) (iblk m c 2 t) (iblk m c 3 t) (iblk m c 4 t)

theorem dz_at (t : Fin cfg0.N) (r : Fin 640) (k : Fin 1024) :
    gradOf m c t (ix2 r k) = dzK (row (az m c) (rowOf t r)) (dy (anx m c) (ag m c) (aw m c) (adu m c) (rowOf t r)) k := by
  rw [gradOf, grad_at]
  exact congrArg₂ (fun f e => dzK f e k) (funext fun k' => blk3 m c t r k')
    (funext fun k' => mul_both (dh_at m c t r k') (blk4 m c t k'))

/-- Where a point's block of a result lies. -/
theorem emb5 (t : Fin cfg0.N) (r : Fin 640) (k : Fin 1024) : (((cfg0.win 5).blk t).view.emb (ix2 r k) : S8320x1024.Idx) = ix2 (rowOf t r) k := by
  blk_ext [places t, rowOf]
theorem emb6 (t : Fin cfg0.N) (r : Fin 640) (k : Fin 1024) : (((cfg0.win 6).blk t).view.emb (ix2 r k) : S8320x1024.Idx) = ix2 (rowOf t r) k := by
  blk_ext [places t, rowOf]
theorem emb7 (t : Fin cfg0.N) (k : Fin 1024) : (((cfg0.win 7).blk t).view.emb (ix2 0 k) : S1x1024.Idx) = ix2 0 k := by
  blk_ext [places t]
theorem emb8 (t : Fin cfg0.N) (k : Fin 1024) : (((cfg0.win 8).blk t).view.emb (ix2 0 k) : S1x1024.Idx) = ix2 0 k := by
  blk_ext [places t]

theorem stored5 (t : Fin cfg0.N) (y : S640x1024.Idx) :
    gradOf m c t y = wantK (az m c) (anx m c) (ag m c) (aw m c) (adu m c) (((cfg0.win 5).blk t).view.emb y) := by
  obtain ⟨r, k, rfl⟩ : ∃ r k, y = ix2 r k := ⟨y 0, y 1, eq_ix2 y⟩
  rw [dz_at m c t r k]
  exact (congrArg (wantK (az m c) (anx m c) (ag m c) (aw m c) (adu m c)) (emb5 t r k)).symm

theorem stored6 (t : Fin cfg0.N) (y : S640x1024.Idx) :
    truncf .bf16 (gradOf m c t) bitsLt_bf16_f32 y
      = wantK (az m c) (anx m c) (ag m c) (aw m c) (adu m c) (((cfg0.win 6).blk t).view.emb y) := by
  obtain ⟨r, k, rfl⟩ : ∃ r k, y = ix2 r k := ⟨y 0, y 1, eq_ix2 y⟩
  refine Eq.trans (b := gradOf m c t (ix2 r k)) rfl ?_
  rw [dz_at m c t r k]
  exact (congrArg (wantK (az m c) (anx m c) (ag m c) (aw m c) (adu m c)) (emb6 t r k)).symm

/-- What a point leaves in the two row blocks. -/
theorem after5 (t : Fin cfg0.N) : (outsAt0 m c t.val t.isLt).1 = gradOf m c t := by
  by_cases h : t.val % 13 = 0
  · rw [outsAt0_A m c t h]; frame_out
  · rw [outsAt0_B m c t h]; frame_out
theorem after6 (t : Fin cfg0.N) : (outsAt0 m c t.val t.isLt).2.1 = truncf .bf16 (gradOf m c t) bitsLt_bf16_f32 := by
  by_cases h : t.val % 13 = 0
  · rw [outsAt0_A m c t h]; frame_out; rfl
  · rw [outsAt0_B m c t h]; frame_out; rfl

theorem whole5 : (dats m 0 c).arrAt 5 (cfgs 0).N = wantK (az m c) (anx m c) (ag m c) (aw m c) (adu m c) := by
  refine (dats m 0 c).arrAt_eq_of_covers 5 _ (by decide +kernel) fun t hf y => ?_
  blk_simp
  rw [after0_5, after5 m c t]
  exact stored5 m c t y

theorem whole6 : (dats m 0 c).arrAt 6 (cfgs 0).N = wantK (az m c) (anx m c) (ag m c) (aw m c) (adu m c) := by
  refine (dats m 0 c).arrAt_eq_of_covers 6 _ (by decide +kernel) fun t hf y => ?_
  blk_simp
  rw [after0_6, after6 m c t]
  exact stored6 m c t y

/-- What a point adds to the gain's sum, and to the offset's. -/
def termG (t : Fin cfg0.N) (j : S1x1024.Idx) : EReal :=
  ∑ r : Fin 640, dh (anx m c) (aw m c) (adu m c) (rowOf t r) (j 1) * xhat (row (az m c) (rowOf t r)) (j 1)
def termB (t : Fin cfg0.N) (j : S1x1024.Idx) : EReal := ∑ r : Fin 640, dh (anx m c) (aw m c) (adu m c) (rowOf t r) (j 1)

theorem addsG (t : Fin cfg0.N) (p : FVec Ideal S1x1024 .f32) (j : S1x1024.Idx) :
    k0_pay3 (F := Ideal) (k0_pay7 (F := Ideal) (iblk m c 0 t) (iblk m c 1 t) (iblk m c 2 t)) (k0_pay10 (F := Ideal) (iblk m c 3 t)) p j
      = p j + termG m c t j := by
  rw [pay3_at]
  exact congrArg _ (Finset.sum_congr rfl fun r _ => mul_both (dh_at m c t r (j 1)) (xhat_at m c t r (j 1)))
theorem addsB (t : Fin cfg0.N) (p : FVec Ideal S1x1024 .f32) (j : S1x1024.Idx) :
    k0_pay4 (F := Ideal) (k0_pay7 (F := Ideal) (iblk m c 0 t) (iblk m c 1 t) (iblk m c 2 t)) p j = p j + termB m c t j := by
  rw [pay4_at]
  exact congrArg _ (Finset.sum_congr rfl fun r _ => dh_at m c t r (j 1))

/-- What the point before left. -/
abbrev prevOuts (t : Fin cfg0.N) := outsAt0 m c (t.val - 1) (Nat.lt_of_le_of_lt (Nat.sub_le _ _) t.isLt)

theorem first7 (t : Fin cfg0.N) (h : t.val % 13 = 0) (j : S1x1024.Idx) : (outsAt0 m c t.val t.isLt).2.2.1 j = (0 + termG m c t j : EReal) := by
  have e : (outsAt0 m c t.val t.isLt).2.2.1 = k0_pay3 (F := Ideal) (k0_pay7 (F := Ideal) (iblk m c 0 t) (iblk m c 1 t) (iblk m c 2 t)) (k0_pay10 (F := Ideal) (iblk m c 3 t)) (k0_pay5 (F := Ideal)) := by
    rw [outsAt0_A m c t h]; frame_out
  rw [e]
  exact (addsG m c t _ j).trans (congrArg (· + _) (zero7 j))
theorem first8 (t : Fin cfg0.N) (h : t.val % 13 = 0) (j : S1x1024.Idx) : (outsAt0 m c t.val t.isLt).2.2.2 j = (0 + termB m c t j : EReal) := by
  have e : (outsAt0 m c t.val t.isLt).2.2.2 = k0_pay4 (F := Ideal) (k0_pay7 (F := Ideal) (iblk m c 0 t) (iblk m c 1 t) (iblk m c 2 t)) (k0_pay6 (F := Ideal)) := by
    rw [outsAt0_A m c t h]; frame_out
  rw [e]
  exact (addsB m c t _ j).trans (congrArg (· + _) (zero8 j))

theorem added7 (t : Fin cfg0.N) (h : ¬t.val % 13 = 0) (j : S1x1024.Idx) :
    (outsAt0 m c t.val t.isLt).2.2.1 j = ((prevOuts m c t).2.2.1 j + termG m c t j : EReal) := by
  have e : (outsAt0 m c t.val t.isLt).2.2.1 = k0_pay3 (F := Ideal) (k0_pay7 (F := Ideal) (iblk m c 0 t) (iblk m c 1 t) (iblk m c 2 t)) (k0_pay10 (F := Ideal) (iblk m c 3 t)) (prevOuts m c t).2.2.1 := by
    rw [outsAt0_B m c t h]; frame_out
  rw [e]
  exact addsG m c t _ j
theorem added8 (t : Fin cfg0.N) (h : ¬t.val % 13 = 0) (j : S1x1024.Idx) :
    (outsAt0 m c t.val t.isLt).2.2.2 j = ((prevOuts m c t).2.2.2 j + termB m c t j : EReal) := by
  have e : (outsAt0 m c t.val t.isLt).2.2.2 = k0_pay4 (F := Ideal) (k0_pay7 (F := Ideal) (iblk m c 0 t) (iblk m c 1 t) (iblk m c 2 t)) (prevOuts m c t).2.2.2 := by
    rw [outsAt0_B m c t h]; frame_out
  rw [e]
  exact addsB m c t _ j

/-- The sum over the points of the sums over their rows. -/
theorem sum_rows (f : Fin 8320 → EReal) : ∑ t : Fin cfg0.N, ∑ r : Fin 640, f (rowOf t r) = ∑ x, f x :=
  (Equiv.sum_comp (finCongr N_0) fun a : Fin 13 => ∑ r : Fin 640, f ⟨a.val * 640 + r.val, by omega⟩).trans
    (Fin.sum_mul_add_fin (L := 8320) 13 640 f)

theorem after7 (t : Fin cfg0.N) (ht : t.val + 1 = cfg0.N) (j : S1x1024.Idx) : (outsAt0 m c t.val t.isLt).2.2.1 j
    = wantG (az m c) (anx m c) (aw m c) (adu m c) (j 1) := by
  have key := Pipeline.eq_sum_fin_of_reset_step_apply_last (M := EReal) (fun n h => (outsAt0 m c n h).2.2.1) 13 (fun _ => (0 : EReal))
    (fun t j => termG m c t j) (fun t h j => first7 m c t h j) (fun t h j => added7 m c t h j) (le_of_eq N_0) t ht j
  rw [zero_add] at key
  exact key.trans (sum_rows fun x => dh (anx m c) (aw m c) (adu m c) x (j 1) * xhat (row (az m c) x) (j 1))
theorem after8 (t : Fin cfg0.N) (ht : t.val + 1 = cfg0.N) (j : S1x1024.Idx) : (outsAt0 m c t.val t.isLt).2.2.2 j
    = wantB (anx m c) (aw m c) (adu m c) (j 1) := by
  have key := Pipeline.eq_sum_fin_of_reset_step_apply_last (M := EReal) (fun n h => (outsAt0 m c n h).2.2.2) 13 (fun _ => (0 : EReal))
    (fun t j => termB m c t j) (fun t h j => first8 m c t h j) (fun t h j => added8 m c t h j) (le_of_eq N_0) t ht j
  rw [zero_add] at key
  exact key.trans (sum_rows fun x => dh (anx m c) (aw m c) (adu m c) x (j 1))

theorem last (t : Fin cfg0.N) (h : t.val % 13 = 12) : t.val + 1 = cfg0.N := by
  have h' : t.val < 13 := lt_of_lt_of_eq t.isLt N_0
  exact (show t.val + 1 = 13 by omega).trans N_0.symm

/-- An index of the one row. -/
theorem one_row (y : S1x1024.Idx) : ∃ k : Fin 1024, y = ix2 0 k :=
  ⟨y 1, (eq_ix2 y).trans (congrArg (fun a => ix2 a (y 1)) (Subsingleton.elim (α := Fin 1) (y 0) 0))⟩

theorem whole7 : (dats m 0 c).arrAt 7 (cfgs 0).N = (fun j => wantG (az m c) (anx m c) (aw m c) (adu m c) (j 1) : FVec Ideal S1x1024 .f32) := by
  refine (dats m 0 c).arrAt_eq_of_covers 7 _ (by decide +kernel) fun t hf y => ?_
  have h := (flush0_7 t).mp hf
  blk_simp
  rw [after0_7]
  obtain ⟨k, rfl⟩ := one_row y
  exact (after7 m c t (last t h) (ix2 0 k)).trans (congrArg (fun i : S1x1024.Idx => wantG (az m c) (anx m c) (aw m c) (adu m c) (i 1)) (emb7 t k)).symm

theorem whole8 : (dats m 0 c).arrAt 8 (cfgs 0).N = (fun j => wantB (anx m c) (aw m c) (adu m c) (j 1) : FVec Ideal S1x1024 .f32) := by
  refine (dats m 0 c).arrAt_eq_of_covers 8 _ (by decide +kernel) fun t hf y => ?_
  have h := (flush0_8 t).mp hf
  blk_simp
  rw [after0_8]
  obtain ⟨k, rfl⟩ := one_row y
  exact (after8 m c t (last t h) (ix2 0 k)).trans (congrArg (fun i : S1x1024.Idx => wantB (anx m c) (aw m c) (adu m c) (i 1)) (emb8 t k)).symm

end Cert.Kernel11Ideal.Lna

namespace Cert.Proof

open Cert.Norm

section
open Cert.Pre_finite11

/-- Finite arguments are real numbers. -/
theorem reals11 (z : FVec Ideal S8320x1024 .f32) (g b : FVec Ideal S1024 .f32) (w : FVec Ideal S1024x3200 .f32) (nx : FVec Ideal S8320x1024 .f32)
    (du : FVec Ideal S8320x3200 .f32)
    (h : (Cert.Pre_finite11.fn (F := Ideal) z g b w nx du).1 = (fun _ => 1#1) ∧ (Cert.Pre_finite11.fn (F := Ideal) z g b w nx du).2.1 = (fun _ => 1#1)
    ∧ (Cert.Pre_finite11.fn (F := Ideal) z g b w nx du).2.2.1 = (fun _ => 1#1) ∧ (Cert.Pre_finite11.fn (F := Ideal) z g b w nx du).2.2.2.1 = (fun _ => 1#1)
    ∧ (Cert.Pre_finite11.fn (F := Ideal) z g b w nx du).2.2.2.2 = (fun _ => 1#1)) : Reals z nx g w du where
  z x k := real_of_abs _ (congrFun h.1 (ix2 x k))
  g k := real_of_abs _ (congrFun h.2.1 (ix1 k))
  w k l := real_of_abs _ (congrFun h.2.2.1 (ix2 k l))
  nx x k := real_of_abs _ (congrFun h.2.2.2.1 (ix2 x k))
  du x l := real_of_abs _ (congrFun h.2.2.2.2 (ix2 x l))
end

/-- From finite arguments the four results of the call are the reference's. -/
theorem algebraic11 : Cert.algebraic_Kernel11Ideal_Reference11Ideal_pre_finite11 := by
  pair_intro
  · run_from Cert.Kernel11Ideal.Gen.run_main m g
  · run_from Cert.Reference11Ideal.Val.run_val m' g'
    · exact (funext fun i => (want_eq (reals11 _ _ _ _ _ _ (hpre c)) i).symm).trans (Cert.Kernel11Ideal.Lna.whole5 m c).symm
    · exact (funext fun i => (want_eq (reals11 _ _ _ _ _ _ (hpre c)) i).symm).trans (Cert.Kernel11Ideal.Lna.whole6 m c).symm
    · exact (Cert.Kernel11Ideal.Lna.whole7 m c).symm
    · exact (Cert.Kernel11Ideal.Lna.whole8 m c).symm

end Cert.Proof

end
-- ==== Proof.Down.lean ====
/- A feed-forward layer's outer product and the layer norm after it: the kernel and the reference agree over the extended reals. -/
module

public import proofs.«01_k».proof.Defs
public import proofs.«01_k».proof.Proof.Norm
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import Idealize.ShloMosaic.Lib.Pipeline.ValueKit
public import Idealize.ShloMosaic.Lib.Pipeline.ReadBack
public import Idealize.ShloMosaic.Lib.Claim

@[expose] public section

/-! A grid point takes a block of 640 rows: the skip connection's part, the product of the activations with the outer
weights, and the layer norm of the sum. -/

set_option maxRecDepth 65536

noncomputable section

open Idealize.ShloMosaic Idealize.ShloMosaic.TcCoe Idealize.SL.Sem
open Idealize.ShloMosaic.Pipeline (Dat)

namespace Cert.Kernel12Ideal.Down

open Cert.Kernel12Ideal Cert.Kernel12Ideal.Gen Cert.Norm

/-! ## What is computed -/

section
variable (A : FVec Ideal S8320x2816 .f32) (W : FVec Ideal S2816x1024 .f32) (R : FVec Ideal S8320x1024 .f32) (g b : FVec Ideal S1024 .f32)

/-- A row before the layer norm: the skip connection's part and the product's. -/
def zRow (x : Fin 8320) (k : Fin 1024) : EReal :=
  Ideal.ofBits .f32 0x3FB504F3#32 * (R (ix2 x k) : EReal) + ∑ l : Fin 2816, (A (ix2 x l) : EReal) * (W (ix2 l k) : EReal)
def wantZ (i : S8320x1024.Idx) : EReal := zRow A W R (i 0) (i 1)
/-- The row after it. -/
def wantH (i : S8320x1024.Idx) : EReal := lnF (zRow A W R (i 0)) (fun k => g (ix1 k)) (fun k => b (ix1 k)) (i 1)
end

/-! ## The body's words at an index -/

theorem pay1_at (r : FVec Ideal S640x1024 .f32) (a : FVec Ideal S640x2816 .bf16) (w : FVec Ideal S2816x1024 .bf16) (x : Fin 640) (k : Fin 1024) :
    k0_pay1 (F := Ideal) r a w (ix2 x k)
      = Ideal.ofBits .f32 0x3FB504F3#32 * r (ix2 x k) + ∑ l : Fin 2816, a (ix2 x l) * w (ix2 l k) := by
  pointwise [k0_pay1]

theorem pay2_at (r : FVec Ideal S640x1024 .f32) (a : FVec Ideal S640x2816 .bf16) (w : FVec Ideal S2816x1024 .bf16) (g b : FVec Ideal S1x1024 .f32)
    (x : Fin 640) (k : Fin 1024) : k0_pay2 (F := Ideal) r a w g b (ix2 x k)
      = lnF (fun k' => k0_pay1 (F := Ideal) r a w (ix2 x k')) (fun k' => g (ix2 0 k')) (fun k' => b (ix2 0 k')) k := by
  pointwise [k0_pay2]
  simp only [lnF, xhat, xc, rstd, var, mean]

theorem pay3_at (r : FVec Ideal S640x1024 .f32) (a : FVec Ideal S640x2816 .bf16) (w : FVec Ideal S2816x1024 .bf16) (g b : FVec Ideal S1x1024 .f32) (y) :
    k0_pay3 (F := Ideal) r a w g b y = k0_pay2 (F := Ideal) r a w g b y := by
  pointwise [k0_pay3]

/-! ## The blocks -/

variable (m : (ℓ : Loc nD τ sig) → Buf (Elt Ideal) ℓ) (c : Dev nD)

abbrev aA : FVec Ideal S8320x2816 .f32 := m ((c : Thread nD τ).loc main_arg0)
abbrev aW : FVec Ideal S2816x1024 .f32 := m ((c : Thread nD τ).loc main_arg1)
abbrev aR : FVec Ideal S8320x1024 .f32 := m ((c : Thread nD τ).loc main_arg2)
abbrev ag : FVec Ideal S1024 .f32 := m ((c : Thread nD τ).loc main_arg3)
abbrev ab : FVec Ideal S1024 .f32 := m ((c : Thread nD τ).loc main_arg4)

theorem places : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The row of the whole array that row `r` of a point's block is. -/
def rowOf (t : Fin cfg0.N) (r : Fin 640) : Fin 8320 :=
  ⟨t.val * 640 + r.val, by have h : t.val < 13 := lt_of_lt_of_eq t.isLt N_0; omega⟩

theorem blk0 (t : Fin cfg0.N) (r : Fin 640) (l : Fin 2816) :
    (iblk m c 0 t : FVec Ideal S640x2816 .bf16) (ix2 r l) = aA m c (ix2 (rowOf t r) l) := by
  blk_point [iblk, places t, rowOf]
theorem blk1 (t : Fin cfg0.N) (l : Fin 2816) (k : Fin 1024) :
    (iblk m c 1 t : FVec Ideal S2816x1024 .bf16) (ix2 l k) = aW m c (ix2 l k) := by
  blk_point [iblk, places t]
theorem blk2 (t : Fin cfg0.N) (r : Fin 640) (k : Fin 1024) :
    (iblk m c 2 t : FVec Ideal S640x1024 .f32) (ix2 r k) = aR m c (ix2 (rowOf t r) k) := by
  blk_point [iblk, places t, rowOf]
theorem blk3 (t : Fin cfg0.N) (k : Fin 1024) : (iblk m c 3 t : FVec Ideal S1x1024 .f32) (ix2 0 k) = ag m c (ix1 k) := by
  blk_point [iblk, places t]
theorem blk4 (t : Fin cfg0.N) (k : Fin 1024) : (iblk m c 4 t : FVec Ideal S1x1024 .f32) (ix2 0 k) = ab m c (ix1 k) := by
  blk_point [iblk, places t]

theorem z_at (t : Fin cfg0.N) (r : Fin 640) (k : Fin 1024) :
    k0_pay1 (F := Ideal) (iblk m c 2 t) (iblk m c 0 t) (iblk m c 1 t) (ix2 r k) = zRow (aA m c) (aW m c) (aR m c) (rowOf t r) k := by
  rw [pay1_at, blk2]
  unfold zRow
  exact congrArg (_ + ·) (Finset.sum_congr rfl fun l _ => mul_both (blk0 m c t r l) (blk1 m c t l k))

theorem h_at (t : Fin cfg0.N) (r : Fin 640) (k : Fin 1024) :
    k0_pay2 (F := Ideal) (iblk m c 2 t) (iblk m c 0 t) (iblk m c 1 t) (iblk m c 3 t) (iblk m c 4 t) (ix2 r k)
      = lnF (zRow (aA m c) (aW m c) (aR m c) (rowOf t r)) (fun k => ag m c (ix1 k)) (fun k => ab m c (ix1 k)) k := by
  rw [pay2_at]
  rw [show (fun k' => k0_pay1 (F := Ideal) (iblk m c 2 t) (iblk m c 0 t) (iblk m c 1 t) (ix2 r k')) = zRow (aA m c) (aW m c) (aR m c) (rowOf t r) from
    funext fun k' => z_at m c t r k']
  exact congrArg₂ (fun e f => lnF _ e f k) (funext fun k' => blk3 m c t k') (funext fun k' => blk4 m c t k')

/-- Where a point's block of a result lies. -/
theorem emb5 (t : Fin cfg0.N) (r : Fin 640) (k : Fin 1024) : (((cfg0.win 5).blk t).view.emb (ix2 r k) : S8320x1024.Idx) = ix2 (rowOf t r) k := by
  blk_ext [places t, rowOf]
theorem emb6 (t : Fin cfg0.N) (r : Fin 640) (k : Fin 1024) : (((cfg0.win 6).blk t).view.emb (ix2 r k) : S8320x1024.Idx) = ix2 (rowOf t r) k := by
  blk_ext [places t, rowOf]
theorem emb7 (t : Fin cfg0.N) (r : Fin 640) (k : Fin 1024) : (((cfg0.win 7).blk t).view.emb (ix2 r k) : S8320x1024.Idx) = ix2 (rowOf t r) k := by
  blk_ext [places t, rowOf]

theorem stored5 (t : Fin cfg0.N) (y : S640x1024.Idx) : k0_pay1 (F := Ideal) (iblk m c 2 t) (iblk m c 0 t) (iblk m c 1 t) y
    = wantZ (aA m c) (aW m c) (aR m c) (((cfg0.win 5).blk t).view.emb y) := by
  obtain ⟨r, k, rfl⟩ : ∃ r k, y = ix2 r k := ⟨y 0, y 1, eq_ix2 y⟩
  rw [z_at m c t r k]
  exact (congrArg (wantZ (aA m c) (aW m c) (aR m c)) (emb5 t r k)).symm

theorem stored6 (t : Fin cfg0.N) (y : S640x1024.Idx) :
    k0_pay2 (F := Ideal) (iblk m c 2 t) (iblk m c 0 t) (iblk m c 1 t) (iblk m c 3 t) (iblk m c 4 t) y
    = wantH (aA m c) (aW m c) (aR m c) (ag m c) (ab m c) (((cfg0.win 6).blk t).view.emb y) := by
  obtain ⟨r, k, rfl⟩ : ∃ r k, y = ix2 r k := ⟨y 0, y 1, eq_ix2 y⟩
  rw [h_at m c t r k]
  exact (congrArg (wantH (aA m c) (aW m c) (aR m c) (ag m c) (ab m c)) (emb6 t r k)).symm

theorem stored7 (t : Fin cfg0.N) (y : S640x1024.Idx) :
    k0_pay3 (F := Ideal) (iblk m c 2 t) (iblk m c 0 t) (iblk m c 1 t) (iblk m c 3 t) (iblk m c 4 t) y
    = wantH (aA m c) (aW m c) (aR m c) (ag m c) (ab m c) (((cfg0.win 7).blk t).view.emb y) := by
  obtain ⟨r, k, rfl⟩ : ∃ r k, y = ix2 r k := ⟨y 0, y 1, eq_ix2 y⟩
  rw [pay3_at, h_at m c t r k]
  exact (congrArg (wantH (aA m c) (aW m c) (aR m c) (ag m c) (ab m c)) (emb7 t r k)).symm

/-! ## The arrays after the run -/

theorem whole5 : (dats m 0 c).arrAt 5 (cfgs 0).N = wantZ (aA m c) (aW m c) (aR m c) := by
  refine (dats m 0 c).arrAt_eq_of_covers 5 _ (by decide +kernel) fun t _ y => ?_
  blk_simp
  rw [after0_5]
  frame_out
  exact stored5 m c t y
theorem whole6 : (dats m 0 c).arrAt 6 (cfgs 0).N = wantH (aA m c) (aW m c) (aR m c) (ag m c) (ab m c) := by
  refine (dats m 0 c).arrAt_eq_of_covers 6 _ (by decide +kernel) fun t _ y => ?_
  blk_simp
  rw [after0_6]
  frame_out
  exact stored6 m c t y
theorem whole7 : (dats m 0 c).arrAt 7 (cfgs 0).N = wantH (aA m c) (aW m c) (aR m c) (ag m c) (ab m c) := by
  refine (dats m 0 c).arrAt_eq_of_covers 7 _ (by decide +kernel) fun t _ y => ?_
  blk_simp
  rw [after0_7]
  frame_out
  exact stored7 m c t y

end Cert.Kernel12Ideal.Down

namespace Cert.Reference12Ideal.Val
open Cert.Reference12Ideal Cert.Reference12Ideal.Gen Cert.Reference12Ideal.Value Cert.Norm Cert.Kernel12Ideal.Down

/-- Two arrays that agree at every index. -/
theorem ext2 {φ : FTy} {X Y : FVec Ideal S8320x1024 φ} (h : ∀ (x : Fin 8320) (j : Fin 1024), X (ix2 x j) = Y (ix2 x j)) : X = Y := by
  funext i
  rw [show i = ix2 (i 0) (i 1) from eq_ix2 i]
  exact h _ _

variable (m : (ℓ : Loc nD τ sig) → Buf (Elt Ideal) ℓ) (c : Dev nD)
abbrev aA : FVec Ideal S8320x2816 .f32 := m ((c.tc : Thread nD τ).loc main_arg0)
abbrev aW : FVec Ideal S2816x1024 .f32 := m ((c.tc : Thread nD τ).loc main_arg1)
abbrev aR : FVec Ideal S8320x1024 .f32 := m ((c.tc : Thread nD τ).loc main_arg2)
abbrev ag : FVec Ideal S1024 .f32 := m ((c.tc : Thread nD τ).loc main_arg3)
abbrev ab : FVec Ideal S1024 .f32 := m ((c.tc : Thread nD τ).loc main_arg4)

set_option maxHeartbeats 4000000 in
/-- What the reference leaves. -/
theorem run_val (ρ : Dev nD → PrngReg) :
    θ_run defs (onTc (τ := τ) (main (F := Ideal))) ⟨m, fun _ => 0, ρ⟩ fun r => ∀ c : Dev nD,
      r.2.mem ((c.tc : Thread nD τ).loc main_v3) = (fun i => wantZ (aA m c) (aW m c) (aR m c) i : FVec Ideal S8320x1024 .f32)
      ∧ r.2.mem ((c.tc : Thread nD τ).loc main_v25) = (fun i => wantH (aA m c) (aW m c) (aR m c) (ag m c) (ab m c) i : FVec Ideal S8320x1024 .f32)
      ∧ r.2.mem ((c.tc : Thread nD τ).loc main_v26) = (fun i => wantH (aA m c) (aW m c) (aR m c) (ag m c) (ab m c) i : FVec Ideal S8320x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(h c).1.trans (ext2 (φ := .f32) fun x j => by
        pointwise
        simp only [wantZ, zRow]
        rfl),
      (h c).2.1.trans (ext2 (φ := .f32) fun x j => by
        pointwise
        simp only [wantH, lnF, xhat, xc, rstd, var, mean, zRow]
        rfl),
      (h c).2.2.1.trans (ext2 (φ := .bf16) fun x j => by
        pointwise
        simp only [wantH, lnF, xhat, xc, rstd, var, mean, zRow]
        rfl),
      (h c).2.2.2⟩)
    (run (F := Ideal) m ρ)
end Cert.Reference12Ideal.Val

namespace Cert.Proof

/-- The three results of the call are the reference's. -/
theorem algebraic12 : Cert.algebraic_Kernel12Ideal_Reference12Ideal := by
  pair_intro
  · run_from Cert.Kernel12Ideal.Gen.run_main m g
  · run_from Cert.Reference12Ideal.Val.run_val m' g'
    · exact (Cert.Kernel12Ideal.Down.whole5 m c).symm
    · exact (Cert.Kernel12Ideal.Down.whole6 m c).symm
    · exact (Cert.Kernel12Ideal.Down.whole7 m c).symm

end Cert.Proof

end
-- ==== Proof.Out.lean ====
/- The attention's output projection and the layer norm after it: the kernel and the reference agree over the extended reals. -/
module

public import proofs.«01_k».proof.Defs
public import proofs.«01_k».proof.Proof.Norm
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import Idealize.ShloMosaic.Lib.Pipeline.ValueKit
public import Idealize.ShloMosaic.Lib.Pipeline.ReadBack
public import Idealize.ShloMosaic.Lib.Claim

@[expose] public section

/-! A grid point takes a block of 640 rows: the skip connection's part, the product of the attention's transposed output
with the weights, and the layer norm of the sum. -/

set_option maxRecDepth 65536

noncomputable section

open Idealize.ShloMosaic Idealize.ShloMosaic.TcCoe Idealize.SL.Sem
open Idealize.ShloMosaic.Pipeline (Dat)

namespace Cert.Kernel13Ideal.Out

open Cert.Kernel13Ideal Cert.Kernel13Ideal.Gen Cert.Norm

/-! ## What is computed -/

section
variable (A : FVec Ideal S1024x8320 .f32) (W : FVec Ideal S1024x1024 .f32) (R : FVec Ideal S8320x1024 .f32) (g b : FVec Ideal S1024 .f32)

/-- A row before the layer norm: the skip connection's part and the product's. -/
def zRow (x : Fin 8320) (k : Fin 1024) : EReal :=
  Ideal.ofBits .f32 0x3FB504F3#32 * (R (ix2 x k) : EReal) + ∑ l : Fin 1024, (A (ix2 l x) : EReal) * (W (ix2 l k) : EReal)
def wantZ (i : S8320x1024.Idx) : EReal := zRow A W R (i 0) (i 1)
/-- The row after it. -/
def wantH (i : S8320x1024.Idx) : EReal := lnF (zRow A W R (i 0)) (fun k => g (ix1 k)) (fun k => b (ix1 k)) (i 1)
end

/-! ## The body's words at an index -/

theorem pay1_at (r : FVec Ideal S640x1024 .f32) (a : FVec Ideal S1024x640 .bf16) (w : FVec Ideal S1024x1024 .bf16) (x : Fin 640) (k : Fin 1024) :
    k0_pay1 (F := Ideal) r a w (ix2 x k)
      = Ideal.ofBits .f32 0x3FB504F3#32 * r (ix2 x k) + ∑ l : Fin 1024, a (ix2 l x) * w (ix2 l k) := by
  pointwise [k0_pay1]

theorem pay2_at (r : FVec Ideal S640x1024 .f32) (a : FVec Ideal S1024x640 .bf16) (w : FVec Ideal S1024x1024 .bf16) (g b : FVec Ideal S1x1024 .f32)
    (x : Fin 640) (k : Fin 1024) : k0_pay2 (F := Ideal) r a w g b (ix2 x k)
      = lnF (fun k' => k0_pay1 (F := Ideal) r a w (ix2 x k')) (fun k' => g (ix2 0 k')) (fun k' => b (ix2 0 k')) k := by
  pointwise [k0_pay2]
  simp only [lnF, xhat, xc, rstd, var, mean]

theorem pay3_at (r : FVec Ideal S640x1024 .f32) (a : FVec Ideal S1024x640 .bf16) (w : FVec Ideal S1024x1024 .bf16) (g b : FVec Ideal S1x1024 .f32) (y) :
    k0_pay3 (F := Ideal) r a w g b y = k0_pay2 (F := Ideal) r a w g b y := by
  pointwise [k0_pay3]

/-! ## The blocks -/

variable (m : (ℓ : Loc nD τ sig) → Buf (Elt Ideal) ℓ) (c : Dev nD)

abbrev aA : FVec Ideal S1024x8320 .f32 := m ((c : Thread nD τ).loc main_arg0)
abbrev aW : FVec Ideal S1024x1024 .f32 := m ((c : Thread nD τ).loc main_arg1)
abbrev aR : FVec Ideal S8320x1024 .f32 := m ((c : Thread nD τ).loc main_arg2)
abbrev ag : FVec Ideal S1024 .f32 := m ((c : Thread nD τ).loc main_arg3)
abbrev ab : FVec Ideal S1024 .f32 := m ((c : Thread nD τ).loc main_arg4)

theorem places : ∀ t : Fin cfg0.N, win0_0.index t = ![0, t.val] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The row of the whole array that row `r` of a point's block is. -/
def rowOf (t : Fin cfg0.N) (r : Fin 640) : Fin 8320 :=
  ⟨t.val * 640 + r.val, by have h : t.val < 13 := lt_of_lt_of_eq t.isLt N_0; omega⟩

theorem blk0 (t : Fin cfg0.N) (r : Fin 640) (l : Fin 1024) :
    (iblk m c 0 t : FVec Ideal S1024x640 .bf16) (ix2 l r) = aA m c (ix2 l (rowOf t r)) := by
  blk_point [iblk, places t, rowOf]
theorem blk1 (t : Fin cfg0.N) (l : Fin 1024) (k : Fin 1024) :
    (iblk m c 1 t : FVec Ideal S1024x1024 .bf16) (ix2 l k) = aW m c (ix2 l k) := by
  blk_point [iblk, places t]
theorem blk2 (t : Fin cfg0.N) (r : Fin 640) (k : Fin 1024) :
    (iblk m c 2 t : FVec Ideal S640x1024 .f32) (ix2 r k) = aR m c (ix2 (rowOf t r) k) := by
  blk_point [iblk, places t, rowOf]
theorem blk3 (t : Fin cfg0.N) (k : Fin 1024) : (iblk m c 3 t : FVec Ideal S1x1024 .f32) (ix2 0 k) = ag m c (ix1 k) := by
  blk_point [iblk, places t]
theorem blk4 (t : Fin cfg0.N) (k : Fin 1024) : (iblk m c 4 t : FVec Ideal S1x1024 .f32) (ix2 0 k) = ab m c (ix1 k) := by
  blk_point [iblk, places t]

theorem z_at (t : Fin cfg0.N) (r : Fin 640) (k : Fin 1024) :
    k0_pay1 (F := Ideal) (iblk m c 2 t) (iblk m c 0 t) (iblk m c 1 t) (ix2 r k) = zRow (aA m c) (aW m c) (aR m c) (rowOf t r) k := by
  rw [pay1_at, blk2]
  unfold zRow
  exact congrArg (_ + ·) (Finset.sum_congr rfl fun l _ => mul_both (blk0 m c t r l) (blk1 m c t l k))

theorem h_at (t : Fin cfg0.N) (r : Fin 640) (k : Fin 1024) :
    k0_pay2 (F := Ideal) (iblk m c 2 t) (iblk m c 0 t) (iblk m c 1 t) (iblk m c 3 t) (iblk m c 4 t) (ix2 r k)
      = lnF (zRow (aA m c) (aW m c) (aR m c) (rowOf t r)) (fun k => ag m c (ix1 k)) (fun k => ab m c (ix1 k)) k := by
  rw [pay2_at]
  rw [show (fun k' => k0_pay1 (F := Ideal) (iblk m c 2 t) (iblk m c 0 t) (iblk m c 1 t) (ix2 r k')) = zRow (aA m c) (aW m c) (aR m c) (rowOf t r) from
    funext fun k' => z_at m c t r k']
  exact congrArg₂ (fun e f => lnF _ e f k) (funext fun k' => blk3 m c t k') (funext fun k' => blk4 m c t k')

/-- Where a point's block of a result lies. -/
theorem emb5 (t : Fin cfg0.N) (r : Fin 640) (k : Fin 1024) : (((cfg0.win 5).blk t).view.emb (ix2 r k) : S8320x1024.Idx) = ix2 (rowOf t r) k := by
  blk_ext [places t, rowOf]
theorem emb6 (t : Fin cfg0.N) (r : Fin 640) (k : Fin 1024) : (((cfg0.win 6).blk t).view.emb (ix2 r k) : S8320x1024.Idx) = ix2 (rowOf t r) k := by
  blk_ext [places t, rowOf]
theorem emb7 (t : Fin cfg0.N) (r : Fin 640) (k : Fin 1024) : (((cfg0.win 7).blk t).view.emb (ix2 r k) : S8320x1024.Idx) = ix2 (rowOf t r) k := by
  blk_ext [places t, rowOf]

theorem stored5 (t : Fin cfg0.N) (y : S640x1024.Idx) : k0_pay1 (F := Ideal) (iblk m c 2 t) (iblk m c 0 t) (iblk m c 1 t) y
    = wantZ (aA m c) (aW m c) (aR m c) (((cfg0.win 5).blk t).view.emb y) := by
  obtain ⟨r, k, rfl⟩ : ∃ r k, y = ix2 r k := ⟨y 0, y 1, eq_ix2 y⟩
  rw [z_at m c t r k]
  exact (congrArg (wantZ (aA m c) (aW m c) (aR m c)) (emb5 t r k)).symm

theorem stored6 (t : Fin cfg0.N) (y : S640x1024.Idx) :
    k0_pay2 (F := Ideal) (iblk m c 2 t) (iblk m c 0 t) (iblk m c 1 t) (iblk m c 3 t) (iblk m c 4 t) y
    = wantH (aA m c) (aW m c) (aR m c) (ag m c) (ab m c) (((cfg0.win 6).blk t).view.emb y) := by
  obtain ⟨r, k, rfl⟩ : ∃ r k, y = ix2 r k := ⟨y 0, y 1, eq_ix2 y⟩
  rw [h_at m c t r k]
  exact (congrArg (wantH (aA m c) (aW m c) (aR m c) (ag m c) (ab m c)) (emb6 t r k)).symm

theorem stored7 (t : Fin cfg0.N) (y : S640x1024.Idx) :
    k0_pay3 (F := Ideal) (iblk m c 2 t) (iblk m c 0 t) (iblk m c 1 t) (iblk m c 3 t) (iblk m c 4 t) y
    = wantH (aA m c) (aW m c) (aR m c) (ag m c) (ab m c) (((cfg0.win 7).blk t).view.emb y) := by
  obtain ⟨r, k, rfl⟩ : ∃ r k, y = ix2 r k := ⟨y 0, y 1, eq_ix2 y⟩
  rw [pay3_at, h_at m c t r k]
  exact (congrArg (wantH (aA m c) (aW m c) (aR m c) (ag m c) (ab m c)) (emb7 t r k)).symm

/-! ## The arrays after the run -/

theorem whole5 : (dats m 0 c).arrAt 5 (cfgs 0).N = wantZ (aA m c) (aW m c) (aR m c) := by
  refine (dats m 0 c).arrAt_eq_of_covers 5 _ (by decide +kernel) fun t _ y => ?_
  blk_simp
  rw [after0_5]
  frame_out
  exact stored5 m c t y
theorem whole6 : (dats m 0 c).arrAt 6 (cfgs 0).N = wantH (aA m c) (aW m c) (aR m c) (ag m c) (ab m c) := by
  refine (dats m 0 c).arrAt_eq_of_covers 6 _ (by decide +kernel) fun t _ y => ?_
  blk_simp
  rw [after0_6]
  frame_out
  exact stored6 m c t y
theorem whole7 : (dats m 0 c).arrAt 7 (cfgs 0).N = wantH (aA m c) (aW m c) (aR m c) (ag m c) (ab m c) := by
  refine (dats m 0 c).arrAt_eq_of_covers 7 _ (by decide +kernel) fun t _ y => ?_
  blk_simp
  rw [after0_7]
  frame_out
  exact stored7 m c t y

end Cert.Kernel13Ideal.Out

namespace Cert.Reference13Ideal.Val
open Cert.Reference13Ideal Cert.Reference13Ideal.Gen Cert.Reference13Ideal.Value Cert.Norm Cert.Kernel13Ideal.Out

/-- Two arrays that agree at every index. -/
theorem ext2 {φ : FTy} {X Y : FVec Ideal S8320x1024 φ} (h : ∀ (x : Fin 8320) (j : Fin 1024), X (ix2 x j) = Y (ix2 x j)) : X = Y := by
  funext i
  rw [show i = ix2 (i 0) (i 1) from eq_ix2 i]
  exact h _ _

variable (m : (ℓ : Loc nD τ sig) → Buf (Elt Ideal) ℓ) (c : Dev nD)
abbrev aA : FVec Ideal S1024x8320 .f32 := m ((c.tc : Thread nD τ).loc main_arg0)
abbrev aW : FVec Ideal S1024x1024 .f32 := m ((c.tc : Thread nD τ).loc main_arg1)
abbrev aR : FVec Ideal S8320x1024 .f32 := m ((c.tc : Thread nD τ).loc main_arg2)
abbrev ag : FVec Ideal S1024 .f32 := m ((c.tc : Thread nD τ).loc main_arg3)
abbrev ab : FVec Ideal S1024 .f32 := m ((c.tc : Thread nD τ).loc main_arg4)

set_option maxHeartbeats 4000000 in
/-- What the reference leaves. -/
theorem run_val (ρ : Dev nD → PrngReg) :
    θ_run defs (onTc (τ := τ) (main (F := Ideal))) ⟨m, fun _ => 0, ρ⟩ fun r => ∀ c : Dev nD,
      r.2.mem ((c.tc : Thread nD τ).loc main_v4) = (fun i => wantZ (aA m c) (aW m c) (aR m c) i : FVec Ideal S8320x1024 .f32)
      ∧ r.2.mem ((c.tc : Thread nD τ).loc main_v26) = (fun i => wantH (aA m c) (aW m c) (aR m c) (ag m c) (ab m c) i : FVec Ideal S8320x1024 .f32)
      ∧ r.2.mem ((c.tc : Thread nD τ).loc main_v27) = (fun i => wantH (aA m c) (aW m c) (aR m c) (ag m c) (ab m c) i : FVec Ideal S8320x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(h c).1.trans (ext2 (φ := .f32) fun x j => by
        pointwise
        simp only [wantZ, zRow]
        rfl),
      (h c).2.1.trans (ext2 (φ := .f32) fun x j => by
        pointwise
        simp only [wantH, lnF, xhat, xc, rstd, var, mean, zRow]
        rfl),
      (h c).2.2.1.trans (ext2 (φ := .bf16) fun x j => by
        pointwise
        simp only [wantH, lnF, xhat, xc, rstd, var, mean, zRow]
        rfl),
      (h c).2.2.2⟩)
    (run (F := Ideal) m ρ)
end Cert.Reference13Ideal.Val

namespace Cert.Proof

/-- The three results of the call are the reference's. -/
theorem algebraic13 : Cert.algebraic_Kernel13Ideal_Reference13Ideal := by
  pair_intro
  · run_from Cert.Kernel13Ideal.Gen.run_main m g
  · run_from Cert.Reference13Ideal.Val.run_val m' g'
    · exact (Cert.Kernel13Ideal.Out.whole5 m c).symm
    · exact (Cert.Kernel13Ideal.Out.whole6 m c).symm
    · exact (Cert.Kernel13Ideal.Out.whole7 m c).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Pre_finite5
public import proofs.«01_k».proof.Proof.Run
public import proofs.«01_k».proof.Proof.Same
public import proofs.«01_k».proof.Proof.Alg
public import proofs.«01_k».proof.Proof.Dact
public import proofs.«01_k».proof.Proof.Dout
public import proofs.«01_k».proof.Proof.Din
public import proofs.«01_k».proof.Proof.Ln
public import proofs.«01_k».proof.Proof.Up
public import proofs.«01_k».proof.Proof.Dqkv
public import proofs.«01_k».proof.Proof.Qkv
public import proofs.«01_k».proof.Proof.Do
public import proofs.«01_k».proof.Proof.Dwo
public import proofs.«01_k».proof.Proof.Lna
public import proofs.«01_k».proof.Proof.Down
public import proofs.«01_k».proof.Proof.Out
public import proofs.«01_k».proof.Proof.Gen.Kernel5.Frame
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Pre_finite11
public import proofs.«01_k».proof.Proof.Gen.Kernel2.Frame
public import proofs.«01_k».proof.Proof.Gen.Kernel3.Frame
public import proofs.«01_k».proof.Proof.Gen.Kernel4.Frame
public import Idealize.ShloMosaic.Adequacy
public import Idealize.ShloMosaic.Init

@[expose] public section

noncomputable section

namespace Cert.Proof

open Idealize.ShloMosaic Idealize.SL.Sem Idealize.ShloMosaic.TcCoe

section
open Cert.KernelIdeal

/-- The frame of the kernel with its counters, over any floats. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Idealize.ShloMosaic.θ_run_with_sems
    (Cert.KernelIdeal.Gen.frame_of (F := F) m ρ (Cert.KernelIdeal.Body.dats m) (Cert.KernelIdeal.Body.A_eq m)) (Cert.KernelIdeal.Body.run_main m ρ)

end

set_option maxHeartbeats 8000000 in
/-- The kernel at the machine's floats. -/
theorem frame_kernel : Cert.quiescent_Kernel := fun m ρ _ => by
  rw [defs_same, main_same]
  exact frame_any (F := Bits) m ρ

/-- The kernel over the extended reals. -/
theorem frame_kernelIdeal : Cert.quiescent_KernelIdeal := fun m ρ _ => frame_any (F := Ideal) m ρ

/-- The same, from finite arguments. -/
theorem frame_kernelIdeal_finite : Cert.quiescent_KernelIdeal_pre_finite := fun m ρ _ => frame_any (F := Ideal) m ρ

/-- The reference. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The same, from finite arguments. -/
theorem frame_reference_finite : Cert.quiescent_ReferenceIdeal_pre_finite := fun m ρ _ => frame_reference m ρ trivial

/-- The call of the activations' gradient at the machine's floats, over the extended reals, and its reference. -/
theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The call of the outer weights' gradient at the machine's floats, over the extended reals, and its reference. -/
theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The call of the inner weights' gradient at the machine's floats, over the extended reals, and its reference. -/
theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The call of the normalised input's gradient and the layer norm's at the machine's floats, over the extended reals, and
its reference; over the extended reals also from finite arguments. -/
theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_kernel5Ideal_finite5 : Cert.quiescent_Kernel5Ideal_pre_finite5 := fun m ρ _ => Cert.Kernel5Ideal.Gen.frame m ρ

theorem frame_reference5 : Cert.quiescent_Reference5Ideal := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

theorem frame_reference5_finite5 : Cert.quiescent_Reference5Ideal_pre_finite5 := fun m ρ _ => frame_reference5 m ρ trivial

/-- The call of the inner product of a feed-forward layer at the machine's floats, over the extended reals, and its reference. -/
theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The call of the gradient of the attention's four weights at the machine's floats, over the extended reals, and its reference. -/
theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The call of the projections to keys, values and queries at the machine's floats, over the extended reals, and its reference. -/
theorem frame_kernel8 : Cert.quiescent_Kernel8 := fun m ρ _ => Cert.Kernel8.Gen.frame m ρ

theorem frame_kernel8Ideal : Cert.quiescent_Kernel8Ideal := fun m ρ _ => Cert.Kernel8Ideal.Gen.frame m ρ

theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The call of the gradient of the attention's output at the machine's floats, over the extended reals, and its reference. -/
theorem frame_kernel9 : Cert.quiescent_Kernel9 := fun m ρ _ => Cert.Kernel9.Gen.frame m ρ

theorem frame_kernel9Ideal : Cert.quiescent_Kernel9Ideal := fun m ρ _ => Cert.Kernel9Ideal.Gen.frame m ρ

theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The call of the gradient of the attention's output weights at the machine's floats, over the extended reals, and its reference. -/
theorem frame_kernel10 : Cert.quiescent_Kernel10 := fun m ρ _ => Cert.Kernel10.Gen.frame m ρ

theorem frame_kernel10Ideal : Cert.quiescent_Kernel10Ideal := fun m ρ _ => Cert.Kernel10Ideal.Gen.frame m ρ

theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The call of the gradient of an attention layer's normalised input and the layer norm's at the machine's floats, over the extended reals, and its reference; over the extended reals also from finite arguments. -/
theorem frame_kernel11 : Cert.quiescent_Kernel11 := fun m ρ _ => Cert.Kernel11.Gen.frame m ρ

theorem frame_kernel11Ideal : Cert.quiescent_Kernel11Ideal := fun m ρ _ => Cert.Kernel11Ideal.Gen.frame m ρ

theorem frame_kernel11Ideal_finite11 : Cert.quiescent_Kernel11Ideal_pre_finite11 := fun m ρ _ => Cert.Kernel11Ideal.Gen.frame m ρ

theorem frame_reference11 : Cert.quiescent_Reference11Ideal := fun m ρ _ =>
  (θ_run Cert.Reference11Ideal.defs _ _).mono
    (fun r h => ⟨fun c => (h c).2.2.2.2, Idealize.ShloMosaic.sem_eq_zero_of_no_sems (by decide) r.2⟩)
    (Cert.Reference11Ideal.Value.run (F := Ideal) m ρ)

theorem frame_reference11_finite11 : Cert.quiescent_Reference11Ideal_pre_finite11 := fun m ρ _ => frame_reference11 m ρ trivial

/-- The call of the outer product of a feed-forward layer with its layer norm at the machine's floats, over the extended reals, and its reference. -/
theorem frame_kernel12 : Cert.quiescent_Kernel12 := fun m ρ _ => Cert.Kernel12.Gen.frame m ρ

theorem frame_kernel12Ideal : Cert.quiescent_Kernel12Ideal := fun m ρ _ => Cert.Kernel12Ideal.Gen.frame m ρ

theorem frame_reference12 : Cert.quiescent_Reference12Ideal := fun m ρ _ =>
  (θ_run Cert.Reference12Ideal.defs _ _).mono
    (fun r h => ⟨fun c => (h c).2.2.2, Idealize.ShloMosaic.sem_eq_zero_of_no_sems (by decide) r.2⟩)
    (Cert.Reference12Ideal.Value.run (F := Ideal) m ρ)

/-- The call of the attention's output projection with its layer norm at the machine's floats, over the extended reals, and its reference. -/
theorem frame_kernel13 : Cert.quiescent_Kernel13 := fun m ρ _ => Cert.Kernel13.Gen.frame m ρ

theorem frame_kernel13Ideal : Cert.quiescent_Kernel13Ideal := fun m ρ _ => Cert.Kernel13Ideal.Gen.frame m ρ

theorem frame_reference13 : Cert.quiescent_Reference13Ideal := fun m ρ _ =>
  (θ_run Cert.Reference13Ideal.defs _ _).mono
    (fun r h => ⟨fun c => (h c).2.2.2, Idealize.ShloMosaic.sem_eq_zero_of_no_sems (by decide) r.2⟩)
    (Cert.Reference13Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts, Cert.Pre_finite5.Gen.facts, Cert.Pre_finite11.Gen.facts,
  frame_kernel, frame_kernelIdeal, frame_kernelIdeal_finite, frame_reference, frame_reference_finite,
  frame_kernel2, frame_kernel2Ideal, frame_reference2, frame_kernel3, frame_kernel3Ideal, frame_reference3,
  frame_kernel4, frame_kernel4Ideal, frame_reference4,
  frame_kernel5, frame_kernel5Ideal, frame_kernel5Ideal_finite5, frame_reference5, frame_reference5_finite5,
  frame_kernel6, frame_kernel6Ideal, frame_reference6,
  frame_kernel7, frame_kernel7Ideal, frame_reference7,
  frame_kernel8, frame_kernel8Ideal, frame_reference8,
  frame_kernel9, frame_kernel9Ideal, frame_reference9,
  frame_kernel10, frame_kernel10Ideal, frame_reference10,
  frame_kernel11, frame_kernel11Ideal, frame_kernel11Ideal_finite11, frame_reference11, frame_reference11_finite11,
  frame_kernel12, frame_kernel12Ideal, frame_reference12,
  frame_kernel13, frame_kernel13Ideal, frame_reference13,
  trivial, algebraic, trivial, algebraic2, trivial, algebraic3, trivial, algebraic4, trivial, algebraic5,
  trivial, algebraic6, trivial, algebraic7, trivial, algebraic8, trivial, algebraic9, trivial, algebraic10, trivial, algebraic11, trivial, algebraic12, trivial, algebraic13⟩

end Cert.Proof

end
